-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WInGrad (m : (ℓ : Loc Cert.WInGrad.nD Cert.WInGrad.τ Cert.WInGrad.sig) → Buf (Elt Bits) ℓ) : Prop :=
  True

def Pre_WInGradIdeal (m : (ℓ : Loc Cert.WInGradIdeal.nD Cert.WInGradIdeal.τ Cert.WInGradIdeal.sig) → Buf (Elt Ideal) ℓ) : Prop :=
  True

def Pre_WInGradReferenceIdeal (m : (ℓ : Loc Cert.WInGradReferenceIdeal.nD Cert.WInGradReferenceIdeal.τ Cert.WInGradReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_WOutGrad (m : (ℓ : Loc Cert.WOutGrad.nD Cert.WOutGrad.τ Cert.WOutGrad.sig) → Buf (Elt Bits) ℓ) : Prop :=
  True

def Pre_WOutGradIdeal (m : (ℓ : Loc Cert.WOutGradIdeal.nD Cert.WOutGradIdeal.τ Cert.WOutGradIdeal.sig) → Buf (Elt Ideal) ℓ) : Prop :=
  True

def Pre_WOutGradReferenceIdeal (m : (ℓ : Loc Cert.WOutGradReferenceIdeal.nD Cert.WOutGradReferenceIdeal.τ Cert.WOutGradReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesReferenceIdeal (m : (ℓ : Loc Cert.SumDevicesReferenceIdeal.nD Cert.SumDevicesReferenceIdeal.τ Cert.SumDevicesReferenceIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdReferenceIdeal (m : (ℓ : Loc Cert.AdaBwdReferenceIdeal.nD Cert.AdaBwdReferenceIdeal.τ Cert.AdaBwdReferenceIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdReferenceIdeal (m : (ℓ : Loc Cert.ConvBwdReferenceIdeal.nD Cert.ConvBwdReferenceIdeal.τ Cert.ConvBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_WInGrad [hWInGrad : Cert.WInGrad.Facts] : Prop :=
  ∀ (m : (ℓ : Loc Cert.WInGrad.nD Cert.WInGrad.τ Cert.WInGrad.sig) → Buf (Elt Bits) ℓ) (g : Dev Cert.WInGrad.nD → PrngReg), Pre_WInGrad m →
    θ_run (Cert.WInGrad.defs (F := Bits)) (onTc (τ := Cert.WInGrad.τ) (Cert.WInGrad.main (F := Bits))) ⟨m, fun _ => 0, g⟩ (fun r => (∀ c : Dev Cert.WInGrad.nD,
      r.2.mem ((c.tc : Thread Cert.WInGrad.nD Cert.WInGrad.τ).loc Cert.WInGrad.main_arg0) = m ((c.tc : Thread Cert.WInGrad.nD Cert.WInGrad.τ).loc Cert.WInGrad.main_arg0)
      ∧ r.2.mem ((c.tc : Thread Cert.WInGrad.nD Cert.WInGrad.τ).loc Cert.WInGrad.main_arg1) = m ((c.tc : Thread Cert.WInGrad.nD Cert.WInGrad.τ).loc Cert.WInGrad.main_arg1))
      ∧ r.2.sem = fun _ => 0)

def quiescent_WInGradIdeal [hWInGradIdeal : Cert.WInGradIdeal.Facts] : Prop :=
  ∀ (m : (ℓ : Loc Cert.WInGradIdeal.nD Cert.WInGradIdeal.τ Cert.WInGradIdeal.sig) → Buf (Elt Ideal) ℓ) (g : Dev Cert.WInGradIdeal.nD → PrngReg), Pre_WInGradIdeal m →
    θ_run (Cert.WInGradIdeal.defs (F := Ideal)) (onTc (τ := Cert.WInGradIdeal.τ) (Cert.WInGradIdeal.main (F := Ideal))) ⟨m, fun _ => 0, g⟩ (fun r => (∀ c : Dev Cert.WInGradIdeal.nD,
      r.2.mem ((c.tc : Thread Cert.WInGradIdeal.nD Cert.WInGradIdeal.τ).loc Cert.WInGradIdeal.main_arg0) = m ((c.tc : Thread Cert.WInGradIdeal.nD Cert.WInGradIdeal.τ).loc Cert.WInGradIdeal.main_arg0)
      ∧ r.2.mem ((c.tc : Thread Cert.WInGradIdeal.nD Cert.WInGradIdeal.τ).loc Cert.WInGradIdeal.main_arg1) = m ((c.tc : Thread Cert.WInGradIdeal.nD Cert.WInGradIdeal.τ).loc Cert.WInGradIdeal.main_arg1))
      ∧ r.2.sem = fun _ => 0)

def quiescent_WInGradReferenceIdeal [hWInGradReferenceIdeal : Cert.WInGradReferenceIdeal.Facts] : Prop :=
  ∀ (m : (ℓ : Loc Cert.WInGradReferenceIdeal.nD Cert.WInGradReferenceIdeal.τ Cert.WInGradReferenceIdeal.sig) → Buf (Elt Ideal) ℓ) (g : Dev Cert.WInGradReferenceIdeal.nD → PrngReg), Pre_WInGradReferenceIdeal m →
    θ_run (Cert.WInGradReferenceIdeal.defs (F := Ideal)) (onTc (τ := Cert.WInGradReferenceIdeal.τ) (Cert.WInGradReferenceIdeal.main (F := Ideal))) ⟨m, fun _ => 0, g⟩ (fun r => (∀ c : Dev Cert.WInGradReferenceIdeal.nD,
      r.2.mem ((c.tc : Thread Cert.WInGradReferenceIdeal.nD Cert.WInGradReferenceIdeal.τ).loc Cert.WInGradReferenceIdeal.main_arg0) = m ((c.tc : Thread Cert.WInGradReferenceIdeal.nD Cert.WInGradReferenceIdeal.τ).loc Cert.WInGradReferenceIdeal.main_arg0)
      ∧ r.2.mem ((c.tc : Thread Cert.WInGradReferenceIdeal.nD Cert.WInGradReferenceIdeal.τ).loc Cert.WInGradReferenceIdeal.main_arg1) = m ((c.tc : Thread Cert.WInGradReferenceIdeal.nD Cert.WInGradReferenceIdeal.τ).loc Cert.WInGradReferenceIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1))
      ∧ r.2.sem = fun _ => 0)

def quiescent_WOutGrad [hWOutGrad : Cert.WOutGrad.Facts] : Prop :=
  ∀ (m : (ℓ : Loc Cert.WOutGrad.nD Cert.WOutGrad.τ Cert.WOutGrad.sig) → Buf (Elt Bits) ℓ) (g : Dev Cert.WOutGrad.nD → PrngReg), Pre_WOutGrad m →
    θ_run (Cert.WOutGrad.defs (F := Bits)) (onTc (τ := Cert.WOutGrad.τ) (Cert.WOutGrad.main (F := Bits))) ⟨m, fun _ => 0, g⟩ (fun r => (∀ c : Dev Cert.WOutGrad.nD,
      r.2.mem ((c.tc : Thread Cert.WOutGrad.nD Cert.WOutGrad.τ).loc Cert.WOutGrad.main_arg0) = m ((c.tc : Thread Cert.WOutGrad.nD Cert.WOutGrad.τ).loc Cert.WOutGrad.main_arg0)
      ∧ r.2.mem ((c.tc : Thread Cert.WOutGrad.nD Cert.WOutGrad.τ).loc Cert.WOutGrad.main_arg1) = m ((c.tc : Thread Cert.WOutGrad.nD Cert.WOutGrad.τ).loc Cert.WOutGrad.main_arg1))
      ∧ r.2.sem = fun _ => 0)

def quiescent_WOutGradIdeal [hWOutGradIdeal : Cert.WOutGradIdeal.Facts] : Prop :=
  ∀ (m : (ℓ : Loc Cert.WOutGradIdeal.nD Cert.WOutGradIdeal.τ Cert.WOutGradIdeal.sig) → Buf (Elt Ideal) ℓ) (g : Dev Cert.WOutGradIdeal.nD → PrngReg), Pre_WOutGradIdeal m →
    θ_run (Cert.WOutGradIdeal.defs (F := Ideal)) (onTc (τ := Cert.WOutGradIdeal.τ) (Cert.WOutGradIdeal.main (F := Ideal))) ⟨m, fun _ => 0, g⟩ (fun r => (∀ c : Dev Cert.WOutGradIdeal.nD,
      r.2.mem ((c.tc : Thread Cert.WOutGradIdeal.nD Cert.WOutGradIdeal.τ).loc Cert.WOutGradIdeal.main_arg0) = m ((c.tc : Thread Cert.WOutGradIdeal.nD Cert.WOutGradIdeal.τ).loc Cert.WOutGradIdeal.main_arg0)
      ∧ r.2.mem ((c.tc : Thread Cert.WOutGradIdeal.nD Cert.WOutGradIdeal.τ).loc Cert.WOutGradIdeal.main_arg1) = m ((c.tc : Thread Cert.WOutGradIdeal.nD Cert.WOutGradIdeal.τ).loc Cert.WOutGradIdeal.main_arg1))
      ∧ r.2.sem = fun _ => 0)

def quiescent_WOutGradReferenceIdeal [hWOutGradReferenceIdeal : Cert.WOutGradReferenceIdeal.Facts] : Prop :=
  ∀ (m : (ℓ : Loc Cert.WOutGradReferenceIdeal.nD Cert.WOutGradReferenceIdeal.τ Cert.WOutGradReferenceIdeal.sig) → Buf (Elt Ideal) ℓ) (g : Dev Cert.WOutGradReferenceIdeal.nD → PrngReg), Pre_WOutGradReferenceIdeal m →
    θ_run (Cert.WOutGradReferenceIdeal.defs (F := Ideal)) (onTc (τ := Cert.WOutGradReferenceIdeal.τ) (Cert.WOutGradReferenceIdeal.main (F := Ideal))) ⟨m, fun _ => 0, g⟩ (fun r => (∀ c : Dev Cert.WOutGradReferenceIdeal.nD,
      r.2.mem ((c.tc : Thread Cert.WOutGradReferenceIdeal.nD Cert.WOutGradReferenceIdeal.τ).loc Cert.WOutGradReferenceIdeal.main_arg0) = m ((c.tc : Thread Cert.WOutGradReferenceIdeal.nD Cert.WOutGradReferenceIdeal.τ).loc Cert.WOutGradReferenceIdeal.main_arg0)
      ∧ r.2.mem ((c.tc : Thread Cert.WOutGradReferenceIdeal.nD Cert.WOutGradReferenceIdeal.τ).loc Cert.WOutGradReferenceIdeal.main_arg1) = m ((c.tc : Thread Cert.WOutGradReferenceIdeal.nD Cert.WOutGradReferenceIdeal.τ).loc Cert.WOutGradReferenceIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4)
      ∧ r.2.mem ((c.tc : Thread Cert.NormBwdReferenceIdeal.nD Cert.NormBwdReferenceIdeal.τ).loc Cert.NormBwdReferenceIdeal.main_arg5) = m ((c.tc : Thread Cert.NormBwdReferenceIdeal.nD Cert.NormBwdReferenceIdeal.τ).loc Cert.NormBwdReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesReferenceIdeal [hSumDevicesReferenceIdeal : Cert.SumDevicesReferenceIdeal.Facts] : Prop :=
  ∀ (m : (ℓ : Loc Cert.SumDevicesReferenceIdeal.nD Cert.SumDevicesReferenceIdeal.τ Cert.SumDevicesReferenceIdeal.sig) → Buf (Elt Ideal) ℓ) (g : Dev Cert.SumDevicesReferenceIdeal.nD → PrngReg), Pre_SumDevicesReferenceIdeal m →
    θ_run (Cert.SumDevicesReferenceIdeal.defs (F := Ideal)) (onTc (τ := Cert.SumDevicesReferenceIdeal.τ) (Cert.SumDevicesReferenceIdeal.main (F := Ideal))) ⟨m, fun _ => 0, g⟩ (fun r => (∀ c : Dev Cert.SumDevicesReferenceIdeal.nD,
      r.2.mem ((c.tc : Thread Cert.SumDevicesReferenceIdeal.nD Cert.SumDevicesReferenceIdeal.τ).loc Cert.SumDevicesReferenceIdeal.main_arg0) = m ((c.tc : Thread Cert.SumDevicesReferenceIdeal.nD Cert.SumDevicesReferenceIdeal.τ).loc Cert.SumDevicesReferenceIdeal.main_arg0))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdReferenceIdeal [hAdaBwdReferenceIdeal : Cert.AdaBwdReferenceIdeal.Facts] : Prop :=
  ∀ (m : (ℓ : Loc Cert.AdaBwdReferenceIdeal.nD Cert.AdaBwdReferenceIdeal.τ Cert.AdaBwdReferenceIdeal.sig) → Buf (Elt Ideal) ℓ) (g : Dev Cert.AdaBwdReferenceIdeal.nD → PrngReg), Pre_AdaBwdReferenceIdeal m →
    θ_run (Cert.AdaBwdReferenceIdeal.defs (F := Ideal)) (onTc (τ := Cert.AdaBwdReferenceIdeal.τ) (Cert.AdaBwdReferenceIdeal.main (F := Ideal))) ⟨m, fun _ => 0, g⟩ (fun r => (∀ c : Dev Cert.AdaBwdReferenceIdeal.nD,
      r.2.mem ((c.tc : Thread Cert.AdaBwdReferenceIdeal.nD Cert.AdaBwdReferenceIdeal.τ).loc Cert.AdaBwdReferenceIdeal.main_arg0) = m ((c.tc : Thread Cert.AdaBwdReferenceIdeal.nD Cert.AdaBwdReferenceIdeal.τ).loc Cert.AdaBwdReferenceIdeal.main_arg0)
      ∧ r.2.mem ((c.tc : Thread Cert.AdaBwdReferenceIdeal.nD Cert.AdaBwdReferenceIdeal.τ).loc Cert.AdaBwdReferenceIdeal.main_arg1) = m ((c.tc : Thread Cert.AdaBwdReferenceIdeal.nD Cert.AdaBwdReferenceIdeal.τ).loc Cert.AdaBwdReferenceIdeal.main_arg1)
      ∧ r.2.mem ((c.tc : Thread Cert.AdaBwdReferenceIdeal.nD Cert.AdaBwdReferenceIdeal.τ).loc Cert.AdaBwdReferenceIdeal.main_arg2) = m ((c.tc : Thread Cert.AdaBwdReferenceIdeal.nD Cert.AdaBwdReferenceIdeal.τ).loc Cert.AdaBwdReferenceIdeal.main_arg2)
      ∧ r.2.mem ((c.tc : Thread Cert.AdaBwdReferenceIdeal.nD Cert.AdaBwdReferenceIdeal.τ).loc Cert.AdaBwdReferenceIdeal.main_arg3) = m ((c.tc : Thread Cert.AdaBwdReferenceIdeal.nD Cert.AdaBwdReferenceIdeal.τ).loc Cert.AdaBwdReferenceIdeal.main_arg3)
      ∧ r.2.mem ((c.tc : Thread Cert.AdaBwdReferenceIdeal.nD Cert.AdaBwdReferenceIdeal.τ).loc Cert.AdaBwdReferenceIdeal.main_arg4) = m ((c.tc : Thread Cert.AdaBwdReferenceIdeal.nD Cert.AdaBwdReferenceIdeal.τ).loc Cert.AdaBwdReferenceIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdReferenceIdeal [hConvBwdReferenceIdeal : Cert.ConvBwdReferenceIdeal.Facts] : Prop :=
  ∀ (m : (ℓ : Loc Cert.ConvBwdReferenceIdeal.nD Cert.ConvBwdReferenceIdeal.τ Cert.ConvBwdReferenceIdeal.sig) → Buf (Elt Ideal) ℓ) (g : Dev Cert.ConvBwdReferenceIdeal.nD → PrngReg), Pre_ConvBwdReferenceIdeal m →
    θ_run (Cert.ConvBwdReferenceIdeal.defs (F := Ideal)) (onTc (τ := Cert.ConvBwdReferenceIdeal.τ) (Cert.ConvBwdReferenceIdeal.main (F := Ideal))) ⟨m, fun _ => 0, g⟩ (fun r => (∀ c : Dev Cert.ConvBwdReferenceIdeal.nD,
      r.2.mem ((c.tc : Thread Cert.ConvBwdReferenceIdeal.nD Cert.ConvBwdReferenceIdeal.τ).loc Cert.ConvBwdReferenceIdeal.main_arg0) = m ((c.tc : Thread Cert.ConvBwdReferenceIdeal.nD Cert.ConvBwdReferenceIdeal.τ).loc Cert.ConvBwdReferenceIdeal.main_arg0)
      ∧ r.2.mem ((c.tc : Thread Cert.ConvBwdReferenceIdeal.nD Cert.ConvBwdReferenceIdeal.τ).loc Cert.ConvBwdReferenceIdeal.main_arg1) = m ((c.tc : Thread Cert.ConvBwdReferenceIdeal.nD Cert.ConvBwdReferenceIdeal.τ).loc Cert.ConvBwdReferenceIdeal.main_arg1)
      ∧ r.2.mem ((c.tc : Thread Cert.ConvBwdReferenceIdeal.nD Cert.ConvBwdReferenceIdeal.τ).loc Cert.ConvBwdReferenceIdeal.main_arg2) = m ((c.tc : Thread Cert.ConvBwdReferenceIdeal.nD Cert.ConvBwdReferenceIdeal.τ).loc Cert.ConvBwdReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WInGrad_WInGradIdeal : Prop :=
  True

def algebraic_WInGradIdeal_WInGradReferenceIdeal [hWInGradIdeal : Cert.WInGradIdeal.Facts] [hWInGradReferenceIdeal : Cert.WInGradReferenceIdeal.Facts] : Prop :=
  ∀ (m : (ℓ : Loc Cert.WInGradIdeal.nD Cert.WInGradIdeal.τ Cert.WInGradIdeal.sig) → Buf (Elt Ideal) ℓ) (g : Dev Cert.WInGradIdeal.nD → PrngReg)
    (m' : (ℓ : Loc Cert.WInGradReferenceIdeal.nD Cert.WInGradReferenceIdeal.τ Cert.WInGradReferenceIdeal.sig) → Buf (Elt Ideal) ℓ) (g' : Dev Cert.WInGradReferenceIdeal.nD → PrngReg), Pre_WInGradIdeal m →
    (∀ c : Dev Cert.WInGradIdeal.nD,
      m' ((c.tc : Thread Cert.WInGradReferenceIdeal.nD Cert.WInGradReferenceIdeal.τ).loc Cert.WInGradReferenceIdeal.main_arg0) = m ((c.tc : Thread Cert.WInGradIdeal.nD Cert.WInGradIdeal.τ).loc Cert.WInGradIdeal.main_arg0)
      ∧ m' ((c.tc : Thread Cert.WInGradReferenceIdeal.nD Cert.WInGradReferenceIdeal.τ).loc Cert.WInGradReferenceIdeal.main_arg1) = m ((c.tc : Thread Cert.WInGradIdeal.nD Cert.WInGradIdeal.τ).loc Cert.WInGradIdeal.main_arg1)) →
    ∃ (v0 : (c : Dev Cert.WInGradIdeal.nD) → Buf (Elt Ideal) ((c.tc : Thread Cert.WInGradIdeal.nD Cert.WInGradIdeal.τ).loc Cert.WInGradIdeal.main_v0)),
      θ_run (Cert.WInGradIdeal.defs (F := Ideal)) (onTc (τ := Cert.WInGradIdeal.τ) (Cert.WInGradIdeal.main (F := Ideal))) ⟨m, fun _ => 0, g⟩ (fun r => ∀ c : Dev Cert.WInGradIdeal.nD,
          r.2.mem ((c.tc : Thread Cert.WInGradIdeal.nD Cert.WInGradIdeal.τ).loc Cert.WInGradIdeal.main_v0) = v0 c
          ∧ r.2.mem ((c.tc : Thread Cert.WInGradIdeal.nD Cert.WInGradIdeal.τ).loc Cert.WInGradIdeal.main_arg0) = m ((c.tc : Thread Cert.WInGradIdeal.nD Cert.WInGradIdeal.τ).loc Cert.WInGradIdeal.main_arg0)
          ∧ r.2.mem ((c.tc : Thread Cert.WInGradIdeal.nD Cert.WInGradIdeal.τ).loc Cert.WInGradIdeal.main_arg1) = m ((c.tc : Thread Cert.WInGradIdeal.nD Cert.WInGradIdeal.τ).loc Cert.WInGradIdeal.main_arg1))
      ∧ θ_run (Cert.WInGradReferenceIdeal.defs (F := Ideal)) (onTc (τ := Cert.WInGradReferenceIdeal.τ) (Cert.WInGradReferenceIdeal.main (F := Ideal))) ⟨m', fun _ => 0, g'⟩ (fun r => ∀ c : Dev Cert.WInGradReferenceIdeal.nD,
          r.2.mem ((c.tc : Thread Cert.WInGradReferenceIdeal.nD Cert.WInGradReferenceIdeal.τ).loc Cert.WInGradReferenceIdeal.main_v4) = v0 c
          ∧ r.2.mem ((c.tc : Thread Cert.WInGradReferenceIdeal.nD Cert.WInGradReferenceIdeal.τ).loc Cert.WInGradReferenceIdeal.main_arg0) = m' ((c.tc : Thread Cert.WInGradReferenceIdeal.nD Cert.WInGradReferenceIdeal.τ).loc Cert.WInGradReferenceIdeal.main_arg0)
          ∧ r.2.mem ((c.tc : Thread Cert.WInGradReferenceIdeal.nD Cert.WInGradReferenceIdeal.τ).loc Cert.WInGradReferenceIdeal.main_arg1) = m' ((c.tc : Thread Cert.WInGradReferenceIdeal.nD Cert.WInGradReferenceIdeal.τ).loc Cert.WInGradReferenceIdeal.main_arg1))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v0)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v2) = v0 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1))

def preserves_WOutGrad_WOutGradIdeal : Prop :=
  True

def algebraic_WOutGradIdeal_WOutGradReferenceIdeal [hWOutGradIdeal : Cert.WOutGradIdeal.Facts] [hWOutGradReferenceIdeal : Cert.WOutGradReferenceIdeal.Facts] : Prop :=
  ∀ (m : (ℓ : Loc Cert.WOutGradIdeal.nD Cert.WOutGradIdeal.τ Cert.WOutGradIdeal.sig) → Buf (Elt Ideal) ℓ) (g : Dev Cert.WOutGradIdeal.nD → PrngReg)
    (m' : (ℓ : Loc Cert.WOutGradReferenceIdeal.nD Cert.WOutGradReferenceIdeal.τ Cert.WOutGradReferenceIdeal.sig) → Buf (Elt Ideal) ℓ) (g' : Dev Cert.WOutGradReferenceIdeal.nD → PrngReg), Pre_WOutGradIdeal m →
    (∀ c : Dev Cert.WOutGradIdeal.nD,
      m' ((c.tc : Thread Cert.WOutGradReferenceIdeal.nD Cert.WOutGradReferenceIdeal.τ).loc Cert.WOutGradReferenceIdeal.main_arg0) = m ((c.tc : Thread Cert.WOutGradIdeal.nD Cert.WOutGradIdeal.τ).loc Cert.WOutGradIdeal.main_arg0)
      ∧ m' ((c.tc : Thread Cert.WOutGradReferenceIdeal.nD Cert.WOutGradReferenceIdeal.τ).loc Cert.WOutGradReferenceIdeal.main_arg1) = m ((c.tc : Thread Cert.WOutGradIdeal.nD Cert.WOutGradIdeal.τ).loc Cert.WOutGradIdeal.main_arg1)) →
    ∃ (v0 : (c : Dev Cert.WOutGradIdeal.nD) → Buf (Elt Ideal) ((c.tc : Thread Cert.WOutGradIdeal.nD Cert.WOutGradIdeal.τ).loc Cert.WOutGradIdeal.main_v0)),
      θ_run (Cert.WOutGradIdeal.defs (F := Ideal)) (onTc (τ := Cert.WOutGradIdeal.τ) (Cert.WOutGradIdeal.main (F := Ideal))) ⟨m, fun _ => 0, g⟩ (fun r => ∀ c : Dev Cert.WOutGradIdeal.nD,
          r.2.mem ((c.tc : Thread Cert.WOutGradIdeal.nD Cert.WOutGradIdeal.τ).loc Cert.WOutGradIdeal.main_v0) = v0 c
          ∧ r.2.mem ((c.tc : Thread Cert.WOutGradIdeal.nD Cert.WOutGradIdeal.τ).loc Cert.WOutGradIdeal.main_arg0) = m ((c.tc : Thread Cert.WOutGradIdeal.nD Cert.WOutGradIdeal.τ).loc Cert.WOutGradIdeal.main_arg0)
          ∧ r.2.mem ((c.tc : Thread Cert.WOutGradIdeal.nD Cert.WOutGradIdeal.τ).loc Cert.WOutGradIdeal.main_arg1) = m ((c.tc : Thread Cert.WOutGradIdeal.nD Cert.WOutGradIdeal.τ).loc Cert.WOutGradIdeal.main_arg1))
      ∧ θ_run (Cert.WOutGradReferenceIdeal.defs (F := Ideal)) (onTc (τ := Cert.WOutGradReferenceIdeal.τ) (Cert.WOutGradReferenceIdeal.main (F := Ideal))) ⟨m', fun _ => 0, g'⟩ (fun r => ∀ c : Dev Cert.WOutGradReferenceIdeal.nD,
          r.2.mem ((c.tc : Thread Cert.WOutGradReferenceIdeal.nD Cert.WOutGradReferenceIdeal.τ).loc Cert.WOutGradReferenceIdeal.main_v4) = v0 c
          ∧ r.2.mem ((c.tc : Thread Cert.WOutGradReferenceIdeal.nD Cert.WOutGradReferenceIdeal.τ).loc Cert.WOutGradReferenceIdeal.main_arg0) = m' ((c.tc : Thread Cert.WOutGradReferenceIdeal.nD Cert.WOutGradReferenceIdeal.τ).loc Cert.WOutGradReferenceIdeal.main_arg0)
          ∧ r.2.mem ((c.tc : Thread Cert.WOutGradReferenceIdeal.nD Cert.WOutGradReferenceIdeal.τ).loc Cert.WOutGradReferenceIdeal.main_arg1) = m' ((c.tc : Thread Cert.WOutGradReferenceIdeal.nD Cert.WOutGradReferenceIdeal.τ).loc Cert.WOutGradReferenceIdeal.main_arg1))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)) (v2 : (c : Dev Cert.OutBwdIdeal.nD) → Buf (Elt Ideal) ((c.tc : Thread Cert.OutBwdIdeal.nD Cert.OutBwdIdeal.τ).loc Cert.OutBwdIdeal.main_v0_2)) (v3 : (c : Dev Cert.OutBwdIdeal.nD) → Buf (Elt Ideal) ((c.tc : Thread Cert.OutBwdIdeal.nD Cert.OutBwdIdeal.τ).loc Cert.OutBwdIdeal.main_v0_3)) (v4 : (c : Dev Cert.OutBwdIdeal.nD) → Buf (Elt Ideal) ((c.tc : Thread Cert.OutBwdIdeal.nD Cert.OutBwdIdeal.τ).loc Cert.OutBwdIdeal.main_v0_4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_v0_2) = v2 c
          ∧ r.2.mem ((c.tc : Thread Cert.OutBwdIdeal.nD Cert.OutBwdIdeal.τ).loc Cert.OutBwdIdeal.main_v0_3) = v3 c
          ∧ r.2.mem ((c.tc : Thread Cert.OutBwdIdeal.nD Cert.OutBwdIdeal.τ).loc Cert.OutBwdIdeal.main_v0_4) = v4 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v9) = v0 c
          ∧ r.2.mem ((c.tc : Thread Cert.OutBwdReferenceIdeal.nD Cert.OutBwdReferenceIdeal.τ).loc Cert.OutBwdReferenceIdeal.main_v10) = v1 c
          ∧ r.2.mem ((c.tc : Thread Cert.OutBwdReferenceIdeal.nD Cert.OutBwdReferenceIdeal.τ).loc Cert.OutBwdReferenceIdeal.main_v11) = v2 c
          ∧ r.2.mem ((c.tc : Thread Cert.OutBwdReferenceIdeal.nD Cert.OutBwdReferenceIdeal.τ).loc Cert.OutBwdReferenceIdeal.main_v12) = v3 c
          ∧ r.2.mem ((c.tc : Thread Cert.OutBwdReferenceIdeal.nD Cert.OutBwdReferenceIdeal.τ).loc Cert.OutBwdReferenceIdeal.main_v7) = v4 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)
      ∧ m' ((c.tc : Thread Cert.NormBwdReferenceIdeal.nD Cert.NormBwdReferenceIdeal.τ).loc Cert.NormBwdReferenceIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)) (v3 : (c : Dev Cert.NormBwdIdeal.nD) → Buf (Elt Ideal) ((c.tc : Thread Cert.NormBwdIdeal.nD Cert.NormBwdIdeal.τ).loc Cert.NormBwdIdeal.main_v1_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_v1_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v50) = v0 c
          ∧ r.2.mem ((c.tc : Thread Cert.NormBwdReferenceIdeal.nD Cert.NormBwdReferenceIdeal.τ).loc Cert.NormBwdReferenceIdeal.main_v51) = v1 c
          ∧ r.2.mem ((c.tc : Thread Cert.NormBwdReferenceIdeal.nD Cert.NormBwdReferenceIdeal.τ).loc Cert.NormBwdReferenceIdeal.main_v27) = v2 c
          ∧ r.2.mem ((c.tc : Thread Cert.NormBwdReferenceIdeal.nD Cert.NormBwdReferenceIdeal.τ).loc Cert.NormBwdReferenceIdeal.main_v24) = v3 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4)
          ∧ r.2.mem ((c.tc : Thread Cert.NormBwdReferenceIdeal.nD Cert.NormBwdReferenceIdeal.τ).loc Cert.NormBwdReferenceIdeal.main_arg5) = m' ((c.tc : Thread Cert.NormBwdReferenceIdeal.nD Cert.NormBwdReferenceIdeal.τ).loc Cert.NormBwdReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v20) = v0 c
          ∧ r.2.mem ((c.tc : Thread Cert.InProjReferenceIdeal.nD Cert.InProjReferenceIdeal.τ).loc Cert.InProjReferenceIdeal.main_v22) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_v2) = v1 c
          ∧ r.2.mem ((c.tc : Thread Cert.OutProjReferenceIdeal.nD Cert.OutProjReferenceIdeal.τ).loc Cert.OutProjReferenceIdeal.main_v7) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v51) = v0 c
          ∧ r.2.mem ((c.tc : Thread Cert.LossHeadReferenceIdeal.nD Cert.LossHeadReferenceIdeal.τ).loc Cert.LossHeadReferenceIdeal.main_v50) = v1 c
          ∧ r.2.mem ((c.tc : Thread Cert.LossHeadReferenceIdeal.nD Cert.LossHeadReferenceIdeal.τ).loc Cert.LossHeadReferenceIdeal.main_v52) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v6) = v0 c
          ∧ r.2.mem ((c.tc : Thread Cert.AdamOutReferenceIdeal.nD Cert.AdamOutReferenceIdeal.τ).loc Cert.AdamOutReferenceIdeal.main_v30) = v1 c
          ∧ r.2.mem ((c.tc : Thread Cert.AdamOutReferenceIdeal.nD Cert.AdamOutReferenceIdeal.τ).loc Cert.AdamOutReferenceIdeal.main_v11) = v2 c
          ∧ r.2.mem ((c.tc : Thread Cert.AdamOutReferenceIdeal.nD Cert.AdamOutReferenceIdeal.τ).loc Cert.AdamOutReferenceIdeal.main_v17) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5))

def preserves_SumDevices_SumDevicesIdeal : Prop :=
  True

def algebraic_SumDevicesIdeal_SumDevicesReferenceIdeal [hSumDevicesIdeal : Cert.SumDevicesIdeal.Facts] [hSumDevicesReferenceIdeal : Cert.SumDevicesReferenceIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesReferenceIdeal.nD Cert.SumDevicesReferenceIdeal.τ Cert.SumDevicesReferenceIdeal.sig) → Buf (Elt Ideal) ℓ) (g' : Dev Cert.SumDevicesReferenceIdeal.nD → PrngReg), Pre_SumDevicesIdeal m →
    (∀ c : Dev Cert.SumDevicesIdeal.nD,
      m' ((c.tc : Thread Cert.SumDevicesReferenceIdeal.nD Cert.SumDevicesReferenceIdeal.τ).loc Cert.SumDevicesReferenceIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesReferenceIdeal.defs (F := Ideal)) (onTc (τ := Cert.SumDevicesReferenceIdeal.τ) (Cert.SumDevicesReferenceIdeal.main (F := Ideal))) ⟨m', fun _ => 0, g'⟩ (fun r => ∀ c : Dev Cert.SumDevicesReferenceIdeal.nD,
          r.2.mem ((c.tc : Thread Cert.SumDevicesReferenceIdeal.nD Cert.SumDevicesReferenceIdeal.τ).loc Cert.SumDevicesReferenceIdeal.main_v0) = v0 c
          ∧ r.2.mem ((c.tc : Thread Cert.SumDevicesReferenceIdeal.nD Cert.SumDevicesReferenceIdeal.τ).loc Cert.SumDevicesReferenceIdeal.main_arg0) = m' ((c.tc : Thread Cert.SumDevicesReferenceIdeal.nD Cert.SumDevicesReferenceIdeal.τ).loc Cert.SumDevicesReferenceIdeal.main_arg0))

def preserves_AdaBwd_AdaBwdIdeal : Prop :=
  True

def algebraic_AdaBwdIdeal_AdaBwdReferenceIdeal [hAdaBwdIdeal : Cert.AdaBwdIdeal.Facts] [hAdaBwdReferenceIdeal : Cert.AdaBwdReferenceIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdReferenceIdeal.nD Cert.AdaBwdReferenceIdeal.τ Cert.AdaBwdReferenceIdeal.sig) → Buf (Elt Ideal) ℓ) (g' : Dev Cert.AdaBwdReferenceIdeal.nD → PrngReg), Pre_AdaBwdIdeal m →
    (∀ c : Dev Cert.AdaBwdIdeal.nD,
      m ((c.tc : Thread Cert.AdaBwdIdeal.nD Cert.AdaBwdIdeal.τ).loc Cert.AdaBwdIdeal.main_arg0) = m' (((0 : Dev Cert.AdaBwdReferenceIdeal.nD).tc : Thread Cert.AdaBwdReferenceIdeal.nD Cert.AdaBwdReferenceIdeal.τ).loc Cert.AdaBwdReferenceIdeal.main_arg0)
      ∧ m ((c.tc : Thread Cert.AdaBwdIdeal.nD Cert.AdaBwdIdeal.τ).loc Cert.AdaBwdIdeal.main_arg1) = Layout.blockN ⟨3, ![4, 8, 1536]⟩ ⟨3, ![4, 8, 6144]⟩ (Layout.meshBlock [2, 2, 2] ![[], [], [0, 1]] c) (m' (((0 : Dev Cert.AdaBwdReferenceIdeal.nD).tc : Thread Cert.AdaBwdReferenceIdeal.nD Cert.AdaBwdReferenceIdeal.τ).loc Cert.AdaBwdReferenceIdeal.main_arg1))
      ∧ m ((c.tc : Thread Cert.AdaBwdIdeal.nD Cert.AdaBwdIdeal.τ).loc Cert.AdaBwdIdeal.main_arg2) = Layout.blockN ⟨3, ![4, 2048, 1536]⟩ ⟨3, ![4, 2048, 6144]⟩ (Layout.meshBlock [2, 2, 2] ![[], [], [0, 1]] c) (m' (((0 : Dev Cert.AdaBwdReferenceIdeal.nD).tc : Thread Cert.AdaBwdReferenceIdeal.nD Cert.AdaBwdReferenceIdeal.τ).loc Cert.AdaBwdReferenceIdeal.main_arg2))
      ∧ m ((c.tc : Thread Cert.AdaBwdIdeal.nD Cert.AdaBwdIdeal.τ).loc Cert.AdaBwdIdeal.main_arg3) = Layout.blockN ⟨3, ![4, 2048, 1536]⟩ ⟨3, ![4, 2048, 6144]⟩ (Layout.meshBlock [2, 2, 2] ![[], [], [0, 1]] c) (m' (((0 : Dev Cert.AdaBwdReferenceIdeal.nD).tc : Thread Cert.AdaBwdReferenceIdeal.nD Cert.AdaBwdReferenceIdeal.τ).loc Cert.AdaBwdReferenceIdeal.main_arg3))
      ∧ m ((c.tc : Thread Cert.AdaBwdIdeal.nD Cert.AdaBwdIdeal.τ).loc Cert.AdaBwdIdeal.main_arg4) = Layout.blockN ⟨3, ![4, 2048, 1536]⟩ ⟨3, ![4, 2048, 6144]⟩ (Layout.meshBlock [2, 2, 2] ![[], [], [0, 1]] c) (m' (((0 : Dev Cert.AdaBwdReferenceIdeal.nD).tc : Thread Cert.AdaBwdReferenceIdeal.nD Cert.AdaBwdReferenceIdeal.τ).loc Cert.AdaBwdReferenceIdeal.main_arg4))) →
    ∃ (v0 : Buf (Elt Ideal) (((0 : Dev Cert.AdaBwdReferenceIdeal.nD).tc : Thread Cert.AdaBwdReferenceIdeal.nD Cert.AdaBwdReferenceIdeal.τ).loc Cert.AdaBwdReferenceIdeal.main_v6)) (v1 : Buf (Elt Ideal) (((0 : Dev Cert.AdaBwdReferenceIdeal.nD).tc : Thread Cert.AdaBwdReferenceIdeal.nD Cert.AdaBwdReferenceIdeal.τ).loc Cert.AdaBwdReferenceIdeal.main_v30)) (v2 : Buf (Elt Ideal) (((0 : Dev Cert.AdaBwdReferenceIdeal.nD).tc : Thread Cert.AdaBwdReferenceIdeal.nD Cert.AdaBwdReferenceIdeal.τ).loc Cert.AdaBwdReferenceIdeal.main_v11)) (v3 : Buf (Elt Ideal) (((0 : Dev Cert.AdaBwdReferenceIdeal.nD).tc : Thread Cert.AdaBwdReferenceIdeal.nD Cert.AdaBwdReferenceIdeal.τ).loc Cert.AdaBwdReferenceIdeal.main_v17)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v1_0) = Layout.blockN ⟨3, ![4, 2048, 1536]⟩ ⟨3, ![4, 2048, 6144]⟩ (Layout.meshBlock [2, 2, 2] ![[], [], [0, 1]] c) v0
          ∧ r.2.mem ((c.tc : Thread Cert.AdaBwdIdeal.nD Cert.AdaBwdIdeal.τ).loc Cert.AdaBwdIdeal.main_v1_1) = Layout.blockN ⟨3, ![4, 2048, 1536]⟩ ⟨3, ![4, 2048, 6144]⟩ (Layout.meshBlock [2, 2, 2] ![[], [], [0, 1]] c) v1
          ∧ r.2.mem ((c.tc : Thread Cert.AdaBwdIdeal.nD Cert.AdaBwdIdeal.τ).loc Cert.AdaBwdIdeal.main_v1_2) = Layout.blockN ⟨3, ![4, 2048, 1536]⟩ ⟨3, ![4, 2048, 6144]⟩ (Layout.meshBlock [2, 2, 2] ![[], [], [0, 1]] c) v2
          ∧ r.2.mem ((c.tc : Thread Cert.AdaBwdIdeal.nD Cert.AdaBwdIdeal.τ).loc Cert.AdaBwdIdeal.main_v1_3) = Layout.blockN ⟨3, ![4, 2048, 1536]⟩ ⟨3, ![4, 2048, 6144]⟩ (Layout.meshBlock [2, 2, 2] ![[], [], [0, 1]] c) v3
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdReferenceIdeal.defs (F := Ideal)) (onTc (τ := Cert.AdaBwdReferenceIdeal.τ) (Cert.AdaBwdReferenceIdeal.main (F := Ideal))) ⟨m', fun _ => 0, g'⟩ (fun r =>
          r.2.mem (((0 : Dev Cert.AdaBwdReferenceIdeal.nD).tc : Thread Cert.AdaBwdReferenceIdeal.nD Cert.AdaBwdReferenceIdeal.τ).loc Cert.AdaBwdReferenceIdeal.main_v6) = v0
          ∧ r.2.mem (((0 : Dev Cert.AdaBwdReferenceIdeal.nD).tc : Thread Cert.AdaBwdReferenceIdeal.nD Cert.AdaBwdReferenceIdeal.τ).loc Cert.AdaBwdReferenceIdeal.main_v30) = v1
          ∧ r.2.mem (((0 : Dev Cert.AdaBwdReferenceIdeal.nD).tc : Thread Cert.AdaBwdReferenceIdeal.nD Cert.AdaBwdReferenceIdeal.τ).loc Cert.AdaBwdReferenceIdeal.main_v11) = v2
          ∧ r.2.mem (((0 : Dev Cert.AdaBwdReferenceIdeal.nD).tc : Thread Cert.AdaBwdReferenceIdeal.nD Cert.AdaBwdReferenceIdeal.τ).loc Cert.AdaBwdReferenceIdeal.main_v17) = v3
          ∧ r.2.mem (((0 : Dev Cert.AdaBwdReferenceIdeal.nD).tc : Thread Cert.AdaBwdReferenceIdeal.nD Cert.AdaBwdReferenceIdeal.τ).loc Cert.AdaBwdReferenceIdeal.main_arg0) = m' (((0 : Dev Cert.AdaBwdReferenceIdeal.nD).tc : Thread Cert.AdaBwdReferenceIdeal.nD Cert.AdaBwdReferenceIdeal.τ).loc Cert.AdaBwdReferenceIdeal.main_arg0)
          ∧ r.2.mem (((0 : Dev Cert.AdaBwdReferenceIdeal.nD).tc : Thread Cert.AdaBwdReferenceIdeal.nD Cert.AdaBwdReferenceIdeal.τ).loc Cert.AdaBwdReferenceIdeal.main_arg1) = m' (((0 : Dev Cert.AdaBwdReferenceIdeal.nD).tc : Thread Cert.AdaBwdReferenceIdeal.nD Cert.AdaBwdReferenceIdeal.τ).loc Cert.AdaBwdReferenceIdeal.main_arg1)
          ∧ r.2.mem (((0 : Dev Cert.AdaBwdReferenceIdeal.nD).tc : Thread Cert.AdaBwdReferenceIdeal.nD Cert.AdaBwdReferenceIdeal.τ).loc Cert.AdaBwdReferenceIdeal.main_arg2) = m' (((0 : Dev Cert.AdaBwdReferenceIdeal.nD).tc : Thread Cert.AdaBwdReferenceIdeal.nD Cert.AdaBwdReferenceIdeal.τ).loc Cert.AdaBwdReferenceIdeal.main_arg2)
          ∧ r.2.mem (((0 : Dev Cert.AdaBwdReferenceIdeal.nD).tc : Thread Cert.AdaBwdReferenceIdeal.nD Cert.AdaBwdReferenceIdeal.τ).loc Cert.AdaBwdReferenceIdeal.main_arg3) = m' (((0 : Dev Cert.AdaBwdReferenceIdeal.nD).tc : Thread Cert.AdaBwdReferenceIdeal.nD Cert.AdaBwdReferenceIdeal.τ).loc Cert.AdaBwdReferenceIdeal.main_arg3)
          ∧ r.2.mem (((0 : Dev Cert.AdaBwdReferenceIdeal.nD).tc : Thread Cert.AdaBwdReferenceIdeal.nD Cert.AdaBwdReferenceIdeal.τ).loc Cert.AdaBwdReferenceIdeal.main_arg4) = m' (((0 : Dev Cert.AdaBwdReferenceIdeal.nD).tc : Thread Cert.AdaBwdReferenceIdeal.nD Cert.AdaBwdReferenceIdeal.τ).loc Cert.AdaBwdReferenceIdeal.main_arg4))

def preserves_ConvBwd_ConvBwdIdeal : Prop :=
  True

def algebraic_ConvBwdIdeal_ConvBwdReferenceIdeal [hConvBwdIdeal : Cert.ConvBwdIdeal.Facts] [hConvBwdReferenceIdeal : Cert.ConvBwdReferenceIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdReferenceIdeal.nD Cert.ConvBwdReferenceIdeal.τ Cert.ConvBwdReferenceIdeal.sig) → Buf (Elt Ideal) ℓ) (g' : Dev Cert.ConvBwdReferenceIdeal.nD → PrngReg), Pre_ConvBwdIdeal m →
    (∀ c : Dev Cert.ConvBwdIdeal.nD,
      m' ((c.tc : Thread Cert.ConvBwdReferenceIdeal.nD Cert.ConvBwdReferenceIdeal.τ).loc Cert.ConvBwdReferenceIdeal.main_arg0) = m ((c.tc : Thread Cert.ConvBwdIdeal.nD Cert.ConvBwdIdeal.τ).loc Cert.ConvBwdIdeal.main_arg0)
      ∧ m' ((c.tc : Thread Cert.ConvBwdReferenceIdeal.nD Cert.ConvBwdReferenceIdeal.τ).loc Cert.ConvBwdReferenceIdeal.main_arg1) = m ((c.tc : Thread Cert.ConvBwdIdeal.nD Cert.ConvBwdIdeal.τ).loc Cert.ConvBwdIdeal.main_arg1)
      ∧ m' ((c.tc : Thread Cert.ConvBwdReferenceIdeal.nD Cert.ConvBwdReferenceIdeal.τ).loc Cert.ConvBwdReferenceIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdReferenceIdeal.defs (F := Ideal)) (onTc (τ := Cert.ConvBwdReferenceIdeal.τ) (Cert.ConvBwdReferenceIdeal.main (F := Ideal))) ⟨m', fun _ => 0, g'⟩ (fun r => ∀ c : Dev Cert.ConvBwdReferenceIdeal.nD,
          r.2.mem ((c.tc : Thread Cert.ConvBwdReferenceIdeal.nD Cert.ConvBwdReferenceIdeal.τ).loc Cert.ConvBwdReferenceIdeal.main_v153) = v0 c
          ∧ r.2.mem ((c.tc : Thread Cert.ConvBwdReferenceIdeal.nD Cert.ConvBwdReferenceIdeal.τ).loc Cert.ConvBwdReferenceIdeal.main_v148) = v1 c
          ∧ r.2.mem ((c.tc : Thread Cert.ConvBwdReferenceIdeal.nD Cert.ConvBwdReferenceIdeal.τ).loc Cert.ConvBwdReferenceIdeal.main_arg0) = m' ((c.tc : Thread Cert.ConvBwdReferenceIdeal.nD Cert.ConvBwdReferenceIdeal.τ).loc Cert.ConvBwdReferenceIdeal.main_arg0)
          ∧ r.2.mem ((c.tc : Thread Cert.ConvBwdReferenceIdeal.nD Cert.ConvBwdReferenceIdeal.τ).loc Cert.ConvBwdReferenceIdeal.main_arg1) = m' ((c.tc : Thread Cert.ConvBwdReferenceIdeal.nD Cert.ConvBwdReferenceIdeal.τ).loc Cert.ConvBwdReferenceIdeal.main_arg1)
          ∧ r.2.mem ((c.tc : Thread Cert.ConvBwdReferenceIdeal.nD Cert.ConvBwdReferenceIdeal.τ).loc Cert.ConvBwdReferenceIdeal.main_arg2) = m' ((c.tc : Thread Cert.ConvBwdReferenceIdeal.nD Cert.ConvBwdReferenceIdeal.τ).loc Cert.ConvBwdReferenceIdeal.main_arg2))

def Claim : Prop :=
  ∃ (hKernel : Cert.Kernel.Facts) (hKernelIdeal : Cert.KernelIdeal.Facts) (hReferenceIdeal : Cert.ReferenceIdeal.Facts) (hWInGrad : Cert.WInGrad.Facts) (hWInGradIdeal : Cert.WInGradIdeal.Facts) (hWInGradReferenceIdeal : Cert.WInGradReferenceIdeal.Facts) (hInBwd : Cert.InBwd.Facts) (hInBwdIdeal : Cert.InBwdIdeal.Facts) (hInBwdReferenceIdeal : Cert.InBwdReferenceIdeal.Facts) (hWOutGrad : Cert.WOutGrad.Facts) (hWOutGradIdeal : Cert.WOutGradIdeal.Facts) (hWOutGradReferenceIdeal : Cert.WOutGradReferenceIdeal.Facts) (hOutBwd : Cert.OutBwd.Facts) (hOutBwdIdeal : Cert.OutBwdIdeal.Facts) (hOutBwdReferenceIdeal : Cert.OutBwdReferenceIdeal.Facts) (hNormBwd : Cert.NormBwd.Facts) (hNormBwdIdeal : Cert.NormBwdIdeal.Facts) (hNormBwdReferenceIdeal : Cert.NormBwdReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hLossHead : Cert.LossHead.Facts) (hLossHeadIdeal : Cert.LossHeadIdeal.Facts) (hLossHeadReferenceIdeal : Cert.LossHeadReferenceIdeal.Facts) (hAdamSmall : Cert.AdamSmall.Facts) (hAdamSmallIdeal : Cert.AdamSmallIdeal.Facts) (hAdamSmallReferenceIdeal : Cert.AdamSmallReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hSumDevices : Cert.SumDevices.Facts) (hSumDevicesIdeal : Cert.SumDevicesIdeal.Facts) (hSumDevicesReferenceIdeal : Cert.SumDevicesReferenceIdeal.Facts) (hAdaBwd : Cert.AdaBwd.Facts) (hAdaBwdIdeal : Cert.AdaBwdIdeal.Facts) (hAdaBwdReferenceIdeal : Cert.AdaBwdReferenceIdeal.Facts) (hConvBwd : Cert.ConvBwd.Facts) (hConvBwdIdeal : Cert.ConvBwdIdeal.Facts) (hConvBwdReferenceIdeal : Cert.ConvBwdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_WInGrad (hWInGrad := hWInGrad)
    ∧ quiescent_WInGradIdeal (hWInGradIdeal := hWInGradIdeal)
    ∧ quiescent_WInGradReferenceIdeal (hWInGradReferenceIdeal := hWInGradReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_WOutGrad (hWOutGrad := hWOutGrad)
    ∧ quiescent_WOutGradIdeal (hWOutGradIdeal := hWOutGradIdeal)
    ∧ quiescent_WOutGradReferenceIdeal (hWOutGradReferenceIdeal := hWOutGradReferenceIdeal)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_SumDevices (hSumDevices := hSumDevices)
    ∧ quiescent_SumDevicesIdeal (hSumDevicesIdeal := hSumDevicesIdeal)
    ∧ quiescent_SumDevicesReferenceIdeal (hSumDevicesReferenceIdeal := hSumDevicesReferenceIdeal)
    ∧ quiescent_AdaBwd (hAdaBwd := hAdaBwd)
    ∧ quiescent_AdaBwdIdeal (hAdaBwdIdeal := hAdaBwdIdeal)
    ∧ quiescent_AdaBwdReferenceIdeal (hAdaBwdReferenceIdeal := hAdaBwdReferenceIdeal)
    ∧ quiescent_ConvBwd (hConvBwd := hConvBwd)
    ∧ quiescent_ConvBwdIdeal (hConvBwdIdeal := hConvBwdIdeal)
    ∧ quiescent_ConvBwdReferenceIdeal (hConvBwdReferenceIdeal := hConvBwdReferenceIdeal)
    ∧ preserves_Kernel_KernelIdeal
    ∧ algebraic_KernelIdeal_ReferenceIdeal (hKernelIdeal := hKernelIdeal) (hReferenceIdeal := hReferenceIdeal)
    ∧ preserves_WInGrad_WInGradIdeal
    ∧ algebraic_WInGradIdeal_WInGradReferenceIdeal (hWInGradIdeal := hWInGradIdeal) (hWInGradReferenceIdeal := hWInGradReferenceIdeal)
    ∧ preserves_InBwd_InBwdIdeal
    ∧ algebraic_InBwdIdeal_InBwdReferenceIdeal (hInBwdIdeal := hInBwdIdeal) (hInBwdReferenceIdeal := hInBwdReferenceIdeal)
    ∧ preserves_WOutGrad_WOutGradIdeal
    ∧ algebraic_WOutGradIdeal_WOutGradReferenceIdeal (hWOutGradIdeal := hWOutGradIdeal) (hWOutGradReferenceIdeal := hWOutGradReferenceIdeal)
    ∧ preserves_OutBwd_OutBwdIdeal
    ∧ algebraic_OutBwdIdeal_OutBwdReferenceIdeal (hOutBwdIdeal := hOutBwdIdeal) (hOutBwdReferenceIdeal := hOutBwdReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_SumDevices_SumDevicesIdeal
    ∧ algebraic_SumDevicesIdeal_SumDevicesReferenceIdeal (hSumDevicesIdeal := hSumDevicesIdeal) (hSumDevicesReferenceIdeal := hSumDevicesReferenceIdeal)
    ∧ preserves_AdaBwd_AdaBwdIdeal
    ∧ algebraic_AdaBwdIdeal_AdaBwdReferenceIdeal (hAdaBwdIdeal := hAdaBwdIdeal) (hAdaBwdReferenceIdeal := hAdaBwdReferenceIdeal)
    ∧ preserves_ConvBwd_ConvBwdIdeal
    ∧ algebraic_ConvBwdIdeal_ConvBwdReferenceIdeal (hConvBwdIdeal := hConvBwdIdeal) (hConvBwdReferenceIdeal := hConvBwdReferenceIdeal)
-- ==== Kernel.lean ====
abbrev S8192x7296 : Shape := ⟨2, ![8192, 7296]⟩
abbrev S512 : Shape := ⟨1, ![512]⟩
abbrev S4x128x128 : Shape := ⟨3, ![4, 128, 128]⟩
abbrev S4x128 : Shape := ⟨2, ![4, 128]⟩
abbrev S8192x512 : Shape := ⟨2, ![8192, 512]⟩
abbrev S4x128x1 : Shape := ⟨3, ![4, 128, 1]⟩
abbrev S1x512 : Shape := ⟨2, ![1, 512]⟩
abbrev S8192x1536 : Shape := ⟨2, ![8192, 1536]⟩
abbrev S256x512 : Shape := ⟨2, ![256, 512]⟩
abbrev S256x1536 : Shape := ⟨2, ![256, 1536]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x7296, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8192x512, .f32⟩
  | .hbm, ⟨6, _⟩ => ⟨S4x128x1, .f32⟩
  | .hbm, ⟨7, _⟩ => ⟨S4x128x128, .f32⟩
  | .hbm, ⟨8, _⟩ => ⟨S1x512, .f32⟩
  | .hbm, ⟨9, _⟩ => ⟨S1x512, .f32⟩
  | .hbm, ⟨10, _⟩ => ⟨S8192x1536, .bf16⟩
  | .hbm, ⟨11, _⟩ => ⟨S1x512, .f32⟩
  | .hbm, ⟨12, _⟩ => ⟨S1x512, .f32⟩
  | .hbm, ⟨13, _⟩ => ⟨S4x128x128, .f32⟩
  | .hbm, ⟨14, _⟩ => ⟨S4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S4x128x128, .f32⟩
  | .local _ .vmem, ⟨10, _⟩ => ⟨S256x512, .f32⟩
  | .local _ .vmem, ⟨11, _⟩ => ⟨S256x512, .f32⟩
  | .local _ .vmem, ⟨12, _⟩ => ⟨S256x1536, .bf16⟩
  | .local _ .vmem, ⟨13, _⟩ => ⟨S256x1536, .bf16⟩
  | .local _ .vmem, ⟨14, _⟩ => ⟨S1x512, .f32⟩
  | .local _ .vmem, ⟨15, _⟩ => ⟨S1x512, .f32⟩
  | .local _ .vmem, ⟨16, _⟩ => ⟨S4x128x128, .f32⟩
  | .local _ .vmem, ⟨17, _⟩ => ⟨S4x128x128, .f32⟩
  | _, _ => ⟨S8192x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x7296 : Shape := ⟨2, ![8192, 7296]⟩
abbrev S512 : Shape := ⟨1, ![512]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x512 : Shape := ⟨2, ![1, 512]⟩
abbrev S64x128x4x128 : Shape := ⟨4, ![64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S8192x1536 : Shape := ⟨2, ![8192, 1536]⟩
abbrev S4x128x1 : Shape := ⟨3, ![4, 128, 1]⟩

abbrev nBuf : Space → Nat
  | .hbm => 221
  | .vmem => 0
  | .smem => 0
  | _ => 0

abbrev hbmTy0_0 (i : Nat) : BufTy := match i % 128 with
  | 0 => ⟨S8192x7296, .f32⟩
  | 1 => ⟨S512, .f32⟩
  | 2 => ⟨S512, .f32⟩
  | 3 => ⟨S4x128x128, .f32⟩
  | 4 => ⟨S4x128, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x4x128, .f32⟩
  | 34 => ⟨S_, .f32⟩
  | 35 => ⟨S8192x4, .f32⟩
  | 36 => ⟨S8192x4x1, .f32⟩
  | 37 => ⟨S_, .f32⟩
  | 38 => ⟨S8192x4x1, .f32⟩
  | 39 => ⟨S8192x4x1, .f32⟩
  | 40 => ⟨S8192x4x128, .f32⟩
  | 41 => ⟨S8192x4x128, .f32⟩
  | 42 => ⟨S8192x4x128, .f32⟩
  | 43 => ⟨S_, .f32⟩
  | 44 => ⟨S8192x4x128, .f32⟩
  | 45 => ⟨S8192x4x128, .f32⟩
  | 46 => ⟨S_, .f32⟩
  | 47 => ⟨S8192x4, .f32⟩
  | 48 => ⟨S8192x4x1, .f32⟩
  | 49 => ⟨S_, .f32⟩
  | 50 => ⟨S8192x4x1, .f32⟩
  | 51 => ⟨S8192x4x1, .f32⟩
  | 52 => ⟨S_, .f32⟩
  | 53 => ⟨S8192x4x1, .f32⟩
  | 54 => ⟨S8192x4x1, .f32⟩
  | 55 => ⟨S8192x4x1, .f32⟩
  | 56 => ⟨S8192x4x1, .f32⟩
  | 57 => ⟨S_, .f32⟩
  | 58 => ⟨S8192x4x1, .f32⟩
  | 59 => ⟨S8192x4x1, .f32⟩
  | 60 => ⟨S8192x4x128, .f32⟩
  | 61 => ⟨S8192x4x128, .f32⟩
  | 62 => ⟨S8192x512, .f32⟩
  | 63 => ⟨S1x512, .f32⟩
  | 64 => ⟨S8192x512, .f32⟩
  | 65 => ⟨S8192x512, .f32⟩
  | 66 => ⟨S1x512, .f32⟩
  | 67 => ⟨S8192x512, .f32⟩
  | 68 => ⟨S8192x512, .f32⟩
  | 69 => ⟨S64x128x4x128, .f32⟩
  | 70 => ⟨S128, .i32⟩
  | 71 => ⟨S_, .i32⟩
  | 72 => ⟨S_, .i32⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S128, .i32⟩
  | 80 => ⟨S128, .i32⟩
  | 81 => ⟨S_, .i32⟩
  | 82 => ⟨S128, .i32⟩
  | 83 => ⟨S128, .i1⟩
  | 84 => ⟨S128, .i1⟩
  | 85 => ⟨S_, .i32⟩
  | 86 => ⟨S128, .i32⟩
  | 87 => ⟨S128, .i32⟩
  | 88 => ⟨S128, .i32⟩
  | 89 => ⟨S128x1, .i32⟩
  | 90 => ⟨S1x128, .i32⟩
  | 91 => ⟨S128x128, .i32⟩
  | 92 => ⟨S128x128, .i32⟩
  | 93 => ⟨S128x128, .i1⟩
  | 94 => ⟨S_, .i32⟩
  | 95 => ⟨S_, .f32⟩
  | 96 => ⟨S4x128x128, .i1⟩
  | 97 => ⟨S4x128x128, .f32⟩
  | 98 => ⟨S4x128x128, .f32⟩
  | 99 => ⟨S_, .f32⟩
  | 100 => ⟨S4x128x128, .f32⟩
  | 101 => ⟨S4x64x128x128, .f32⟩
  | 102 => ⟨S64x128x4x128, .f32⟩
  | 103 => ⟨S128x4, .f32⟩
  | 104 => ⟨S1x128x4x1, .f32⟩
  | 105 => ⟨S64x128x4x128, .f32⟩
  | 106 => ⟨S64x128x4x128, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x7296, .f32⟩

abbrev hbmTy0_1 (i : Nat) : BufTy := match i % 128 with
  | 0 => ⟨S8192x512, .f32⟩
  | 1 => ⟨S8192x512, .f32⟩
  | 2 => ⟨S8192x512, .f32⟩
  | 3 => ⟨S64x128x4x128, .f32⟩
  | 4 => ⟨S_, .f32⟩
  | 5 => ⟨S128x4, .f32⟩
  | 6 => ⟨S1x128x4x1, .f32⟩
  | 7 => ⟨S_, .f32⟩
  | 8 => ⟨S128x4, .f32⟩
  | 9 => ⟨S4x128, .f32⟩
  | 10 => ⟨S4x64x128x128, .f32⟩
  | 11 => ⟨S4x128x128, .f32⟩
  | 12 => ⟨S4x64x128x128, .f32⟩
  | 13 => ⟨S64x128x4x128, .f32⟩
  | 14 => ⟨S_, .f32⟩
  | 15 => ⟨S4x128x128, .f32⟩
  | 16 => ⟨S4x128x128, .f32⟩
  | 17 => ⟨S8192x512, .f32⟩
  | 18 => ⟨S_, .f32⟩
  | 19 => ⟨S512, .f32⟩
  | 20 => ⟨S1x512, .f32⟩
  | 21 => ⟨S_, .f32⟩
  | 22 => ⟨S512, .f32⟩
  | 23 => ⟨S8192x512, .f32⟩
  | 24 => ⟨S_, .f32⟩
  | 25 => ⟨S512, .f32⟩
  | 26 => ⟨S1x512, .f32⟩
  | 27 => ⟨S8192x512, .f32⟩
  | 28 => ⟨S8192x512, .f32⟩
  | 29 => ⟨S_, .f32⟩
  | 30 => ⟨S512, .f32⟩
  | 31 => ⟨S8192x4x128, .f32⟩
  | 32 => ⟨S8192x4x128, .f32⟩
  | 33 => ⟨S_, .f32⟩
  | 34 => ⟨S8192x4, .f32⟩
  | 35 => ⟨S8192x4x1, .f32⟩
  | 36 => ⟨S8192x4x128, .f32⟩
  | 37 => ⟨S8192x4x128, .f32⟩
  | 38 => ⟨S8192x4x1, .f32⟩
  | 39 => ⟨S_, .f32⟩
  | 40 => ⟨S8192x4x1, .f32⟩
  | 41 => ⟨S8192x4x1, .f32⟩
  | 42 => ⟨S_, .f32⟩
  | 43 => ⟨S8192x4, .f32⟩
  | 44 => ⟨S8192x4x128, .f32⟩
  | 45 => ⟨S8192x4x128, .f32⟩
  | 46 => ⟨S8192x4x128, .f32⟩
  | 47 => ⟨S8192x4x128, .f32⟩
  | 48 => ⟨S_, .f32⟩
  | 49 => ⟨S8192x4, .f32⟩
  | 50 => ⟨S8192x4x1, .f32⟩
  | 51 => ⟨S_, .f32⟩
  | 52 => ⟨S8192x4x1, .f32⟩
  | 53 => ⟨S8192x4x1, .f32⟩
  | 54 => ⟨S_, .f32⟩
  | 55 => ⟨S8192x4, .f32⟩
  | 56 => ⟨S8192x4x128, .f32⟩
  | 57 => ⟨S8192x4x128, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S8192x1536, .f32⟩
  | 88 => ⟨S8192x1536, .bf16⟩
  | 89 => ⟨S1x512, .f32⟩
  | 90 => ⟨S1x512, .f32⟩
  | 91 => ⟨S4x128x1, .f32⟩
  | 92 => ⟨S4x128x128, .f32⟩
  | _ => ⟨S8192x7296, .f32⟩

abbrev hbmTy (i : Nat) : BufTy := match i / 128 with
  | 0 => hbmTy0_0 i
  | 1 => hbmTy0_1 i
  | _ => ⟨S8192x7296, .f32⟩

abbrev bufTy : (tb : Table) → Fin (tcTables nBuf tb) → BufTy
  | .hbm, ⟨i, _⟩ => hbmTy i
  | _, _ => ⟨S8192x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_10 : Ref sig .tc := ⟨.hbm, 94, rfl⟩
abbrev main_call1_v0 : Ref sig .tc := ⟨.hbm, 95, rfl⟩
abbrev main_v60_1 : Ref sig .tc := ⟨.hbm, 96, rfl⟩
abbrev main_call1_v2 : Ref sig .tc := ⟨.hbm, 97, rfl⟩
abbrev main_v60_0 : Ref sig .tc := ⟨.hbm, 98, rfl⟩
abbrev main_call1_cst : Ref sig .tc := ⟨.hbm, 99, rfl⟩
abbrev main_v60_2 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_v69_2 : Ref sig .tc := ⟨.hbm, 116, rfl⟩
abbrev main_call2_cst_1 : Ref sig .tc := ⟨.hbm, 117, rfl⟩
abbrev main_call2_v6 : Ref sig .tc := ⟨.hbm, 118, rfl⟩
abbrev main_call2_v7 : Ref sig .tc := ⟨.hbm, 119, rfl⟩
abbrev main_v69_1 : Ref sig .tc := ⟨.hbm, 120, rfl⟩
abbrev main_v69_0 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_11 : Ref sig .tc := ⟨.hbm, 132, rfl⟩
abbrev main_v77 : Ref sig .tc := ⟨.hbm, 133, rfl⟩
abbrev main_v78 : Ref sig .tc := ⟨.hbm, 134, rfl⟩
abbrev main_cst_12 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_call4_cst : Ref sig .tc := ⟨.hbm, 142, rfl⟩
abbrev main_call4_v0 : Ref sig .tc := ⟨.hbm, 143, rfl⟩
abbrev main_v85 : Ref sig .tc := ⟨.hbm, 144, rfl⟩
abbrev main_v86 : Ref sig .tc := ⟨.hbm, 145, rfl⟩
abbrev main_cst_13 : Ref sig .tc := ⟨.hbm, 146, rfl⟩
abbrev main_v87 : Ref sig .tc := ⟨.hbm, 147, rfl⟩
abbrev main_v88 : Ref sig .tc := ⟨.hbm, 148, rfl⟩
abbrev main_cst_14 : Ref sig .tc := ⟨.hbm, 149, rfl⟩
abbrev main_v89 : Ref sig .tc := ⟨.hbm, 150, rfl⟩
abbrev main_v90 : Ref sig .tc := ⟨.hbm, 151, rfl⟩
abbrev main_cst_15 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_16 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_17 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_18 : Ref sig .tc := ⟨.hbm, 167, rfl⟩
abbrev main_v103 : Ref sig .tc := ⟨.hbm, 168, rfl⟩
abbrev main_v104 : Ref sig .tc := ⟨.hbm, 169, rfl⟩
abbrev main_cst_19 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_20 : Ref sig .tc := ⟨.hbm, 176, rfl⟩
abbrev main_v110 : Ref sig .tc := ⟨.hbm, 177, rfl⟩
abbrev main_v111 : Ref sig .tc := ⟨.hbm, 178, rfl⟩
abbrev main_cst_21 : Ref sig .tc := ⟨.hbm, 179, rfl⟩
abbrev main_v112 : Ref sig .tc := ⟨.hbm, 180, rfl⟩
abbrev main_v113 : Ref sig .tc := ⟨.hbm, 181, rfl⟩
abbrev main_cst_22 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_23 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_cst_24 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_25 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_26 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_27 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_28 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩

abbrev nD : Nat := 1
abbrev τ : Topo := Topo.v7x

variable {F : FTy → Type} [FloatOps F]
-- ==== WInGrad.lean ====
abbrev S2048x8192 : Shape := ⟨2, ![2048, 8192]⟩
abbrev S8192x7296 : Shape := ⟨2, ![8192, 7296]⟩
abbrev S2048x7296 : Shape := ⟨2, ![2048, 7296]⟩
abbrev S1024x1024 : Shape := ⟨2, ![1024, 1024]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x7296, .bf16⟩
  | .hbm, ⟨2, _⟩ => ⟨S2048x7296, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInGradReferenceIdeal.lean ====
abbrev S2048x8192 : Shape := ⟨2, ![2048, 8192]⟩
abbrev S8192x7296 : Shape := ⟨2, ![8192, 7296]⟩
abbrev S8192x2048 : Shape := ⟨2, ![8192, 2048]⟩
abbrev S7296x2048 : Shape := ⟨2, ![7296, 2048]⟩
abbrev S2048x7296 : Shape := ⟨2, ![2048, 7296]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x7296, .bf16⟩
  | .hbm, ⟨2, _⟩ => ⟨S2048x8192, .f32⟩
  | .hbm, ⟨3, _⟩ => ⟨S8192x2048, .f32⟩
  | .hbm, ⟨4, _⟩ => ⟨S8192x7296, .f32⟩
  | .hbm, ⟨5, _⟩ => ⟨S7296x2048, .f32⟩
  | .hbm, ⟨6, _⟩ => ⟨S2048x7296, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InBwd.lean ====
abbrev S8192x7296 : Shape := ⟨2, ![8192, 7296]⟩
abbrev S2048x7296 : Shape := ⟨2, ![2048, 7296]⟩
abbrev S8192x2048 : Shape := ⟨2, ![8192, 2048]⟩
abbrev S512x2432 : Shape := ⟨2, ![512, 2432]⟩
abbrev S2048x2432 : Shape := ⟨2, ![2048, 2432]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x7296, .bf16⟩
  | .hbm, ⟨1, _⟩ => ⟨S2048x7296, .bf16⟩
  | .hbm, ⟨2, _⟩ => ⟨S8192x2048, .f32⟩
  | .local _ .vmem, ⟨0, _⟩ => ⟨S512x2432, .bf16⟩
  | .local _ .vmem, ⟨1, _⟩ => ⟨S512x2432, .bf16⟩
  | .local _ .vmem, ⟨2, _⟩ => ⟨S2048x2432, .bf16⟩
  | .local _ .vmem, ⟨3, _⟩ => ⟨S2048x2432, .bf16⟩
  | .local _ .vmem, ⟨4, _⟩ => ⟨S512x2048, .f32⟩
  | .local _ .vmem, ⟨5, _⟩ => ⟨S512x2048, .f32⟩
  | _, _ => ⟨S8192x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InBwdReferenceIdeal.lean ====
abbrev S8192x7296 : Shape := ⟨2, ![8192, 7296]⟩
abbrev S2048x7296 : Shape := ⟨2, ![2048, 7296]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x7296, .bf16⟩
  | .hbm, ⟨1, _⟩ => ⟨S2048x7296, .bf16⟩
  | .hbm, ⟨2, _⟩ => ⟨S2048x7296, .f32⟩
  | .hbm, ⟨3, _⟩ => ⟨S8192x7296, .f32⟩
  | .hbm, ⟨4, _⟩ => ⟨S8192x2048, .f32⟩
  | _, _ => ⟨S8192x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WOutGrad.lean ====
abbrev S2048x8192 : Shape := ⟨2, ![2048, 8192]⟩
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutGradReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutBwd.lean ====
abbrev S8192x2048 : Shape := ⟨2, ![8192, 2048]⟩
abbrev S1x2048 : Shape := ⟨2, ![1, 2048]⟩
abbrev S2048x2048 : Shape := ⟨2, ![2048, 2048]⟩
abbrev S8192x1024 : Shape := ⟨2, ![8192, 1024]⟩
abbrev S8192x512 : Shape := ⟨2, ![8192, 512]⟩
abbrev S256x2048 : Shape := ⟨2, ![256, 2048]⟩
abbrev S256x1024 : Shape := ⟨2, ![256, 1024]⟩
abbrev S256x512 : Shape := ⟨2, ![256, 512]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x2048, .bf16⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x2048, .bf16⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutBwdReferenceIdeal.lean ====
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S8192x1024 : Shape := ⟨2, ![8192, 1024]⟩
abbrev S8192x512 : Shape := ⟨2, ![8192, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdReferenceIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== InProj.lean ====
abbrev S8192x2048 : Shape := ⟨2, ![8192, 2048]⟩
abbrev S1x2048 : Shape := ⟨2, ![1, 2048]⟩
abbrev S2048 : Shape := ⟨1, ![2048]⟩
abbrev S2048x7296 : Shape := ⟨2, ![2048, 7296]⟩
abbrev S8192x7296 : Shape := ⟨2, ![8192, 7296]⟩
abbrev S2048x8192 : Shape := ⟨2, ![2048, 8192]⟩
abbrev S512x2048 : Shape := ⟨2, ![512, 2048]⟩
abbrev S2048x2432 : Shape := ⟨2, ![2048, 2432]⟩
abbrev S512x2432 : Shape := ⟨2, ![512, 2432]⟩
abbrev S2048x512 : Shape := ⟨2, ![2048, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048x7296, .bf16⟩
  | .hbm, ⟨5, _⟩ => ⟨S1x2048, .f32⟩
  | .hbm, ⟨6, _⟩ => ⟨S8192x7296, .f32⟩
  | .hbm, ⟨7, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x2432, .bf16⟩
  | .local _ .vmem, ⟨6, _⟩ => ⟨S2048x2432, .bf16⟩
  | .local _ .vmem, ⟨7, _⟩ => ⟨S512x2432, .f32⟩
  | .local _ .vmem, ⟨8, _⟩ => ⟨S512x2432, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InProjReferenceIdeal.lean ====
abbrev S8192x2048 : Shape := ⟨2, ![8192, 2048]⟩
abbrev S1x2048 : Shape := ⟨2, ![1, 2048]⟩
abbrev S2048 : Shape := ⟨1, ![2048]⟩
abbrev S2048x7296 : Shape := ⟨2, ![2048, 7296]⟩
abbrev S_ : Shape := ⟨0, ![]⟩
abbrev S8192 : Shape := ⟨1, ![8192]⟩
abbrev S8192x1 : Shape := ⟨2, ![8192, 1]⟩
abbrev S8192x7296 : Shape := ⟨2, ![8192, 7296]⟩
abbrev S2048x8192 : Shape := ⟨2, ![2048, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048x7296, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S2048x7296, .f32⟩
  | .hbm, ⟨29, _⟩ => ⟨S8192x7296, .f32⟩
  | .hbm, ⟨30, _⟩ => ⟨S2048x8192, .f32⟩
  | .hbm, ⟨31, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S8192x512 : Shape := ⟨2, ![8192, 512]⟩
abbrev S2048x2048 : Shape := ⟨2, ![2048, 2048]⟩
abbrev S1x2048 : Shape := ⟨2, ![1, 2048]⟩
abbrev S2048x8192 : Shape := ⟨2, ![2048, 8192]⟩
abbrev S256x2048 : Shape := ⟨2, ![256, 2048]⟩
abbrev S256x1024 : Shape := ⟨2, ![256, 1024]⟩
abbrev S256x512 : Shape := ⟨2, ![256, 512]⟩
abbrev S2048x256 : Shape := ⟨2, ![2048, 256]⟩
abbrev S1024x2048 : Shape := ⟨2, ![1024, 2048]⟩
abbrev S512x2048 : Shape := ⟨2, ![512, 2048]⟩
abbrev S1024x256 : Shape := ⟨2, ![1024, 256]⟩
abbrev S512x256 : Shape := ⟨2, ![512, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S2048x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x256, .bf16⟩
  | .local _ .vmem, ⟨15, _⟩ => ⟨S2048x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjReferenceIdeal.lean ====
abbrev S8192x2048 : Shape := ⟨2, ![8192, 2048]⟩
abbrev S8192x1024 : Shape := ⟨2, ![8192, 1024]⟩
abbrev S8192x512 : Shape := ⟨2, ![8192, 512]⟩
abbrev S2048x2048 : Shape := ⟨2, ![2048, 2048]⟩
abbrev S1x2048 : Shape := ⟨2, ![1, 2048]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048x8192, .f32⟩
  | .hbm, ⟨13, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== LossHead.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S1x128, .f32⟩
  | .hbm, ⟨5, _⟩ => ⟨S8192x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x128, .f32⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamSmall.lean ====
abbrev S336x1024 : Shape := ⟨2, ![336, 1024]⟩
abbrev S168x1024 : Shape := ⟨2, ![168, 1024]⟩

abbrev nBuf : Space → Nat
  | .hbm => 7
  | .vmem => 14
  | .smem => 0
  | _ => 0

abbrev bufTy : (tb : Table) → Fin (tcTables nBuf tb) → BufTy
  | .hbm, ⟨0, _⟩ => ⟨S336x1024, .f32⟩
  | .hbm, ⟨1, _⟩ => ⟨S336x1024, .f32⟩
  | .hbm, ⟨2, _⟩ => ⟨S336x1024, .f32⟩
  | .hbm, ⟨3, _⟩ => ⟨S336x1024, .f32⟩
  | .hbm, ⟨4, _⟩ => ⟨S336x1024, .f32⟩
  | .hbm, ⟨5, _⟩ => ⟨S336x1024, .f32⟩
  | .hbm, ⟨6, _⟩ => ⟨S336x1024, .f32⟩
  | .local _ .vmem, ⟨0, _⟩ => ⟨S168x1024, .f32⟩
  | .local _ .vmem, ⟨1, _⟩ => ⟨S168x1024, .f32⟩
  | .local _ .vmem, ⟨2, _⟩ => ⟨S168x1024, .f32⟩
  | .local _ .vmem, ⟨3, _⟩ => ⟨S168x1024, .f32⟩
  | .local _ .vmem, ⟨4, _⟩ => ⟨S168x1024, .f32⟩
  | .local _ .vmem, ⟨5, _⟩ => ⟨S168x1024, .f32⟩
  | .local _ .vmem, ⟨6, _⟩ => ⟨S168x1024, .f32⟩
  | .local _ .vmem, ⟨7, _⟩ => ⟨S168x1024, .f32⟩
  | .local _ .vmem, ⟨8, _⟩ => ⟨S168x1024, .f32⟩
  | .local _ .vmem, ⟨9, _⟩ => ⟨S168x1024, .f32⟩
  | .local _ .vmem, ⟨10, _⟩ => ⟨S168x1024, .f32⟩
  | .local _ .vmem, ⟨11, _⟩ => ⟨S168x1024, .f32⟩
  | .local _ .vmem, ⟨12, _⟩ => ⟨S168x1024, .f32⟩
  | .local _ .vmem, ⟨13, _⟩ => ⟨S168x1024, .f32⟩
  | _, _ => ⟨S336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S168x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S168x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S168x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S168x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S168x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S168x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S168x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S336x1024 : Shape := ⟨2, ![336, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S336x1024, .f32⟩
  | .hbm, ⟨1, _⟩ => ⟨S336x1024, .f32⟩
  | .hbm, ⟨2, _⟩ => ⟨S336x1024, .f32⟩
  | .hbm, ⟨3, _⟩ => ⟨S336x1024, .f32⟩
  | .hbm, ⟨4, _⟩ => ⟨S_, .f32⟩
  | .hbm, ⟨5, _⟩ => ⟨S336x1024, .f32⟩
  | .hbm, ⟨6, _⟩ => ⟨S336x1024, .f32⟩
  | .hbm, ⟨7, _⟩ => ⟨S_, .f32⟩
  | .hbm, ⟨8, _⟩ => ⟨S336x1024, .f32⟩
  | .hbm, ⟨9, _⟩ => ⟨S336x1024, .f32⟩
  | .hbm, ⟨10, _⟩ => ⟨S336x1024, .f32⟩
  | .hbm, ⟨11, _⟩ => ⟨S_, .f32⟩
  | .hbm, ⟨12, _⟩ => ⟨S336x1024, .f32⟩
  | .hbm, ⟨13, _⟩ => ⟨S336x1024, .f32⟩
  | .hbm, ⟨14, _⟩ => ⟨S336x1024, .f32⟩
  | .hbm, ⟨15, _⟩ => ⟨S_, .f32⟩
  | .hbm, ⟨16, _⟩ => ⟨S336x1024, .f32⟩
  | .hbm, ⟨17, _⟩ => ⟨S336x1024, .f32⟩
  | .hbm, ⟨18, _⟩ => ⟨S336x1024, .f32⟩
  | .hbm, ⟨19, _⟩ => ⟨S_, .f32⟩
  | .hbm, ⟨20, _⟩ => ⟨S336x1024, .f32⟩
  | .hbm, ⟨21, _⟩ => ⟨S336x1024, .f32⟩
  | .hbm, ⟨22, _⟩ => ⟨S_, .f32⟩
  | .hbm, ⟨23, _⟩ => ⟨S336x1024, .f32⟩
  | .hbm, ⟨24, _⟩ => ⟨S336x1024, .f32⟩
  | .hbm, ⟨25, _⟩ => ⟨S336x1024, .f32⟩
  | .hbm, ⟨26, _⟩ => ⟨S_, .f32⟩
  | .hbm, ⟨27, _⟩ => ⟨S336x1024, .f32⟩
  | .hbm, ⟨28, _⟩ => ⟨S336x1024, .f32⟩
  | .hbm, ⟨29, _⟩ => ⟨S336x1024, .f32⟩
  | .hbm, ⟨30, _⟩ => ⟨S_, .f32⟩
  | .hbm, ⟨31, _⟩ => ⟨S336x1024, .f32⟩
  | .hbm, ⟨32, _⟩ => ⟨S336x1024, .f32⟩
  | .hbm, ⟨33, _⟩ => ⟨S336x1024, .f32⟩
  | .hbm, ⟨34, _⟩ => ⟨S_, .f32⟩
  | .hbm, ⟨35, _⟩ => ⟨S336x1024, .f32⟩
  | .hbm, ⟨36, _⟩ => ⟨S336x1024, .f32⟩
  | _, _ => ⟨S336x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S_ : Shape := ⟨0, ![]⟩
abbrev S2x4096x1796 : Shape := ⟨3, ![2, 4096, 1796]⟩
abbrev S4096x1796 : Shape := ⟨2, ![4096, 1796]⟩
abbrev S1x128 : Shape := ⟨2, ![1, 128]⟩
abbrev S1x256x1796 : Shape := ⟨3, ![1, 256, 1796]⟩
abbrev S256x1796 : Shape := ⟨2, ![256, 1796]⟩
abbrev S1x1 : Shape := ⟨2, ![1, 1]⟩

abbrev nBuf : Space → Nat
  | .hbm => 11
  | .vmem => 19
  | .smem => 0
  | _ => 0

abbrev bufTy : (tb : Table) → Fin (tcTables nBuf tb) → BufTy
  | .hbm, ⟨0, _⟩ => ⟨S_, .f32⟩
  | .hbm, ⟨1, _⟩ => ⟨S2x4096x1796, .f32⟩
  | .hbm, ⟨2, _⟩ => ⟨S4096x1796, .f32⟩
  | .hbm, ⟨3, _⟩ => ⟨S4096x1796, .f32⟩
  | .hbm, ⟨4, _⟩ => ⟨S2x4096x1796, .f32⟩
  | .hbm, ⟨5, _⟩ => ⟨S2x4096x1796, .f32⟩
  | .hbm, ⟨6, _⟩ => ⟨S1x128, .f32⟩
  | .hbm, ⟨7, _⟩ => ⟨S2x4096x1796, .f32⟩
  | .hbm, ⟨8, _⟩ => ⟨S2x4096x1796, .f32⟩
  | .hbm, ⟨9, _⟩ => ⟨S2x4096x1796, .f32⟩
  | .hbm, ⟨10, _⟩ => ⟨S2x4096x1796, .f32⟩
  | .local _ .vmem, ⟨0, _⟩ => ⟨S1x128, .f32⟩
  | .local _ .vmem, ⟨1, _⟩ => ⟨S1x256x1796, .f32⟩
  | .local _ .vmem, ⟨2, _⟩ => ⟨S1x256x1796, .f32⟩
  | .local _ .vmem, ⟨3, _⟩ => ⟨S256x1796, .f32⟩
  | .local _ .vmem, ⟨4, _⟩ => ⟨S256x1796, .f32⟩
  | .local _ .vmem, ⟨5, _⟩ => ⟨S256x1796, .f32⟩
  | .local _ .vmem, ⟨6, _⟩ => ⟨S256x1796, .f32⟩
  | .local _ .vmem, ⟨7, _⟩ => ⟨S1x256x1796, .f32⟩
  | .local _ .vmem, ⟨8, _⟩ => ⟨S1x256x1796, .f32⟩
  | .local _ .vmem, ⟨9, _⟩ => ⟨S1x256x1796, .f32⟩
  | .local _ .vmem, ⟨10, _⟩ => ⟨S1x256x1796, .f32⟩
  | .local _ .vmem, ⟨11, _⟩ => ⟨S1x256x1796, .f32⟩
  | .local _ .vmem, ⟨12, _⟩ => ⟨S1x256x1796, .f32⟩
  | .local _ .vmem, ⟨13, _⟩ => ⟨S1x256x1796, .f32⟩
  | .local _ .vmem, ⟨14, _⟩ => ⟨S1x256x1796, .f32⟩
  | .local _ .vmem, ⟨15, _⟩ => ⟨S1x256x1796, .f32⟩
  | .local _ .vmem, ⟨16, _⟩ => ⟨S1x256x1796, .f32⟩
  | .local _ .vmem, ⟨17, _⟩ => ⟨S1x256x1796, .f32⟩
  | .local _ .vmem, ⟨18, _⟩ => ⟨S1x256x1796, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1796 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1796 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1796 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1796 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdamInReferenceIdeal.lean ====
abbrev S_ : Shape := ⟨0, ![]⟩
abbrev S2x4096x1796 : Shape := ⟨3, ![2, 4096, 1796]⟩
abbrev S4096x1796 : Shape := ⟨2, ![4096, 1796]⟩
abbrev S1x4096x1796 : Shape := ⟨3, ![1, 4096, 1796]⟩

abbrev nBuf : Space → Nat
  | .hbm => 48
  | .vmem => 0
  | .smem => 0
  | _ => 0

abbrev bufTy : (tb : Table) → Fin (tcTables nBuf tb) → BufTy
  | .hbm, ⟨0, _⟩ => ⟨S_, .f32⟩
  | .hbm, ⟨1, _⟩ => ⟨S2x4096x1796, .f32⟩
  | .hbm, ⟨2, _⟩ => ⟨S4096x1796, .f32⟩
  | .hbm, ⟨3, _⟩ => ⟨S4096x1796, .f32⟩
  | .hbm, ⟨4, _⟩ => ⟨S2x4096x1796, .f32⟩
  | .hbm, ⟨5, _⟩ => ⟨S2x4096x1796, .f32⟩
  | .hbm, ⟨6, _⟩ => ⟨S_, .f32⟩
  | .hbm, ⟨7, _⟩ => ⟨S_, .i1⟩
  | .hbm, ⟨8, _⟩ => ⟨S4096x1796, .f32⟩
  | .hbm, ⟨9, _⟩ => ⟨S_, .f32⟩
  | .hbm, ⟨10, _⟩ => ⟨S_, .i1⟩
  | .hbm, ⟨11, _⟩ => ⟨S4096x1796, .f32⟩
  | .hbm, ⟨12, _⟩ => ⟨S1x4096x1796, .f32⟩
  | .hbm, ⟨13, _⟩ => ⟨S1x4096x1796, .f32⟩
  | .hbm, ⟨14, _⟩ => ⟨S2x4096x1796, .f32⟩
  | .hbm, ⟨15, _⟩ => ⟨S_, .f32⟩
  | .hbm, ⟨16, _⟩ => ⟨S2x4096x1796, .f32⟩
  | .hbm, ⟨17, _⟩ => ⟨S2x4096x1796, .f32⟩
  | .hbm, ⟨18, _⟩ => ⟨S_, .f32⟩
  | .hbm, ⟨19, _⟩ => ⟨S2x4096x1796, .f32⟩
  | .hbm, ⟨20, _⟩ => ⟨S2x4096x1796, .f32⟩
  | .hbm, ⟨21, _⟩ => ⟨S2x4096x1796, .f32⟩
  | .hbm, ⟨22, _⟩ => ⟨S_, .f32⟩
  | .hbm, ⟨23, _⟩ => ⟨S2x4096x1796, .f32⟩
  | .hbm, ⟨24, _⟩ => ⟨S2x4096x1796, .f32⟩
  | .hbm, ⟨25, _⟩ => ⟨S2x4096x1796, .f32⟩
  | .hbm, ⟨26, _⟩ => ⟨S_, .f32⟩
  | .hbm, ⟨27, _⟩ => ⟨S2x4096x1796, .f32⟩
  | .hbm, ⟨28, _⟩ => ⟨S2x4096x1796, .f32⟩
  | .hbm, ⟨29, _⟩ => ⟨S2x4096x1796, .f32⟩
  | .hbm, ⟨30, _⟩ => ⟨S_, .f32⟩
  | .hbm, ⟨31, _⟩ => ⟨S2x4096x1796, .f32⟩
  | .hbm, ⟨32, _⟩ => ⟨S2x4096x1796, .f32⟩
  | .hbm, ⟨33, _⟩ => ⟨S_, .f32⟩
  | .hbm, ⟨34, _⟩ => ⟨S2x4096x1796, .f32⟩
  | .hbm, ⟨35, _⟩ => ⟨S2x4096x1796, .f32⟩
  | .hbm, ⟨36, _⟩ => ⟨S2x4096x1796, .f32⟩
  | .hbm, ⟨37, _⟩ => ⟨S_, .f32⟩
  | .hbm, ⟨38, _⟩ => ⟨S2x4096x1796, .f32⟩
  | .hbm, ⟨39, _⟩ => ⟨S2x4096x1796, .f32⟩
  | .hbm, ⟨40, _⟩ => ⟨S2x4096x1796, .f32⟩
  | .hbm, ⟨41, _⟩ => ⟨S_, .f32⟩
  | .hbm, ⟨42, _⟩ => ⟨S2x4096x1796, .f32⟩
  | .hbm, ⟨43, _⟩ => ⟨S2x4096x1796, .f32⟩
  | .hbm, ⟨44, _⟩ => ⟨S2x4096x1796, .f32⟩
  | .hbm, ⟨45, _⟩ => ⟨S_, .f32⟩
  | .hbm, ⟨46, _⟩ => ⟨S2x4096x1796, .f32⟩
  | .hbm, ⟨47, _⟩ => ⟨S2x4096x1796, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOut.lean ====
abbrev S_ : Shape := ⟨0, ![]⟩
abbrev S2x1024x2048 : Shape := ⟨3, ![2, 1024, 2048]⟩
abbrev S1024x2048 : Shape := ⟨2, ![1024, 2048]⟩
abbrev S1x128 : Shape := ⟨2, ![1, 128]⟩
abbrev S1x256x2048 : Shape := ⟨3, ![1, 256, 2048]⟩
abbrev S256x2048 : Shape := ⟨2, ![256, 2048]⟩
abbrev S1x1 : Shape := ⟨2, ![1, 1]⟩

abbrev nBuf : Space → Nat
  | .hbm => 11
  | .vmem => 19
  | .smem => 0
  | _ => 0

abbrev bufTy : (tb : Table) → Fin (tcTables nBuf tb) → BufTy
  | .hbm, ⟨0, _⟩ => ⟨S_, .f32⟩
  | .hbm, ⟨1, _⟩ => ⟨S2x1024x2048, .f32⟩
  | .hbm, ⟨2, _⟩ => ⟨S1024x2048, .f32⟩
  | .hbm, ⟨3, _⟩ => ⟨S1024x2048, .f32⟩
  | .hbm, ⟨4, _⟩ => ⟨S2x1024x2048, .f32⟩
  | .hbm, ⟨5, _⟩ => ⟨S2x1024x2048, .f32⟩
  | .hbm, ⟨6, _⟩ => ⟨S1x128, .f32⟩
  | .hbm, ⟨7, _⟩ => ⟨S2x1024x2048, .f32⟩
  | .hbm, ⟨8, _⟩ => ⟨S2x1024x2048, .f32⟩
  | .hbm, ⟨9, _⟩ => ⟨S2x1024x2048, .f32⟩
  | .hbm, ⟨10, _⟩ => ⟨S2x1024x2048, .f32⟩
  | .local _ .vmem, ⟨0, _⟩ => ⟨S1x128, .f32⟩
  | .local _ .vmem, ⟨1, _⟩ => ⟨S1x256x2048, .f32⟩
  | .local _ .vmem, ⟨2, _⟩ => ⟨S1x256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdamOutReferenceIdeal.lean ====
abbrev S_ : Shape := ⟨0, ![]⟩
abbrev S2x1024x2048 : Shape := ⟨3, ![2, 1024, 2048]⟩
abbrev S1024x2048 : Shape := ⟨2, ![1024, 2048]⟩
abbrev S1x1024x2048 : Shape := ⟨3, ![1, 1024, 2048]⟩

abbrev nBuf : Space → Nat
  | .hbm => 48
  | .vmem => 0
  | .smem => 0
  | _ => 0

abbrev bufTy : (tb : Table) → Fin (tcTables nBuf tb) → BufTy
  | .hbm, ⟨0, _⟩ => ⟨S_, .f32⟩
  | .hbm, ⟨1, _⟩ => ⟨S2x1024x2048, .f32⟩
  | .hbm, ⟨2, _⟩ => ⟨S1024x2048, .f32⟩
  | .hbm, ⟨3, _⟩ => ⟨S1024x2048, .f32⟩
  | .hbm, ⟨4, _⟩ => ⟨S2x1024x2048, .f32⟩
  | .hbm, ⟨5, _⟩ => ⟨S2x1024x2048, .f32⟩
  | .hbm, ⟨6, _⟩ => ⟨S_, .f32⟩
  | .hbm, ⟨7, _⟩ => ⟨S_, .i1⟩
  | .hbm, ⟨8, _⟩ => ⟨S1024x2048, .f32⟩
  | .hbm, ⟨9, _⟩ => ⟨S_, .f32⟩
  | .hbm, ⟨10, _⟩ => ⟨S_, .i1⟩
  | .hbm, ⟨11, _⟩ => ⟨S1024x2048, .f32⟩
  | .hbm, ⟨12, _⟩ => ⟨S1x1024x2048, .f32⟩
  | .hbm, ⟨13, _⟩ => ⟨S1x1024x2048, .f32⟩
  | .hbm, ⟨14, _⟩ => ⟨S2x1024x2048, .f32⟩
  | .hbm, ⟨15, _⟩ => ⟨S_, .f32⟩
  | .hbm, ⟨16, _⟩ => ⟨S2x1024x2048, .f32⟩
  | .hbm, ⟨17, _⟩ => ⟨S2x1024x2048, .f32⟩
  | .hbm, ⟨18, _⟩ => ⟨S_, .f32⟩
  | .hbm, ⟨19, _⟩ => ⟨S2x1024x2048, .f32⟩
  | .hbm, ⟨20, _⟩ => ⟨S2x1024x2048, .f32⟩
  | .hbm, ⟨21, _⟩ => ⟨S2x1024x2048, .f32⟩
  | .hbm, ⟨22, _⟩ => ⟨S_, .f32⟩
  | .hbm, ⟨23, _⟩ => ⟨S2x1024x2048, .f32⟩
  | .hbm, ⟨24, _⟩ => ⟨S2x1024x2048, .f32⟩
  | .hbm, ⟨25, _⟩ => ⟨S2x1024x2048, .f32⟩
  | .hbm, ⟨26, _⟩ => ⟨S_, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S_, .f32⟩
  | .hbm, ⟨31, _⟩ => ⟨S2x1024x2048, .f32⟩
  | .hbm, ⟨32, _⟩ => ⟨S2x1024x2048, .f32⟩
  | .hbm, ⟨33, _⟩ => ⟨S_, .f32⟩
  | .hbm, ⟨34, _⟩ => ⟨S2x1024x2048, .f32⟩
  | .hbm, ⟨35, _⟩ => ⟨S2x1024x2048, .f32⟩
  | .hbm, ⟨36, _⟩ => ⟨S2x1024x2048, .f32⟩
  | .hbm, ⟨37, _⟩ => ⟨S_, .f32⟩
  | .hbm, ⟨38, _⟩ => ⟨S2x1024x2048, .f32⟩
  | .hbm, ⟨39, _⟩ => ⟨S2x1024x2048, .f32⟩
  | .hbm, ⟨40, _⟩ => ⟨S2x1024x2048, .f32⟩
  | .hbm, ⟨41, _⟩ => ⟨S_, .f32⟩
  | .hbm, ⟨42, _⟩ => ⟨S2x1024x2048, .f32⟩
  | .hbm, ⟨43, _⟩ => ⟨S2x1024x2048, .f32⟩
  | .hbm, ⟨44, _⟩ => ⟨S2x1024x2048, .f32⟩
  | .hbm, ⟨45, _⟩ => ⟨S_, .f32⟩
  | .hbm, ⟨46, _⟩ => ⟨S2x1024x2048, .f32⟩
  | .hbm, ⟨47, _⟩ => ⟨S2x1024x2048, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== SumDevices.lean ====
abbrev S8x416x1024 : Shape := ⟨3, ![8, 416, 1024]⟩
abbrev S416x1024 : Shape := ⟨2, ![416, 1024]⟩
abbrev S8x208x1024 : Shape := ⟨3, ![8, 208, 1024]⟩
abbrev S208x1024 : Shape := ⟨2, ![208, 1024]⟩
abbrev S1x208x1024 : Shape := ⟨3, ![1, 208, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x416x1024, .f32⟩
  | .hbm, ⟨1, _⟩ => ⟨S416x1024, .f32⟩
  | .local _ .vmem, ⟨0, _⟩ => ⟨S8x208x1024, .f32⟩
  | .local _ .vmem, ⟨1, _⟩ => ⟨S8x208x1024, .f32⟩
  | .local _ .vmem, ⟨2, _⟩ => ⟨S208x1024, .f32⟩
  | .local _ .vmem, ⟨3, _⟩ => ⟨S208x1024, .f32⟩
  | _, _ => ⟨S8x416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDevicesReferenceIdeal.lean ====
abbrev S8x416x1024 : Shape := ⟨3, ![8, 416, 1024]⟩
abbrev S_ : Shape := ⟨0, ![]⟩
abbrev S416x1024 : Shape := ⟨2, ![416, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x416x1024, .f32⟩
  | .hbm, ⟨1, _⟩ => ⟨S_, .f32⟩
  | .hbm, ⟨2, _⟩ => ⟨S416x1024, .f32⟩
  | _, _ => ⟨S8x416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaBwd.lean ====
abbrev S2048x8 : Shape := ⟨2, ![2048, 8]⟩
abbrev S4x8x1536 : Shape := ⟨3, ![4, 8, 1536]⟩
abbrev S4x2048x1536 : Shape := ⟨3, ![4, 2048, 1536]⟩
abbrev S256x8 : Shape := ⟨2, ![256, 8]⟩
abbrev S1x8x1536 : Shape := ⟨3, ![1, 8, 1536]⟩
abbrev S1x256x1536 : Shape := ⟨3, ![1, 256, 1536]⟩
abbrev S8x1536 : Shape := ⟨2, ![8, 1536]⟩
abbrev S256 : Shape := ⟨1, ![256]⟩
abbrev S256x1 : Shape := ⟨2, ![256, 1]⟩
abbrev S1x1536 : Shape := ⟨2, ![1, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S2048x8, .f32⟩
  | .hbm, ⟨1, _⟩ => ⟨S4x8x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .local _ .vmem, ⟨0, _⟩ => ⟨S256x8, .f32⟩
  | .local _ .vmem, ⟨1, _⟩ => ⟨S256x8, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaBwdReferenceIdeal.lean ====
abbrev S2048x8 : Shape := ⟨2, ![2048, 8]⟩
abbrev S4x8x6144 : Shape := ⟨3, ![4, 8, 6144]⟩
abbrev S4x2048x6144 : Shape := ⟨3, ![4, 2048, 6144]⟩
abbrev S8x2048 : Shape := ⟨2, ![8, 2048]⟩
abbrev S_ : Shape := ⟨0, ![]⟩
abbrev S8x4x6144 : Shape := ⟨3, ![8, 4, 6144]⟩
abbrev S4x6144x2048 : Shape := ⟨3, ![4, 6144, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S4x8x6144, .f32⟩
  | .hbm, ⟨2, _⟩ => ⟨S4x2048x6144, .f32⟩
  | .hbm, ⟨3, _⟩ => ⟨S4x2048x6144, .f32⟩
  | .hbm, ⟨4, _⟩ => ⟨S4x2048x6144, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x4x6144, .f32⟩
  | .hbm, ⟨16, _⟩ => ⟨S4x8x6144, .f32⟩
  | .hbm, ⟨17, _⟩ => ⟨S8x4x6144, .f32⟩
  | .hbm, ⟨18, _⟩ => ⟨S4x6144x2048, .f32⟩
  | .hbm, ⟨19, _⟩ => ⟨S4x2048x6144, .f32⟩
  | .hbm, ⟨20, _⟩ => ⟨S_, .f32⟩
  | .hbm, ⟨21, _⟩ => ⟨S4x2048x6144, .f32⟩
  | .hbm, ⟨22, _⟩ => ⟨S4x2048x6144, .f32⟩
  | .hbm, ⟨23, _⟩ => ⟨S_, .f32⟩
  | .hbm, ⟨24, _⟩ => ⟨S4x2048x6144, .f32⟩
  | .hbm, ⟨25, _⟩ => ⟨S4x2048x6144, .f32⟩
  | .hbm, ⟨26, _⟩ => ⟨S4x2048x6144, .f32⟩
  | .hbm, ⟨27, _⟩ => ⟨S_, .f32⟩
  | .hbm, ⟨28, _⟩ => ⟨S4x2048x6144, .f32⟩
  | .hbm, ⟨29, _⟩ => ⟨S4x2048x6144, .f32⟩
  | .hbm, ⟨30, _⟩ => ⟨S4x2048x6144, .f32⟩
  | .hbm, ⟨31, _⟩ => ⟨S_, .f32⟩
  | .hbm, ⟨32, _⟩ => ⟨S4x2048x6144, .f32⟩
  | .hbm, ⟨33, _⟩ => ⟨S4x2048x6144, .f32⟩
  | .hbm, ⟨34, _⟩ => ⟨S4x2048x6144, .f32⟩
  | .hbm, ⟨35, _⟩ => ⟨S_, .f32⟩
  | .hbm, ⟨36, _⟩ => ⟨S4x2048x6144, .f32⟩
  | .hbm, ⟨37, _⟩ => ⟨S4x2048x6144, .f32⟩
  | .hbm, ⟨38, _⟩ => ⟨S_, .f32⟩
  | .hbm, ⟨39, _⟩ => ⟨S4x2048x6144, .f32⟩
  | .hbm, ⟨40, _⟩ => ⟨S4x2048x6144, .f32⟩
  | .hbm, ⟨41, _⟩ => ⟨S4x2048x6144, .f32⟩
  | .hbm, ⟨42, _⟩ => ⟨S_, .f32⟩
  | .hbm, ⟨43, _⟩ => ⟨S4x2048x6144, .f32⟩
  | .hbm, ⟨44, _⟩ => ⟨S4x2048x6144, .f32⟩
  | .hbm, ⟨45, _⟩ => ⟨S4x2048x6144, .f32⟩
  | .hbm, ⟨46, _⟩ => ⟨S_, .f32⟩
  | .hbm, ⟨47, _⟩ => ⟨S4x2048x6144, .f32⟩
  | .hbm, ⟨48, _⟩ => ⟨S4x2048x6144, .f32⟩
  | .hbm, ⟨49, _⟩ => ⟨S4x2048x6144, .f32⟩
  | .hbm, ⟨50, _⟩ => ⟨S_, .f32⟩
  | .hbm, ⟨51, _⟩ => ⟨S4x2048x6144, .f32⟩
  | .hbm, ⟨52, _⟩ => ⟨S4x2048x6144, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== ConvBwd.lean ====
abbrev S8192x7296 : Shape := ⟨2, ![8192, 7296]⟩
abbrev S4x3072 : Shape := ⟨2, ![4, 3072]⟩
abbrev S8192x3072 : Shape := ⟨2, ![8192, 3072]⟩
abbrev S8x384 : Shape := ⟨2, ![8, 384]⟩
abbrev S512x384 : Shape := ⟨2, ![512, 384]⟩
abbrev S4x384 : Shape := ⟨2, ![4, 384]⟩
abbrev S528x384 : Shape := ⟨2, ![528, 384]⟩
abbrev S520x384 : Shape := ⟨2, ![520, 384]⟩
abbrev S4x528x384 : Shape := ⟨3, ![4, 528, 384]⟩
abbrev S4x520x384 : Shape := ⟨3, ![4, 520, 384]⟩
abbrev S1x528x384 : Shape := ⟨3, ![1, 528, 384]⟩
abbrev S1x384 : Shape := ⟨2, ![1, 384]⟩
abbrev S1x520x384 : Shape := ⟨3, ![1, 520, 384]⟩
abbrev S512x128 : Shape := ⟨2, ![512, 128]⟩
abbrev S512 : Shape := ⟨1, ![512]⟩
abbrev S512x1 : Shape := ⟨2, ![512, 1]⟩
abbrev S8x128 : Shape := ⟨2, ![8, 128]⟩
abbrev S8 : Shape := ⟨1, ![8]⟩
abbrev S8x1 : Shape := ⟨2, ![8, 1]⟩
abbrev S1x512x384 : Shape := ⟨3, ![1, 512, 384]⟩
abbrev S384 : Shape := ⟨1, ![384]⟩

abbrev nBuf : Space → Nat
  | .hbm => 5
  | .vmem => 20
  | .smem => 0
  | _ => 0

abbrev bufTy : (tb : Table) → Fin (tcTables nBuf tb) → BufTy
  | .hbm, ⟨0, _⟩ => ⟨S8192x7296, .f32⟩
  | .hbm, ⟨1, _⟩ => ⟨S4x3072, .f32⟩
  | .hbm, ⟨2, _⟩ => ⟨S8192x3072, .f32⟩
  | .hbm, ⟨3, _⟩ => ⟨S8192x3072, .bf16⟩
  | .hbm, ⟨4, _⟩ => ⟨S4x3072, .f32⟩
  | .local _ .vmem, ⟨0, _⟩ => ⟨S8x384, .f32⟩
  | .local _ .vmem, ⟨1, _⟩ => ⟨S8x384, .f32⟩
  | .local _ .vmem, ⟨2, _⟩ => ⟨S512x384, .f32⟩
  | .local _ .vmem, ⟨3, _⟩ => ⟨S512x384, .f32⟩
  | .local _ .vmem, ⟨4, _⟩ => ⟨S8x384, .f32⟩
  | .local _ .vmem, ⟨5, _⟩ => ⟨S8x384, .f32⟩
  | .local _ .vmem, ⟨6, _⟩ => ⟨S4x384, .f32⟩
  | .local _ .vmem, ⟨7, _⟩ => ⟨S4x384, .f32⟩
  | .local _ .vmem, ⟨8, _⟩ => ⟨S512x384, .f32⟩
  | .local _ .vmem, ⟨9, _⟩ => ⟨S512x384, .f32⟩
  | .local _ .vmem, ⟨10, _⟩ => ⟨S8x384, .f32⟩
  | .local _ .vmem, ⟨11, _⟩ => ⟨S8x384, .f32⟩
  | .local _ .vmem, ⟨12, _⟩ => ⟨S512x384, .bf16⟩
  | .local _ .vmem, ⟨13, _⟩ => ⟨S512x384, .bf16⟩
  | .local _ .vmem, ⟨14, _⟩ => ⟨S4x384, .f32⟩
  | .local _ .vmem, ⟨15, _⟩ => ⟨S4x384, .f32⟩
  | .local _ .vmem, ⟨16, _⟩ => ⟨S528x384, .f32⟩
  | .local _ .vmem, ⟨17, _⟩ => ⟨S520x384, .f32⟩
  | .local _ .vmem, ⟨18, _⟩ => ⟨S4x528x384, .f32⟩
  | .local _ .vmem, ⟨19, _⟩ => ⟨S4x520x384, .f32⟩
  | _, _ => ⟨S8192x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvBwdReferenceIdeal.lean ====
abbrev S8192x7296 : Shape := ⟨2, ![8192, 7296]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x8x3x128 : Shape := ⟨4, ![8192, 8, 3, 128]⟩
abbrev S8192x8x1x128 : Shape := ⟨4, ![8192, 8, 1, 128]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 204
  | .vmem => 0
  | .smem => 0
  | _ => 0

abbrev hbmTy0_0 (i : Nat) : BufTy := match i % 128 with
  | 0 => ⟨S8192x7296, .f32⟩
  | 1 => ⟨S4x3072, .f32⟩
  | 2 => ⟨S8192x3072, .f32⟩
  | 3 => ⟨S8192x3072, .f32⟩
  | 4 => ⟨S_, .f32⟩
  | 5 => ⟨S3x3072, .f32⟩
  | 6 => ⟨S8195x3072, .f32⟩
  | 7 => ⟨S_, .f32⟩
  | 8 => ⟨S3x3072, .f32⟩
  | 9 => ⟨S8192x3072, .f32⟩
  | 10 => ⟨S1x3072, .f32⟩
  | 11 => ⟨S3072, .f32⟩
  | 12 => ⟨S1x3072, .f32⟩
  | 13 => ⟨S8192x3072, .f32⟩
  | 14 => ⟨S8192x3072, .f32⟩
  | 15 => ⟨S_, .f32⟩
  | 16 => ⟨S8192x3072, .f32⟩
  | 17 => ⟨S8192x3072, .f32⟩
  | 18 => ⟨S8192x3072, .f32⟩
  | 19 => ⟨S1x3072, .f32⟩
  | 20 => ⟨S3072, .f32⟩
  | 21 => ⟨S1x3072, .f32⟩
  | 22 => ⟨S8192x3072, .f32⟩
  | 23 => ⟨S8192x3072, .f32⟩
  | 24 => ⟨S8192x3072, .f32⟩
  | 25 => ⟨S8192x3072, .f32⟩
  | 26 => ⟨S1x3072, .f32⟩
  | 27 => ⟨S3072, .f32⟩
  | 28 => ⟨S1x3072, .f32⟩
  | 29 => ⟨S8192x3072, .f32⟩
  | 30 => ⟨S8192x3072, .f32⟩
  | 31 => ⟨S8192x3072, .f32⟩
  | 32 => ⟨S8192x3072, .f32⟩
  | 33 => ⟨S1x3072, .f32⟩
  | 34 => ⟨S3072, .f32⟩
  | 35 => ⟨S1x3072, .f32⟩
  | 36 => ⟨S8192x3072, .f32⟩
  | 37 => ⟨S8192x3072, .f32⟩
  | 38 => ⟨S8192x3072, .f32⟩
  | 39 => ⟨S8192x3072, .f32⟩
  | 40 => ⟨S8192x3072, .f32⟩
  | 41 => ⟨S_, .f32⟩
  | 42 => ⟨S8192x3072, .f32⟩
  | 43 => ⟨S8192x3072, .f32⟩
  | 44 => ⟨S_, .f32⟩
  | 45 => ⟨S8192x3072, .f32⟩
  | 46 => ⟨S8192x3072, .f32⟩
  | 47 => ⟨S_, .f32⟩
  | 48 => ⟨S8192x3072, .f32⟩
  | 49 => ⟨S8192x3072, .f32⟩
  | 50 => ⟨S8192x3072, .f32⟩
  | 51 => ⟨S8192x3072, .f32⟩
  | 52 => ⟨S8192x8x3x128, .f32⟩
  | 53 => ⟨S8192x8x1x128, .f32⟩
  | 54 => ⟨S8192x8x128, .f32⟩
  | 55 => ⟨S8192x8x1x128, .f32⟩
  | 56 => ⟨S8192x8x128, .f32⟩
  | 57 => ⟨S8192x8x1x128, .f32⟩
  | 58 => ⟨S8192x8x128, .f32⟩
  | 59 => ⟨S8192x8x128, .f32⟩
  | 60 => ⟨S_, .f32⟩
  | 61 => ⟨S8192x8, .f32⟩
  | 62 => ⟨S8192x8x1, .f32⟩
  | 63 => ⟨S_, .f32⟩
  | 64 => ⟨S8192x8x1, .f32⟩
  | 65 => ⟨S8192x8x1, .f32⟩
  | 66 => ⟨S8192x8x1, .f32⟩
  | 67 => ⟨S8192x8x1, .f32⟩
  | 68 => ⟨S_, .f32⟩
  | 69 => ⟨S8192x8x1, .f32⟩
  | 70 => ⟨S8192x8x1, .f32⟩
  | 71 => ⟨S8192x8x128, .f32⟩
  | 72 => ⟨S8192x8x128, .f32⟩
  | 73 => ⟨S8192x8x128, .f32⟩
  | 74 => ⟨S_, .f32⟩
  | 75 => ⟨S8192x8, .f32⟩
  | 76 => ⟨S8192x8x1, .f32⟩
  | 77 => ⟨S_, .f32⟩
  | 78 => ⟨S8192x8x1, .f32⟩
  | 79 => ⟨S8192x8x1, .f32⟩
  | 80 => ⟨S8192x8x1, .f32⟩
  | 81 => ⟨S8192x8x1, .f32⟩
  | 82 => ⟨S_, .f32⟩
  | 83 => ⟨S8192x8x1, .f32⟩
  | 84 => ⟨S8192x8x1, .f32⟩
  | 85 => ⟨S8192x8x128, .f32⟩
  | 86 => ⟨S8192x8x128, .f32⟩
  | 87 => ⟨S8192x8x1x128, .f32⟩
  | 88 => ⟨S8192x8x1x128, .f32⟩
  | 89 => ⟨S8192x8x1x128, .f32⟩
  | 90 => ⟨S8192x8x3x128, .f32⟩
  | 91 => ⟨S8192x3072, .f32⟩
  | 92 => ⟨S8192x8x3x128, .f32⟩
  | 93 => ⟨S8192x8x1x128, .f32⟩
  | 94 => ⟨S8192x8x128, .f32⟩
  | 95 => ⟨S8192x8x1x128, .f32⟩
  | 96 => ⟨S8192x8x128, .f32⟩
  | 97 => ⟨S8192x8x1x128, .f32⟩
  | 98 => ⟨S8192x8x128, .f32⟩
  | 99 => ⟨S8192x8x128, .f32⟩
  | 100 => ⟨S_, .f32⟩
  | 101 => ⟨S8192x8, .f32⟩
  | 102 => ⟨S8192x8x1, .f32⟩
  | 103 => ⟨S8192x8x128, .f32⟩
  | 104 => ⟨S8192x8x128, .f32⟩
  | 105 => ⟨S8192x8x1, .f32⟩
  | 106 => ⟨S_, .f32⟩
  | 107 => ⟨S8192x8, .f32⟩
  | 108 => ⟨S8192x8x128, .f32⟩
  | 109 => ⟨S8192x8x128, .f32⟩
  | 110 => ⟨S8192x8x128, .f32⟩
  | 111 => ⟨S8192x8x128, .f32⟩
  | 112 => ⟨S8192x8x128, .f32⟩
  | 113 => ⟨S8192x8x128, .f32⟩
  | 114 => ⟨S_, .f32⟩
  | 115 => ⟨S8192x8, .f32⟩
  | 116 => ⟨S8192x8x1, .f32⟩
  | 117 => ⟨S8192x8x128, .f32⟩
  | 118 => ⟨S8192x8x128, .f32⟩
  | 119 => ⟨S8192x8x1, .f32⟩
  | 120 => ⟨S_, .f32⟩
  | 121 => ⟨S8192x8, .f32⟩
  | 122 => ⟨S8192x8x128, .f32⟩
  | 123 => ⟨S8192x8x128, .f32⟩
  | 124 => ⟨S8192x8x128, .f32⟩
  | 125 => ⟨S8192x8x128, .f32⟩
  | 126 => ⟨S8192x8x128, .f32⟩
  | 127 => ⟨S8192x8x1x128, .f32⟩
  | _ => ⟨S8192x7296, .f32⟩

abbrev hbmTy0_1 (i : Nat) : BufTy := match i % 128 with
  | 0 => ⟨S_, .f32⟩
  | 1 => ⟨S8192x8x3x128, .f32⟩
  | 2 => ⟨S8192x8x1x128, .f32⟩
  | 3 => ⟨S_, .f32⟩
  | 4 => ⟨S8192x8x3x128, .f32⟩
  | 5 => ⟨S8192x8x3x128, .f32⟩
  | 6 => ⟨S8192x8x1x128, .f32⟩
  | 7 => ⟨S_, .f32⟩
  | 8 => ⟨S8192x8x3x128, .f32⟩
  | 9 => ⟨S8192x8x3x128, .f32⟩
  | 10 => ⟨S8192x3072, .f32⟩
  | 11 => ⟨S8192x3072, .f32⟩
  | 12 => ⟨S8192x3072, .f32⟩
  | 13 => ⟨S8192x3072, .f32⟩
  | 14 => ⟨S8192x3072, .f32⟩
  | 15 => ⟨S8192x3072, .f32⟩
  | 16 => ⟨S_, .f32⟩
  | 17 => ⟨S3072, .f32⟩
  | 18 => ⟨S1x3072, .f32⟩
  | 19 => ⟨S8192x3072, .f32⟩
  | 20 => ⟨S8192x3072, .f32⟩
  | 21 => ⟨S_, .f32⟩
  | 22 => ⟨S3072, .f32⟩
  | 23 => ⟨S1x3072, .f32⟩
  | 24 => ⟨S_, .f32⟩
  | 25 => ⟨S4x3072, .f32⟩
  | 26 => ⟨S_, .f32⟩
  | 27 => ⟨S8195x3072, .f32⟩
  | 28 => ⟨S8192x3072, .f32⟩
  | 29 => ⟨S_, .f32⟩
  | 30 => ⟨S3072, .f32⟩
  | 31 => ⟨S1x3072, .f32⟩
  | 32 => ⟨S8192x3072, .f32⟩
  | 33 => ⟨S8192x3072, .f32⟩
  | 34 => ⟨S_, .f32⟩
  | 35 => ⟨S3072, .f32⟩
  | 36 => ⟨S1x3072, .f32⟩
  | 37 => ⟨S_, .f32⟩
  | 38 => ⟨S4x3072, .f32⟩
  | 39 => ⟨S4x3072, .f32⟩
  | 40 => ⟨S_, .f32⟩
  | 41 => ⟨S8195x3072, .f32⟩
  | 42 => ⟨S8195x3072, .f32⟩
  | 43 => ⟨S8192x3072, .f32⟩
  | 44 => ⟨S_, .f32⟩
  | 45 => ⟨S3072, .f32⟩
  | 46 => ⟨S1x3072, .f32⟩
  | 47 => ⟨S8192x3072, .f32⟩
  | 48 => ⟨S8192x3072, .f32⟩
  | 49 => ⟨S_, .f32⟩
  | 50 => ⟨S3072, .f32⟩
  | 51 => ⟨S1x3072, .f32⟩
  | 52 => ⟨S_, .f32⟩
  | 53 => ⟨S4x3072, .f32⟩
  | 54 => ⟨S4x3072, .f32⟩
  | 55 => ⟨S_, .f32⟩
  | 56 => ⟨S8195x3072, .f32⟩
  | 57 => ⟨S8195x3072, .f32⟩
  | 58 => ⟨S8192x3072, .f32⟩
  | 59 => ⟨S_, .f32⟩
  | 60 => ⟨S3072, .f32⟩
  | 61 => ⟨S1x3072, .f32⟩
  | 62 => ⟨S8192x3072, .f32⟩
  | 63 => ⟨S8192x3072, .f32⟩
  | 64 => ⟨S_, .f32⟩
  | 65 => ⟨S3072, .f32⟩
  | 66 => ⟨S1x3072, .f32⟩
  | 67 => ⟨S_, .f32⟩
  | 68 => ⟨S4x3072, .f32⟩
  | 69 => ⟨S4x3072, .f32⟩
  | 70 => ⟨S_, .f32⟩
  | 71 => ⟨S8195x3072, .f32⟩
  | 72 => ⟨S8195x3072, .f32⟩
  | 73 => ⟨S3x3072, .f32⟩
  | 74 => ⟨S8192x3072, .f32⟩
  | 75 => ⟨S8192x3072, .bf16⟩
  | _ => ⟨S8192x7296, .f32⟩

abbrev hbmTy (i : Nat) : BufTy := match i / 128 with
  | 0 => hbmTy0_0 i
  | 1 => hbmTy0_1 i
  | _ => ⟨S8192x7296, .f32⟩

abbrev bufTy : (tb : Table) → Fin (tcTables nBuf tb) → BufTy
  | .hbm, ⟨i, _⟩ => hbmTy i
  | _, _ => ⟨S8192x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_2 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_9 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_10 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_12 : Ref sig .tc := ⟨.hbm, 128, rfl⟩
abbrev main_v100 : Ref sig .tc := ⟨.hbm, 129, rfl⟩
abbrev main_v101 : Ref sig .tc := ⟨.hbm, 130, rfl⟩
abbrev main_cst_13 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_v108 : Ref sig .tc := ⟨.hbm, 142, rfl⟩
abbrev main_v109 : Ref sig .tc := ⟨.hbm, 143, rfl⟩
abbrev main_cst_15 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_16 : Ref sig .tc := ⟨.hbm, 149, rfl⟩
abbrev main_v114 : Ref sig .tc := ⟨.hbm, 150, rfl⟩
abbrev main_v115 : Ref sig .tc := ⟨.hbm, 151, rfl⟩
abbrev main_cst_17 : Ref sig .tc := ⟨.hbm, 152, rfl⟩
abbrev main_v116 : Ref sig .tc := ⟨.hbm, 153, rfl⟩
abbrev main_cst_18 : Ref sig .tc := ⟨.hbm, 154, rfl⟩
abbrev main_v117 : Ref sig .tc := ⟨.hbm, 155, rfl⟩
abbrev main_v118 : Ref sig .tc := ⟨.hbm, 156, rfl⟩
abbrev main_cst_19 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_20 : Ref sig .tc := ⟨.hbm, 162, rfl⟩
abbrev main_v123 : Ref sig .tc := ⟨.hbm, 163, rfl⟩
abbrev main_v124 : Ref sig .tc := ⟨.hbm, 164, rfl⟩
abbrev main_cst_21 : Ref sig .tc := ⟨.hbm, 165, rfl⟩
abbrev main_v125 : Ref sig .tc := ⟨.hbm, 166, rfl⟩
abbrev main_v126 : Ref sig .tc := ⟨.hbm, 167, rfl⟩
abbrev main_cst_22 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_23 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_24 : Ref sig .tc := ⟨.hbm, 177, rfl⟩
abbrev main_v134 : Ref sig .tc := ⟨.hbm, 178, rfl⟩
abbrev main_v135 : Ref sig .tc := ⟨.hbm, 179, rfl⟩
abbrev main_cst_25 : Ref sig .tc := ⟨.hbm, 180, rfl⟩
abbrev main_v136 : Ref sig .tc := ⟨.hbm, 181, rfl⟩
abbrev main_v137 : Ref sig .tc := ⟨.hbm, 182, rfl⟩
abbrev main_cst_26 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_27 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_28 : Ref sig .tc := ⟨.hbm, 192, rfl⟩
abbrev main_v145 : Ref sig .tc := ⟨.hbm, 193, rfl⟩
abbrev main_v146 : Ref sig .tc := ⟨.hbm, 194, rfl⟩
abbrev main_cst_29 : Ref sig .tc := ⟨.hbm, 195, rfl⟩
abbrev main_v147 : Ref sig .tc := ⟨.hbm, 196, rfl⟩
abbrev main_v148 : Ref sig .tc := ⟨.hbm, 197, rfl⟩
abbrev main_cst_30 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩

abbrev nD : Nat := 1
abbrev τ : Topo := Topo.v7x

variable {F : FTy → Type} [FloatOps F]
-- ==== Proof.AdamStep.lean ====
/-
  One entry of an AdamW step: of the weight `w`, its gradient `g` and the two moments `m`, `v` the new moments
  `b1 * m + (1 - b1) * g` and `b2 * v + (1 - b2) * (g * g)`, and the weight's change. The constants are the ones both
  programs carry, as their bits.
-/
module

public import Idealize.ShloMosaic.Lib.Pointwise

@[expose] public section

noncomputable section

open Idealize.ShloMosaic

namespace Cert.Proof.Adam

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's change. -/
def change (w g m v : EReal) : EReal :=
  Ideal.ofBits .f32 0xBA83126F#32 * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.Proof.Adam

end
-- ==== Proof.AdaBwd.lean ====
/-
  The gradient of the conditioning's weights and the optimiser's step on them, on the eight devices of which each holds a
  quarter of the weights' columns. An entry of the gradient is the sum over the eight sequences of the conditioning's `silu`
  times the gradient that came back to the sequence's modulation.

  The kernel takes 256 rows of one layer a point and picks the sequences' columns out of the block one after another, by a sum
  over the lanes that are masked but for one; the reference is a product of matrices on one device.
-/
module

public import proofs.«01_k».proof.Proof.Gen.AdaBwdIdeal.Value
public import proofs.«01_k».proof.Proof.Gen.AdaBwdReferenceIdeal.Read
public import proofs.«01_k».proof.Proof.AdamStep
public import proofs.«01_k».proof.Defs
public import Idealize.ShloMosaic.Lib.Pipeline.ValueKit
public import Idealize.ShloMosaic.Lib.Pointwise
public import Idealize.ShloMosaic.Lib.LayoutAt
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaBwdIdeal.Conditioning

open Cert.AdaBwdIdeal Cert.AdaBwdIdeal.Gen
open Cert.AdaBwdReferenceIdeal.Read
open Cert.Proof

variable (m : (ℓ : Loc nD τ sig) → Buf (Elt Ideal) ℓ)

/-- The activation. -/
def act (x : EReal) : EReal := x * Ideal.logistic x

/-- An entry of the gradient, from the sequences' activations and what came back to them. -/
def grad (a d : Fin 8 → EReal) : EReal := ∑ b, d b * a b

/-- A sum over the lanes masked but for one is that lane. -/
theorem one_lane (a : Fin 8 → EReal) (b : Fin 8) :
    (∑ l : Fin 8, Scalar.select (IntOp.cmpi CmpIPredicate.eq (BitVec.ofNat 32 l.val) (BitVec.ofNat 32 b.val)) (a l) 0) = a b := by
  have e : ∀ l : Fin 8, Scalar.select (IntOp.cmpi CmpIPredicate.eq (BitVec.ofNat 32 l.val) (BitVec.ofNat 32 b.val)) (a l) (0 : EReal)
      = if l = b then a l else 0 := by
    intro l
    fin_cases l <;> fin_cases b <;> rfl
  simp only [e]
  simp

/-- The gradient as the kernel adds it up. -/
def upto3 (a d : Fin 8 → EReal) : EReal := a 0 * d 0 + a 1 * d 1 + a 2 * d 2

theorem grad_eq (a d : Fin 8 → EReal) :
    upto3 a d + a 3 * d 3 + a 4 * d 4 + a 5 * d 5 + a 6 * d 6 + a 7 * d 7 = grad a d := by
  simp only [grad, upto3, Fin.sum_univ_eight, mul_comm]

/-! ### The kernel's operations at an entry -/

theorem pay4 (x : FVec Ideal S256x8 .f32) (j : S256x8.Idx) : k0_pay4 (F := Ideal) x j = act (x j) := by
  unfold act
  pointwise [k0_pay4]

theorem pay5 (x : FVec Ideal S1x8x1536 .f32) (j : S8x1536.Idx) : k0_pay5 (F := Ideal) x j = x (ix3 0 (j 0) (j 1)) := by
  pointwise [k0_pay5]

/-- The first three sequences' terms. -/
theorem pay6 (x : FVec Ideal S256x8 .f32) (d : FVec Ideal S1x8x1536 .f32) (j : S256x1536.Idx) :
    k0_pay6 (F := Ideal) x d j = upto3 (fun b => act (x (ix2 (j 0) b))) (fun b => d (ix3 0 b (j 1))) := by
  unfold upto3
  pointwise [k0_pay6, pay4, pay5]
  exact congrArg₂ (· + ·) (congrArg₂ (· + ·) (congrArg (· * _) (one_lane _ 0)) (congrArg (· * _) (one_lane _ 1)))
    (congrArg (· * _) (one_lane _ 2))

/-- With the next four sequences' terms. -/
theorem pay8 (a : FVec Ideal S256x8 .f32) (d : FVec Ideal S8x1536 .f32) (s : FVec Ideal S256x1536 .f32) (j : S256x1536.Idx) :
    k0_pay8 (F := Ideal) a d s (iota .tc S256x8 32 [1] iota_S256x8_d1_w32) k0_pay7 j
      = s j + a (ix2 (j 0) 3) * d (ix2 3 (j 1)) + a (ix2 (j 0) 4) * d (ix2 4 (j 1)) + a (ix2 (j 0) 5) * d (ix2 5 (j 1))
        + a (ix2 (j 0) 6) * d (ix2 6 (j 1)) := by
  pointwise [k0_pay8, k0_pay7]
  exact congrArg₂ (· + ·) (congrArg₂ (· + ·) (congrArg₂ (· + ·) (congrArg (_ + ·) (congrArg (· * _) (one_lane _ 3)))
    (congrArg (· * _) (one_lane _ 4))) (congrArg (· * _) (one_lane _ 5))) (congrArg (· * _) (one_lane _ 6))

/-- With the last one's. -/
theorem pay10 (a : FVec Ideal S256x8 .f32) (d : FVec Ideal S8x1536 .f32) (s : FVec Ideal S256x1536 .f32) (j : S256x1536.Idx) :
    k0_pay10 (F := Ideal) a d s (iota .tc S256x8 32 [1] iota_S256x8_d1_w32) k0_pay9 j
      = s j + a (ix2 (j 0) 7) * d (ix2 7 (j 1)) := by
  pointwise [k0_pay10, k0_pay9]
  exact congrArg (_ + ·) (congrArg (· * _) (one_lane _ 7))

/-- The gradient of a block of rows. -/
def blockGrad (x : FVec Ideal S256x8 .f32) (d : FVec Ideal S1x8x1536 .f32) (p : Fin 256) (q : Fin 1536) : EReal :=
  grad (fun b => act (x (ix2 p b))) (fun b => d (ix3 0 b q))

theorem whole (x : FVec Ideal S256x8 .f32) (d : FVec Ideal S1x8x1536 .f32) (j : S256x1536.Idx) :
    k0_pay10 (F := Ideal) (k0_pay4 x) (k0_pay5 d) (k0_pay8 (k0_pay4 x) (k0_pay5 d) (k0_pay6 x d)
        (iota .tc S256x8 32 [1] iota_S256x8_d1_w32) k0_pay7) (iota .tc S256x8 32 [1] iota_S256x8_d1_w32) k0_pay9 j
      = blockGrad x d (j 0) (j 1) := by
  rw [pay10, pay8, pay6]
  simp only [pay4, pay5]
  exact grad_eq (fun b => act (x (ix2 (j 0) b))) (fun b => d (ix3 0 b (j 1)))

section

variable (a : FVec Ideal S256x8 .f32) (d : FVec Ideal S8x1536 .f32) (s : FVec Ideal S256x1536 .f32) (k l : IVec S256x8 32)
  (w m1 v1 : FVec Ideal S1x256x1536 .f32)

theorem pay11 (j : S1x256x1536.Idx) : k0_pay11 (F := Ideal) a d s k l j = k0_pay10 a d s k l (ix2 (j 1) (j 2)) := by
  pointwise [k0_pay11]

theorem pay13 (j : S256x1536.Idx) :
    k0_pay13 (F := Ideal) a d s k l m1 j = Adam.first (k0_pay10 a d s k l j) (m1 (ix3 0 (j 0) (j 1))) := by
  unfold Adam.first
  pointwise [k0_pay13]

theorem pay14 (j : S256x1536.Idx) :
    k0_pay14 (F := Ideal) a d s k l v1 j = Adam.second (k0_pay10 a d s k l j) (v1 (ix3 0 (j 0) (j 1))) := by
  unfold Adam.second
  pointwise [k0_pay14]

theorem pay1 (j : S1x256x1536.Idx) :
    k0_pay1 (F := Ideal) (k0_pay12 w) (k0_pay15 a d s k l m1 v1) j
      = Adam.change (w j) (k0_pay10 a d s k l (ix2 (j 1) (j 2))) (m1 (ix3 0 (j 1) (j 2))) (v1 (ix3 0 (j 1) (j 2))) := by
  unfold Adam.change
  pointwise [k0_pay1, k0_pay12, k0_pay15, pay13, pay14]

end

theorem pay2 (y : FVec Ideal S256x1536 .f32) (j : S1x256x1536.Idx) : k0_pay2 (F := Ideal) y j = y (ix2 (j 1) (j 2)) := by
  pointwise [k0_pay2]

theorem pay3 (y : FVec Ideal S256x1536 .f32) (j : S1x256x1536.Idx) : k0_pay3 (F := Ideal) y j = y (ix2 (j 1) (j 2)) := by
  pointwise [k0_pay3]

/-! ### The kernel's four results -/

/-- Where the windows stand at each point. -/
theorem place : ∀ t : Fin cfg0.N, win0_0.index t = ![t.val % 8, 0] ∧ win0_1.index t = ![t.val / 8, 0, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0] :=
  (by decide +kernel : ∀ t : Fin grid0.N, _)

/-- A device's part of the gradient. -/
def gradAt (x : FVec Ideal S2048x8 .f32) (d : FVec Ideal S4x8x1536 .f32) (j : S4x2048x1536.Idx) : EReal :=
  grad (fun b => act (x (ix2 (j 1) b))) (fun b => d (ix3 (j 0) b (j 2)))

theorem gradient (c : Dev nD) : (dats m 0 c).arrAt 5 cfg0.N
    = gradAt (m ((c : Thread nD τ).loc main_arg0)) (m ((c : Thread nD τ).loc main_arg1)) := by
  refine (dats m 0 c).arrAt_eq_of_covers 5 _ (by decide +kernel) fun t hf y => ?_
  blk_simp
  rw [after0_5]
  unfold_out out0_5
  frame_out
  rw [pay11, whole]
  unfold blockGrad gradAt
  blk_point [iblk, V, place t]

theorem change (c : Dev nD) : (dats m 0 c).arrAt 6 cfg0.N
    = fun j => Adam.change (m ((c : Thread nD τ).loc main_arg2) j)
        (gradAt (m ((c : Thread nD τ).loc main_arg0)) (m ((c : Thread nD τ).loc main_arg1)) j)
        (m ((c : Thread nD τ).loc main_arg3) j) (m ((c : Thread nD τ).loc main_arg4) j) := by
  refine (dats m 0 c).arrAt_eq_of_covers 6 _ (by decide +kernel) fun t hf y => ?_
  blk_simp
  rw [after0_6]
  unfold_out out0_6
  frame_out
  rw [pay1, whole]
  unfold blockGrad gradAt
  blk_point [iblk, V, place t]

theorem first (c : Dev nD) : (dats m 0 c).arrAt 7 cfg0.N
    = fun j => Adam.first (gradAt (m ((c : Thread nD τ).loc main_arg0)) (m ((c : Thread nD τ).loc main_arg1)) j)
        (m ((c : Thread nD τ).loc main_arg3) j) := by
  refine (dats m 0 c).arrAt_eq_of_covers 7 _ (by decide +kernel) fun t hf y => ?_
  blk_simp
  rw [after0_7]
  unfold_out out0_7
  frame_out
  rw [pay2, pay13, whole]
  unfold blockGrad gradAt
  blk_point [iblk, V, place t]

theorem second (c : Dev nD) : (dats m 0 c).arrAt 8 cfg0.N
    = fun j => Adam.second (gradAt (m ((c : Thread nD τ).loc main_arg0)) (m ((c : Thread nD τ).loc main_arg1)) j)
        (m ((c : Thread nD τ).loc main_arg4) j) := by
  refine (dats m 0 c).arrAt_eq_of_covers 8 _ (by decide +kernel) fun t hf y => ?_
  blk_simp
  rw [after0_8]
  unfold_out out0_8
  frame_out
  rw [pay3, pay14, whole]
  unfold blockGrad gradAt
  blk_point [iblk, V, place t]

/-! ### The reference's results at an entry -/

theorem ref1 (x : FVec Ideal S2048x8 .f32) (j : Cert.AdaBwdReferenceIdeal.S8x2048.Idx) : val_main_v1 (F := Ideal) x j = act (x (ix2 (j 1) (j 0))) := by
  have e : ∀ z : EReal, Ideal.div 1 (1 + Ideal.exp (-z)) = Ideal.logistic z := fun _ => rfl
  unfold act
  rw [← e]
  pointwise [val_main_v1, val_main_v0, val_main_call0_v0, val_main_call0_v1, val_main_call0_cst, val_main_call0_v2,
    val_main_call0_v3, val_main_call0_cst_0, val_main_call0_v4, val_main_call0_v5]

/-- The gradient. -/
def allGrad (x : FVec Ideal S2048x8 .f32) (d : FVec Ideal Cert.AdaBwdReferenceIdeal.S4x8x6144 .f32)
    (j : Cert.AdaBwdReferenceIdeal.S4x2048x6144.Idx) : EReal :=
  grad (fun b => act (x (ix2 (j 1) b))) (fun b => d (ix3 (j 0) b (j 2)))

theorem ref6 (x : FVec Ideal S2048x8 .f32) (d : FVec Ideal Cert.AdaBwdReferenceIdeal.S4x8x6144 .f32)
    (j : Cert.AdaBwdReferenceIdeal.S4x2048x6144.Idx) : val_main_v6 (F := Ideal) x d j = allGrad x d j := by
  unfold allGrad grad
  pointwise [val_main_v6, val_main_v5, val_main_v4, ref1]

section

variable (x : FVec Ideal S2048x8 .f32) (d : FVec Ideal Cert.AdaBwdReferenceIdeal.S4x8x6144 .f32)
  (w m v : FVec Ideal Cert.AdaBwdReferenceIdeal.S4x2048x6144 .f32) (j : Cert.AdaBwdReferenceIdeal.S4x2048x6144.Idx)

theorem ref11 : val_main_v11 (F := Ideal) x d m j = Adam.first (allGrad x d j) (m j) := by
  unfold Adam.first
  pointwise [val_main_v11, val_main_v10, val_main_v9, val_main_v8, val_main_v7, val_main_cst, val_main_cst_0, ref6]

theorem ref17 : val_main_v17 (F := Ideal) x d v j = Adam.second (allGrad x d j) (v j) := by
  unfold Adam.second
  pointwise [val_main_v17, val_main_v16, val_main_v15, val_main_v14, val_main_v13, val_main_v12, val_main_cst_1, val_main_cst_2, ref6]

theorem ref30 : val_main_v30 (F := Ideal) x d w m v j = Adam.change (w j) (allGrad x d j) (m j) (v j) := by
  unfold Adam.change
  pointwise [val_main_v30, val_main_v29, val_main_v28, val_main_v27, val_main_v26, val_main_v25, val_main_v24, val_main_v23,
    val_main_v22, val_main_v21, val_main_v20, val_main_v19, val_main_v18, val_main_cst_3, val_main_cst_4, val_main_cst_5,
    val_main_cst_6, val_main_cst_7, ref11, ref17]

/-- A device's part of the gradient is that of its parts of the gradients that came back. -/
theorem part (c : Dev nD) (i : S4x2048x1536.Idx) :
    gradAt x (Layout.blockN ⟨3, ![4, 8, 1536]⟩ ⟨3, ![4, 8, 6144]⟩ (Layout.meshBlock [2, 2, 2] ![[], [], [0, 1]] c) d) i
      = (Layout.blockN ⟨3, ![4, 2048, 1536]⟩ ⟨3, ![4, 2048, 6144]⟩ (Layout.meshBlock [2, 2, 2] ![[], [], [0, 1]] c) (allGrad x d)) i := by
  unfold gradAt allGrad
  shard_norm
  congr 1
  · funext b
    congr 2
    fin_cases c <;> shard_ext
  · funext b
    fin_cases c <;> shard_ext

end

end Cert.AdaBwdIdeal.Conditioning

namespace Cert.Proof

open Cert.AdaBwdIdeal Cert.AdaBwdReferenceIdeal

/-- The kernel's parts of the gradient, changes and moments are the devices' parts of the reference's, over the extended
    reals. -/
theorem algebraic_ada_bwd : Cert.algebraic_AdaBwdIdeal_AdaBwdReferenceIdeal := by
  intro m g m' g' hpre hagree
  refine ⟨Read.val_main_v6 (m' (((0 : Dev Cert.AdaBwdReferenceIdeal.nD).tc : Thread Cert.AdaBwdReferenceIdeal.nD _).loc main_arg0)) (m' (((0 : Dev Cert.AdaBwdReferenceIdeal.nD).tc : Thread Cert.AdaBwdReferenceIdeal.nD _).loc main_arg1)),
    Read.val_main_v30 (m' (((0 : Dev Cert.AdaBwdReferenceIdeal.nD).tc : Thread Cert.AdaBwdReferenceIdeal.nD _).loc main_arg0)) (m' (((0 : Dev Cert.AdaBwdReferenceIdeal.nD).tc : Thread Cert.AdaBwdReferenceIdeal.nD _).loc main_arg1)) (m' (((0 : Dev Cert.AdaBwdReferenceIdeal.nD).tc : Thread Cert.AdaBwdReferenceIdeal.nD _).loc main_arg2)) (m' (((0 : Dev Cert.AdaBwdReferenceIdeal.nD).tc : Thread Cert.AdaBwdReferenceIdeal.nD _).loc main_arg3)) (m' (((0 : Dev Cert.AdaBwdReferenceIdeal.nD).tc : Thread Cert.AdaBwdReferenceIdeal.nD _).loc main_arg4)),
    Read.val_main_v11 (m' (((0 : Dev Cert.AdaBwdReferenceIdeal.nD).tc : Thread Cert.AdaBwdReferenceIdeal.nD _).loc main_arg0)) (m' (((0 : Dev Cert.AdaBwdReferenceIdeal.nD).tc : Thread Cert.AdaBwdReferenceIdeal.nD _).loc main_arg1)) (m' (((0 : Dev Cert.AdaBwdReferenceIdeal.nD).tc : Thread Cert.AdaBwdReferenceIdeal.nD _).loc main_arg3)),
    Read.val_main_v17 (m' (((0 : Dev Cert.AdaBwdReferenceIdeal.nD).tc : Thread Cert.AdaBwdReferenceIdeal.nD _).loc main_arg0)) (m' (((0 : Dev Cert.AdaBwdReferenceIdeal.nD).tc : Thread Cert.AdaBwdReferenceIdeal.nD _).loc main_arg1)) (m' (((0 : Dev Cert.AdaBwdReferenceIdeal.nD).tc : Thread Cert.AdaBwdReferenceIdeal.nD _).loc main_arg4)), ?_, ?_⟩
  · refine Idealize.ShloMosaic.θ_run_mono (Cert.AdaBwdIdeal.Value.run_blocks m g) ?_
    intro r hr c
    obtain ⟨h0, h1, h2, h3, kept⟩ := hr c
    obtain ⟨a0, a1, a2, a3, a4⟩ := hagree c
    refine ⟨(h0.trans (Conditioning.gradient m c)).trans ?_, (h1.trans (Conditioning.change m c)).trans ?_,
      (h2.trans (Conditioning.first m c)).trans ?_, (h3.trans (Conditioning.second m c)).trans ?_, kept⟩ <;> funext i
    · rw [a0, a1, Conditioning.part]
      exact (Conditioning.ref6 _ _ _).symm
    · rw [a0, a1, a2, a3, a4, Conditioning.part]
      exact (Conditioning.ref30 _ _ _ _ _ _).symm
    · rw [a0, a1, a3, Conditioning.part]
      exact (Conditioning.ref11 _ _ _ _).symm
    · rw [a0, a1, a4, Conditioning.part]
      exact (Conditioning.ref17 _ _ _ _).symm
  · refine Idealize.ShloMosaic.θ_run_mono (Cert.AdaBwdReferenceIdeal.Value.run m' g') ?_
    intro r hr
    obtain ⟨h0, h1, h2, h3, kept⟩ := hr 0
    exact ⟨h0.trans (Read.val_main_v6_eq _ _), h1.trans (Read.val_main_v30_eq _ _ _ _ _), h2.trans (Read.val_main_v11_eq _ _ _),
      h3.trans (Read.val_main_v17_eq _ _ _), kept⟩

end Cert.Proof

end
-- ==== Proof.AdamIn.lean ====
/-
  The optimiser on the input projection, of which a device holds two halves of 4096 rows. The gradient of a half comes from `own` in the
  core whose half it is and from `recv` in the other: half `h` reads `own` where `core = h`. Of it, the weights and the two
  moments the kernel makes the gradient put together, the weights' changes and the new moments.

  The kernel takes 256 rows of one half a point and compares `core` with the half's number; the reference stacks the two
  choices, made against the constants 0 and 1, and works on the stack.
-/
module

public import proofs.«01_k».proof.Proof.Gen.AdamInIdeal.Value
public import proofs.«01_k».proof.Proof.Gen.AdamInReferenceIdeal.Read
public import proofs.«01_k».proof.Proof.AdamStep
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInIdeal.Halves

open Cert.AdamInIdeal Cert.AdamInIdeal.Gen
open Cert.AdamInReferenceIdeal.Read
open Cert.Proof

variable (m : (ℓ : Loc nD τ sig) → Buf (Elt Ideal) ℓ)

/-- The gradient of half `h`: the core's own where the half is its own. -/
def pick (core : EReal) (h : ℕ) (own recv : EReal) : EReal := if core = ((h : ℝ) : EReal) then own else recv

/-- A half's number, as the kernel's word holds it. -/
theorem number (h : Fin 2) : (((BitVec.ofNat 32 h.val).toInt : ℝ) : EReal) = ((h.val : ℝ) : EReal) := by
  fin_cases h <;> simp

/-! ### The kernel's operations at an entry -/

theorem pay4 (i : grid0.Coords) (x : FVec Ideal S1x1 .f32) (a b : FVec Ideal S256x1796 .f32) (j : S256x1796.Idx) :
    k0_pay4 (F := Ideal) i x a b j = pick (x (ix2 0 0)) (i 0).val (a j) (b j) := by
  unfold pick
  rw [← number (i 0)]
  pointwise [k0_pay4]

theorem pay5 (i : grid0.Coords) (x : FVec Ideal S1x1 .f32) (a b : FVec Ideal S256x1796 .f32) (j : S1x256x1796.Idx) :
    k0_pay5 (F := Ideal) i x a b j = pick (x (ix2 0 0)) (i 0).val (a (ix2 (j 1) (j 2))) (b (ix2 (j 1) (j 2))) := by
  pointwise [k0_pay5, pay4]

theorem pay7 (i : grid0.Coords) (x : FVec Ideal S1x1 .f32) (a b : FVec Ideal S256x1796 .f32) (m : FVec Ideal S1x256x1796 .f32)
    (j : S256x1796.Idx) :
    k0_pay7 (F := Ideal) i x a b m j = Adam.first (pick (x (ix2 0 0)) (i 0).val (a j) (b j)) (m (ix3 0 (j 0) (j 1))) := by
  unfold Adam.first
  pointwise [k0_pay7, pay4]

theorem pay8 (i : grid0.Coords) (x : FVec Ideal S1x1 .f32) (a b : FVec Ideal S256x1796 .f32) (v : FVec Ideal S1x256x1796 .f32)
    (j : S256x1796.Idx) :
    k0_pay8 (F := Ideal) i x a b v j = Adam.second (pick (x (ix2 0 0)) (i 0).val (a j) (b j)) (v (ix3 0 (j 0) (j 1))) := by
  unfold Adam.second
  pointwise [k0_pay8, pay4]

theorem pay1 (i : grid0.Coords) (x : FVec Ideal S1x1 .f32) (a b : FVec Ideal S256x1796 .f32) (w m v : FVec Ideal S1x256x1796 .f32)
    (j : S1x256x1796.Idx) :
    k0_pay1 (F := Ideal) (k0_pay6 w) (k0_pay8 i x a b v) (k0_pay9 i x a b m) k0_pay10 j
      = Adam.change (w j) (pick (x (ix2 0 0)) (i 0).val (a (ix2 (j 1) (j 2))) (b (ix2 (j 1) (j 2))))
          (m (ix3 0 (j 1) (j 2))) (v (ix3 0 (j 1) (j 2))) := by
  unfold Adam.change
  pointwise [k0_pay1, k0_pay6, k0_pay9, k0_pay10, pay7, pay8]

theorem pay2 (x : FVec Ideal S256x1796 .f32) (j : S1x256x1796.Idx) : k0_pay2 (F := Ideal) x j = x (ix2 (j 1) (j 2)) := by
  pointwise [k0_pay2]

theorem pay3 (x : FVec Ideal S256x1796 .f32) (j : S1x256x1796.Idx) : k0_pay3 (F := Ideal) x j = x (ix2 (j 1) (j 2)) := by
  pointwise [k0_pay3]

/-! ### The reference's results at an entry -/

theorem ref1 (x : FVec Ideal S_ .f32) (a b : FVec Ideal S4096x1796 .f32) (j : S4096x1796.Idx) :
    val_main_v1 (F := Ideal) x a b j = pick (x ix0) 0 (a j) (b j) := by
  unfold pick
  pointwise [val_main_v1, val_main_v0, val_main_cst]
  simp

theorem ref3 (x : FVec Ideal S_ .f32) (a b : FVec Ideal S4096x1796 .f32) (j : S4096x1796.Idx) :
    val_main_v3 (F := Ideal) x a b j = pick (x ix0) 1 (a j) (b j) := by
  unfold pick
  pointwise [val_main_v3, val_main_v2, val_main_cst_0]
  simp

theorem ref6 (x : FVec Ideal S_ .f32) (a b : FVec Ideal S4096x1796 .f32) (j : S2x4096x1796.Idx) :
    val_main_v6 (F := Ideal) x a b j = pick (x ix0) (j 0).val (a (ix2 (j 1) (j 2))) (b (ix2 (j 1) (j 2))) := by
  have e : val_main_v6 (F := Ideal) x a b j = if h : (j 0).val < 1 then val_main_v1 x a b (ix2 (j 1) (j 2))
      else val_main_v3 x a b (ix2 (j 1) (j 2)) := by pointwise [val_main_v6, val_main_v5, val_main_v4]
  have two : (j 0).val < 2 := (j 0).isLt
  rw [e]
  split
  · rw [ref1, show (j 0).val = 0 by omega]
  · rw [ref3, show (j 0).val = 1 by omega]

theorem ref11 (x : FVec Ideal S_ .f32) (a b : FVec Ideal S4096x1796 .f32) (m : FVec Ideal S2x4096x1796 .f32) (j : S2x4096x1796.Idx) :
    val_main_v11 (F := Ideal) x a b m j
      = Adam.first (pick (x ix0) (j 0).val (a (ix2 (j 1) (j 2))) (b (ix2 (j 1) (j 2)))) (m j) := by
  unfold Adam.first
  pointwise [val_main_v11, val_main_v10, val_main_v9, val_main_v8, val_main_v7, val_main_cst_1, val_main_cst_2, ref6]

theorem ref17 (x : FVec Ideal S_ .f32) (a b : FVec Ideal S4096x1796 .f32) (v : FVec Ideal S2x4096x1796 .f32) (j : S2x4096x1796.Idx) :
    val_main_v17 (F := Ideal) x a b v j
      = Adam.second (pick (x ix0) (j 0).val (a (ix2 (j 1) (j 2))) (b (ix2 (j 1) (j 2)))) (v j) := by
  unfold Adam.second
  pointwise [val_main_v17, val_main_v16, val_main_v15, val_main_v14, val_main_v13, val_main_v12, val_main_cst_3, val_main_cst_4, ref6]

theorem ref30 (x : FVec Ideal S_ .f32) (w : FVec Ideal S2x4096x1796 .f32) (a b : FVec Ideal S4096x1796 .f32)
    (m v : FVec Ideal S2x4096x1796 .f32) (j : S2x4096x1796.Idx) :
    val_main_v30 (F := Ideal) x w a b m v j
      = Adam.change (w j) (pick (x ix0) (j 0).val (a (ix2 (j 1) (j 2))) (b (ix2 (j 1) (j 2)))) (m j) (v j) := by
  unfold Adam.change
  pointwise [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9, ref11, ref17]

/-! ### The kernel's four results -/

/-- Where the windows stand at each point. -/
theorem place : ∀ t : Fin cfg0.N, win0_0.index t = ![0, 0] ∧ win0_1.index t = ![t.val / 16, t.val % 16, 0]
    ∧ win0_2.index t = ![t.val % 16, 0] ∧ win0_3.index t = ![t.val % 16, 0] ∧ win0_4.index t = ![t.val / 16, t.val % 16, 0]
    ∧ win0_5.index t = ![t.val / 16, t.val % 16, 0] ∧ win0_6.index t = ![t.val / 16, t.val % 16, 0]
    ∧ win0_7.index t = ![t.val / 16, t.val % 16, 0] ∧ win0_8.index t = ![t.val / 16, t.val % 16, 0]
    ∧ win0_9.index t = ![t.val / 16, t.val % 16, 0] :=
  (by decide +kernel : ∀ t : Fin grid0.N, _)

/-- The half each point works on. -/
theorem half : ∀ t : Fin cfg0.N, (grid0.coords t 0).val = t.val / 16 := (by decide +kernel : ∀ t : Fin grid0.N, _)

/-- The core's number, which the host code repeats along a row of 128. -/
theorem core_row (c : Dev nD) (j : S1x128.Idx) : V m c main_v0 j = m ((c : Thread nD τ).loc main_arg0) ix0 := by
  unfold V
  after_results
  pointwise

/-- What a point reads of it. -/
theorem core (c : Dev nD) (t : Fin cfg0.N) :
    View.ld (iblk m c 0 t) r0_0 (ix2 0 0) = m ((c : Thread nD τ).loc main_arg0) ix0 := core_row m c _

/-- The half a point writes. -/
theorem row (t : Fin cfg0.N) (y : S1x256x1796.Idx) : ((win0_6.blk t).view.emb y 0).val = t.val / 16 := by
  blk_point [place t]

/-- The gradient put together. -/
theorem gradient (c : Dev nD) : (dats m 0 c).arrAt 6 cfg0.N
    = val_main_v6 (F := Ideal) (m ((c : Thread nD τ).loc main_arg0)) (m ((c : Thread nD τ).loc main_arg2))
        (m ((c : Thread nD τ).loc main_arg3)) := by
  refine (dats m 0 c).arrAt_eq_of_covers 6 _ (by decide +kernel) fun t hf y => ?_
  blk_simp
  rw [after0_6]
  frame_out
  rw [pay5, ref6, half t, core m c t]
  erw [row t y]
  blk_point [iblk, V, place t]

/-- The weights' changes. -/
theorem change (c : Dev nD) : (dats m 0 c).arrAt 7 cfg0.N
    = val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  blk_simp
  rw [after0_7]
  unfold_out out0_7
  frame_out
  rw [pay1, ref30, half t, core m c t]
  erw [row t y]
  blk_point [iblk, V, place t]

/-- The new first moments. -/
theorem first (c : Dev nD) : (dats m 0 c).arrAt 8 cfg0.N
    = val_main_v11 (F := Ideal) (m ((c : Thread nD τ).loc main_arg0)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp
  rw [after0_8]
  frame_out
  rw [pay2, pay7, ref11, half t, core m c t]
  erw [row t y]
  blk_point [iblk, V, place t]

/-- The new second moments. -/
theorem second (c : Dev nD) : (dats m 0 c).arrAt 9 cfg0.N
    = val_main_v17 (F := Ideal) (m ((c : Thread nD τ).loc main_arg0)) (m ((c : Thread nD τ).loc main_arg2))
        (m ((c : Thread nD τ).loc main_arg3)) (m ((c : Thread nD τ).loc main_arg5)) := by
  refine (dats m 0 c).arrAt_eq_of_covers 9 _ (by decide +kernel) fun t hf y => ?_
  blk_simp
  rw [after0_9]
  unfold_out out0_9
  frame_out
  rw [pay3, pay8, ref17, half t, core m c t]
  erw [row t y]
  blk_point [iblk, V, place t]

end Cert.AdamInIdeal.Halves

namespace Cert.Proof

open Cert.AdamInIdeal Cert.AdamInReferenceIdeal

/-- The kernel and the reference compute the same gradient, changes and moments over the extended reals. -/
theorem algebraic_adamw_w_in : Cert.algebraic_AdamInIdeal_AdamInReferenceIdeal := by
  pair_intro
  · run_from Cert.AdamInIdeal.Gen.run_main m g
  · refine Idealize.ShloMosaic.θ_run_mono (Cert.AdamInReferenceIdeal.Value.run m' g') ?_
    intro r hr c
    obtain ⟨h0, h1, h2, h3, kept⟩ := hr c
    obtain ⟨a0, a1, a2, a3, a4, a5⟩ := hagree c
    refine ⟨(h0.trans (Read.val_main_v6_eq _ _ _)).trans ?_, (h1.trans (Read.val_main_v30_eq _ _ _ _ _ _)).trans ?_,
      (h2.trans (Read.val_main_v11_eq _ _ _ _)).trans ?_, (h3.trans (Read.val_main_v17_eq _ _ _ _)).trans ?_, kept⟩
      <;> simp only [a0, a1, a2, a3, a4, a5]
    · exact (Halves.gradient m c).symm
    · exact (Halves.change m c).symm
    · exact (Halves.first m c).symm
    · exact (Halves.second m c).symm

end Cert.Proof

end
-- ==== Proof.AdamOut.lean ====
/-
  The optimiser on the output projection, of which a device holds two halves of 1024 rows. The gradient of a half comes from `own` in the
  core whose half it is and from `recv` in the other: half `h` reads `own` where `core = h`. Of it, the weights and the two
  moments the kernel makes the gradient put together, the weights' changes and the new moments.

  The kernel takes 256 rows of one half a point and compares `core` with the half's number; the reference stacks the two
  choices, made against the constants 0 and 1, and works on the stack.
-/
module

public import proofs.«01_k».proof.Proof.Gen.AdamOutIdeal.Value
public import proofs.«01_k».proof.Proof.Gen.AdamOutReferenceIdeal.Read
public import proofs.«01_k».proof.Proof.AdamStep
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutIdeal.Halves

open Cert.AdamOutIdeal Cert.AdamOutIdeal.Gen
open Cert.AdamOutReferenceIdeal.Read
open Cert.Proof

variable (m : (ℓ : Loc nD τ sig) → Buf (Elt Ideal) ℓ)

/-- The gradient of half `h`: the core's own where the half is its own. -/
def pick (core : EReal) (h : ℕ) (own recv : EReal) : EReal := if core = ((h : ℝ) : EReal) then own else recv

/-- A half's number, as the kernel's word holds it. -/
theorem number (h : Fin 2) : (((BitVec.ofNat 32 h.val).toInt : ℝ) : EReal) = ((h.val : ℝ) : EReal) := by
  fin_cases h <;> simp

/-! ### The kernel's operations at an entry -/

theorem pay4 (i : grid0.Coords) (x : FVec Ideal S1x1 .f32) (a b : FVec Ideal S256x2048 .f32) (j : S256x2048.Idx) :
    k0_pay4 (F := Ideal) i x a b j = pick (x (ix2 0 0)) (i 0).val (a j) (b j) := by
  unfold pick
  rw [← number (i 0)]
  pointwise [k0_pay4]

theorem pay5 (i : grid0.Coords) (x : FVec Ideal S1x1 .f32) (a b : FVec Ideal S256x2048 .f32) (j : S1x256x2048.Idx) :
    k0_pay5 (F := Ideal) i x a b j = pick (x (ix2 0 0)) (i 0).val (a (ix2 (j 1) (j 2))) (b (ix2 (j 1) (j 2))) := by
  pointwise [k0_pay5, pay4]

theorem pay7 (i : grid0.Coords) (x : FVec Ideal S1x1 .f32) (a b : FVec Ideal S256x2048 .f32) (m : FVec Ideal S1x256x2048 .f32)
    (j : S256x2048.Idx) :
    k0_pay7 (F := Ideal) i x a b m j = Adam.first (pick (x (ix2 0 0)) (i 0).val (a j) (b j)) (m (ix3 0 (j 0) (j 1))) := by
  unfold Adam.first
  pointwise [k0_pay7, pay4]

theorem pay8 (i : grid0.Coords) (x : FVec Ideal S1x1 .f32) (a b : FVec Ideal S256x2048 .f32) (v : FVec Ideal S1x256x2048 .f32)
    (j : S256x2048.Idx) :
    k0_pay8 (F := Ideal) i x a b v j = Adam.second (pick (x (ix2 0 0)) (i 0).val (a j) (b j)) (v (ix3 0 (j 0) (j 1))) := by
  unfold Adam.second
  pointwise [k0_pay8, pay4]

theorem pay1 (i : grid0.Coords) (x : FVec Ideal S1x1 .f32) (a b : FVec Ideal S256x2048 .f32) (w m v : FVec Ideal S1x256x2048 .f32)
    (j : S1x256x2048.Idx) :
    k0_pay1 (F := Ideal) (k0_pay6 w) (k0_pay8 i x a b v) (k0_pay9 i x a b m) k0_pay10 j
      = Adam.change (w j) (pick (x (ix2 0 0)) (i 0).val (a (ix2 (j 1) (j 2))) (b (ix2 (j 1) (j 2))))
          (m (ix3 0 (j 1) (j 2))) (v (ix3 0 (j 1) (j 2))) := by
  unfold Adam.change
  pointwise [k0_pay1, k0_pay6, k0_pay9, k0_pay10, pay7, pay8]

theorem pay2 (x : FVec Ideal S256x2048 .f32) (j : S1x256x2048.Idx) : k0_pay2 (F := Ideal) x j = x (ix2 (j 1) (j 2)) := by
  pointwise [k0_pay2]

theorem pay3 (x : FVec Ideal S256x2048 .f32) (j : S1x256x2048.Idx) : k0_pay3 (F := Ideal) x j = x (ix2 (j 1) (j 2)) := by
  pointwise [k0_pay3]

/-! ### The reference's results at an entry -/

theorem ref1 (x : FVec Ideal S_ .f32) (a b : FVec Ideal S1024x2048 .f32) (j : S1024x2048.Idx) :
    val_main_v1 (F := Ideal) x a b j = pick (x ix0) 0 (a j) (b j) := by
  unfold pick
  pointwise [val_main_v1, val_main_v0, val_main_cst]
  simp

theorem ref3 (x : FVec Ideal S_ .f32) (a b : FVec Ideal S1024x2048 .f32) (j : S1024x2048.Idx) :
    val_main_v3 (F := Ideal) x a b j = pick (x ix0) 1 (a j) (b j) := by
  unfold pick
  pointwise [val_main_v3, val_main_v2, val_main_cst_0]
  simp

theorem ref6 (x : FVec Ideal S_ .f32) (a b : FVec Ideal S1024x2048 .f32) (j : S2x1024x2048.Idx) :
    val_main_v6 (F := Ideal) x a b j = pick (x ix0) (j 0).val (a (ix2 (j 1) (j 2))) (b (ix2 (j 1) (j 2))) := by
  have e : val_main_v6 (F := Ideal) x a b j = if h : (j 0).val < 1 then val_main_v1 x a b (ix2 (j 1) (j 2))
      else val_main_v3 x a b (ix2 (j 1) (j 2)) := by pointwise [val_main_v6, val_main_v5, val_main_v4]
  have two : (j 0).val < 2 := (j 0).isLt
  rw [e]
  split
  · rw [ref1, show (j 0).val = 0 by omega]
  · rw [ref3, show (j 0).val = 1 by omega]

theorem ref11 (x : FVec Ideal S_ .f32) (a b : FVec Ideal S1024x2048 .f32) (m : FVec Ideal S2x1024x2048 .f32) (j : S2x1024x2048.Idx) :
    val_main_v11 (F := Ideal) x a b m j
      = Adam.first (pick (x ix0) (j 0).val (a (ix2 (j 1) (j 2))) (b (ix2 (j 1) (j 2)))) (m j) := by
  unfold Adam.first
  pointwise [val_main_v11, val_main_v10, val_main_v9, val_main_v8, val_main_v7, val_main_cst_1, val_main_cst_2, ref6]

theorem ref17 (x : FVec Ideal S_ .f32) (a b : FVec Ideal S1024x2048 .f32) (v : FVec Ideal S2x1024x2048 .f32) (j : S2x1024x2048.Idx) :
    val_main_v17 (F := Ideal) x a b v j
      = Adam.second (pick (x ix0) (j 0).val (a (ix2 (j 1) (j 2))) (b (ix2 (j 1) (j 2)))) (v j) := by
  unfold Adam.second
  pointwise [val_main_v17, val_main_v16, val_main_v15, val_main_v14, val_main_v13, val_main_v12, val_main_cst_3, val_main_cst_4, ref6]

theorem ref30 (x : FVec Ideal S_ .f32) (w : FVec Ideal S2x1024x2048 .f32) (a b : FVec Ideal S1024x2048 .f32)
    (m v : FVec Ideal S2x1024x2048 .f32) (j : S2x1024x2048.Idx) :
    val_main_v30 (F := Ideal) x w a b m v j
      = Adam.change (w j) (pick (x ix0) (j 0).val (a (ix2 (j 1) (j 2))) (b (ix2 (j 1) (j 2)))) (m j) (v j) := by
  unfold Adam.change
  pointwise [val_main_v30, val_main_v29, val_main_v28, val_main_v27, val_main_v26, val_main_v25, val_main_v24, val_main_v23,
    val_main_v22, val_main_v21, val_main_v20, val_main_v19, val_main_v18, val_main_cst_5, val_main_cst_6, val_main_cst_7,
    val_main_cst_8, val_main_cst_9, ref11, ref17]

/-! ### The kernel's four results -/

/-- Where the windows stand at each point. -/
theorem place : ∀ t : Fin cfg0.N, win0_0.index t = ![0, 0] ∧ win0_1.index t = ![t.val / 4, t.val % 4, 0]
    ∧ win0_2.index t = ![t.val % 4, 0] ∧ win0_3.index t = ![t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0]
    ∧ win0_9.index t = ![t.val / 4, t.val % 4, 0] :=
  (by decide +kernel : ∀ t : Fin grid0.N, _)

/-- The half each point works on. -/
theorem half : ∀ t : Fin cfg0.N, (grid0.coords t 0).val = t.val / 4 := (by decide +kernel : ∀ t : Fin grid0.N, _)

/-- The core's number, which the host code repeats along a row of 128. -/
theorem core_row (c : Dev nD) (j : S1x128.Idx) : V m c main_v0 j = m ((c : Thread nD τ).loc main_arg0) ix0 := by
  unfold V
  after_results
  pointwise

/-- What a point reads of it. -/
theorem core (c : Dev nD) (t : Fin cfg0.N) :
    View.ld (iblk m c 0 t) r0_0 (ix2 0 0) = m ((c : Thread nD τ).loc main_arg0) ix0 := core_row m c _

/-- The half a point writes. -/
theorem row (t : Fin cfg0.N) (y : S1x256x2048.Idx) : ((win0_6.blk t).view.emb y 0).val = t.val / 4 := by
  blk_point [place t]

/-- The gradient put together. -/
theorem gradient (c : Dev nD) : (dats m 0 c).arrAt 6 cfg0.N
    = val_main_v6 (F := Ideal) (m ((c : Thread nD τ).loc main_arg0)) (m ((c : Thread nD τ).loc main_arg2))
        (m ((c : Thread nD τ).loc main_arg3)) := by
  refine (dats m 0 c).arrAt_eq_of_covers 6 _ (by decide +kernel) fun t hf y => ?_
  blk_simp
  rw [after0_6]
  frame_out
  rw [pay5, ref6, half t, core m c t]
  erw [row t y]
  blk_point [iblk, V, place t]

/-- The weights' changes. -/
theorem change (c : Dev nD) : (dats m 0 c).arrAt 7 cfg0.N
    = val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  blk_simp
  rw [after0_7]
  unfold_out out0_7
  frame_out
  rw [pay1, ref30, half t, core m c t]
  erw [row t y]
  blk_point [iblk, V, place t]

/-- The new first moments. -/
theorem first (c : Dev nD) : (dats m 0 c).arrAt 8 cfg0.N
    = val_main_v11 (F := Ideal) (m ((c : Thread nD τ).loc main_arg0)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp
  rw [after0_8]
  frame_out
  rw [pay2, pay7, ref11, half t, core m c t]
  erw [row t y]
  blk_point [iblk, V, place t]

/-- The new second moments. -/
theorem second (c : Dev nD) : (dats m 0 c).arrAt 9 cfg0.N
    = val_main_v17 (F := Ideal) (m ((c : Thread nD τ).loc main_arg0)) (m ((c : Thread nD τ).loc main_arg2))
        (m ((c : Thread nD τ).loc main_arg3)) (m ((c : Thread nD τ).loc main_arg5)) := by
  refine (dats m 0 c).arrAt_eq_of_covers 9 _ (by decide +kernel) fun t hf y => ?_
  blk_simp
  rw [after0_9]
  unfold_out out0_9
  frame_out
  rw [pay3, pay8, ref17, half t, core m c t]
  erw [row t y]
  blk_point [iblk, V, place t]

end Cert.AdamOutIdeal.Halves

namespace Cert.Proof

open Cert.AdamOutIdeal Cert.AdamOutReferenceIdeal

/-- The kernel and the reference compute the same gradient, changes and moments over the extended reals. -/
theorem algebraic_adamw_w_out : Cert.algebraic_AdamOutIdeal_AdamOutReferenceIdeal := by
  pair_intro
  · run_from Cert.AdamOutIdeal.Gen.run_main m g
  · refine Idealize.ShloMosaic.θ_run_mono (Cert.AdamOutReferenceIdeal.Value.run m' g') ?_
    intro r hr c
    obtain ⟨h0, h1, h2, h3, kept⟩ := hr c
    obtain ⟨a0, a1, a2, a3, a4, a5⟩ := hagree c
    refine ⟨(h0.trans (Read.val_main_v6_eq _ _ _)).trans ?_, (h1.trans (Read.val_main_v30_eq _ _ _ _ _ _)).trans ?_,
      (h2.trans (Read.val_main_v11_eq _ _ _ _)).trans ?_, (h3.trans (Read.val_main_v17_eq _ _ _ _)).trans ?_, kept⟩
      <;> simp only [a0, a1, a2, a3, a4, a5]
    · exact (Halves.gradient m c).symm
    · exact (Halves.change m c).symm
    · exact (Halves.first m c).symm
    · exact (Halves.second m c).symm

end Cert.Proof

end
-- ==== Proof.AdamSmall.lean ====
/-
  The optimiser on the small weights, packed as an array of 336 rows of 1024: of the weights, their gradients and the two
  moments the weights' changes and the new moments. Both programs work entry by entry; the kernel takes 168 rows a point.
-/
module

public import proofs.«01_k».proof.Proof.Gen.AdamSmallIdeal.Value
public import proofs.«01_k».proof.Proof.Gen.AdamSmallReferenceIdeal.Read
public import proofs.«01_k».proof.Proof.AdamStep
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamSmallIdeal.Packed

open Cert.AdamSmallIdeal Cert.AdamSmallIdeal.Gen
open Cert.AdamSmallReferenceIdeal.Read
open Cert.Proof

variable (m : (ℓ : Loc nD τ sig) → Buf (Elt Ideal) ℓ)

/-! ### The kernel's operations at an entry -/

theorem pay1 (g m : FVec Ideal S168x1024 .f32) (j : S168x1024.Idx) : k0_pay1 (F := Ideal) g m j = Adam.first (g j) (m j) := by
  unfold Adam.first
  pointwise [k0_pay1]

theorem pay2 (g v : FVec Ideal S168x1024 .f32) (j : S168x1024.Idx) : k0_pay2 (F := Ideal) g v j = Adam.second (g j) (v j) := by
  unfold Adam.second
  pointwise [k0_pay2]

theorem pay3 (w g m v : FVec Ideal S168x1024 .f32) (j : S168x1024.Idx) :
    k0_pay3 (F := Ideal) w g m v j = Adam.change (w j) (g j) (m j) (v j) := by
  unfold Adam.change
  pointwise [k0_pay3, pay1, pay2]

/-! ### The reference's results at an entry -/

theorem ref4 (g m : FVec Ideal S336x1024 .f32) (j : S336x1024.Idx) : val_main_v4 (F := Ideal) g m j = Adam.first (g j) (m j) := by
  unfold Adam.first
  pointwise [val_main_v4, val_main_v3, val_main_v2, val_main_v1, val_main_v0, val_main_cst, val_main_cst_0]

theorem ref10 (g v : FVec Ideal S336x1024 .f32) (j : S336x1024.Idx) : val_main_v10 (F := Ideal) g v j = Adam.second (g j) (v j) := by
  unfold Adam.second
  pointwise [val_main_v10, val_main_v9, val_main_v8, val_main_v7, val_main_v6, val_main_v5, val_main_cst_1, val_main_cst_2]

theorem ref23 (w g m v : FVec Ideal S336x1024 .f32) (j : S336x1024.Idx) :
    val_main_v23 (F := Ideal) w g m v j = Adam.change (w j) (g j) (m j) (v j) := by
  unfold Adam.change
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5, val_main_cst_6,
    val_main_cst_7, ref4, ref10]

/-! ### The kernel's three results -/

/-- Where the windows stand at each point. -/
theorem place : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The weights' changes. -/
theorem change (c : Dev nD) : (dats m 0 c).arrAt 4 cfg0.N
    = val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay3, ref23]
  blk_point [iblk, V, place t]

/-- The new first moments. -/
theorem first (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay1, ref4]
  blk_point [iblk, V, place t]

/-- The new second moments. -/
theorem second (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay2, ref10]
  blk_point [iblk, V, place t]

end Cert.AdamSmallIdeal.Packed

namespace Cert.Proof

open Cert.AdamSmallIdeal Cert.AdamSmallReferenceIdeal

/-- The kernel and the reference compute the same changes and moments over the extended reals. -/
theorem algebraic_adamw_small : Cert.algebraic_AdamSmallIdeal_AdamSmallReferenceIdeal := by
  pair_intro
  · run_from Cert.AdamSmallIdeal.Gen.run_main m g
  · refine Idealize.ShloMosaic.θ_run_mono (Cert.AdamSmallReferenceIdeal.Value.run m' g') ?_
    intro r hr c
    obtain ⟨h0, h1, h2, kept⟩ := hr c
    obtain ⟨a0, a1, a2, a3⟩ := hagree c
    refine ⟨(h0.trans (Read.val_main_v23_eq _ _ _ _)).trans ?_, (h1.trans (Read.val_main_v4_eq _ _)).trans ?_,
      (h2.trans (Read.val_main_v10_eq _ _)).trans ?_, kept⟩
      <;> simp only [a0, a1, a2, a3]
    · exact (Packed.change m c).symm
    · exact (Packed.first m c).symm
    · exact (Packed.second m c).symm

end Cert.Proof

end
-- ==== Proof.ConvRow.lean ====
/-
  The gradient of the short causal convolution of the deltanet's queries, keys and values, as both programs compute it.
  Row `R` of the convolution takes rows `R - 3, …, R` of the projection, with zeros before row 0. A silu follows, and on
  each head's queries and keys (128 channels each) an l2 normalisation. `dat` is the gradient that reaches the
  convolution's result; of it come the gradient of the projection, a convolution forward in time, and of the taps, a sum
  over all rows. Rows and channels are natural numbers here, with zeros outside the arrays.
-/
module

public import proofs.«01_k».proof.Proof.Gen.ConvBwdReferenceIdeal.Read
public import proofs.«01_k».proof.Defs
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ConvBwdIdeal.Conv

open Cert.ConvBwdReferenceIdeal
open Cert.ConvBwdReferenceIdeal.Read

/-! ### One head's channels of one row -/

/-- The silu of the convolution's value. -/
def act (x : EReal) : EReal := x * Ideal.logistic x

/-- The derivative of the silu at `x`, applied to `q`. -/
def rise (x q : EReal) : EReal :=
  q * Ideal.logistic x + x * q * (Ideal.logistic x * (1 - Ideal.logistic x))

/-- The sum of the squares, plus the epsilon. -/
def norm2 (c : Fin 128 → EReal) : EReal := (∑ l, act (c l) * act (c l)) + Ideal.ofBits .f32 0x358637BD#32

/-- What the channels are scaled by. -/
def spread (c : Fin 128 → EReal) : EReal := Ideal.rsqrt (norm2 c)

/-- The derivative of `spread` by `norm2`. -/
def slope (c : Fin 128 → EReal) : EReal := Ideal.ofBits .f32 0xBF000000#32 * Ideal.div (spread c) (norm2 c)

/-- What comes back to the channels through their norm. -/
def pull (c g : Fin 128 → EReal) : EReal := ∑ _ : Fin 1, (∑ l, act (c l) * g l) * slope c

/-- The gradient that reaches the normalised channels' silu. -/
def back (c g : Fin 128 → EReal) (l : Fin 128) : EReal :=
  g l * spread c + act (c l) * pull c g + pull c g * act (c l)

theorem rise_zero (x : EReal) : rise x 0 = 0 := by simp [rise]

theorem back_zero (c : Fin 128 → EReal) (l : Fin 128) : back c (fun _ => 0) l = 0 := by simp [back, pull]

/-! ### The whole arrays -/

section

variable (p : FVec Ideal S8192x7296 .f32) (w : FVec Ideal S4x3072 .f32) (g : FVec Ideal S8192x3072 .f32)

/-- The projection's row `R - 3`, zero where there is none. -/
def xat (R C : ℕ) : EReal :=
  if h : 3 ≤ R ∧ R < 8195 ∧ C < 3072 then p (ix2 ⟨R - 3, by omega⟩ ⟨C, by omega⟩) else 0

/-- Tap `k`. -/
def wat (k C : ℕ) : EReal := if h : k < 4 ∧ C < 3072 then w (ix2 ⟨k, h.1⟩ ⟨C, h.2⟩) else 0

/-- The cotangent, zero after the last row. -/
def gat (R C : ℕ) : EReal := if h : R < 8192 ∧ C < 3072 then g (ix2 ⟨R, h.1⟩ ⟨C, h.2⟩) else 0

/-- The convolution. -/
def conv (R C : ℕ) : EReal :=
  wat w 0 C * xat p R C + wat w 1 C * xat p (R + 1) C + wat w 2 C * xat p (R + 2) C + wat w 3 C * xat p (R + 3) C

/-- What the cotangent becomes before the silu's derivative: through the normalisation on queries and keys, as it is on
    values. -/
def mid (R C : ℕ) : EReal :=
  if C / 128 % 3 < 2 then back (fun l => conv p w R (C / 128 * 128 + l)) (fun l => gat g R (C / 128 * 128 + l))
    ⟨C % 128, Nat.mod_lt _ (by norm_num)⟩
  else gat g R C

/-- The gradient of the convolution's result. -/
def dat (R C : ℕ) : EReal := rise (conv p w R C) (mid p w g R C)

/-- The gradient of the projection. -/
def dxat (R C : ℕ) : EReal :=
  wat w 0 C * dat p w g (R + 3) C + wat w 1 C * dat p w g (R + 2) C + wat w 2 C * dat p w g (R + 1) C
    + wat w 3 C * dat p w g R C

theorem dat_of_le {R : ℕ} (h : 8192 ≤ R) (C : ℕ) : dat p w g R C = 0 := by
  have e : ∀ C, gat g R C = 0 := fun C => dif_neg (by omega)
  unfold dat mid
  simp only [e, back_zero, ite_self, rise_zero]

end

/-! ### The reference -/

section

variable (p : FVec Ideal S8192x7296 .f32) (w : FVec Ideal S4x3072 .f32) (g : FVec Ideal S8192x3072 .f32)

theorem ref2 (j : S8195x3072.Idx) : val_main_v2 (F := Ideal) p j = xat p (j 0) (j 1) := by
  unfold xat
  pointwise [val_main_v2, val_main_v1, val_main_v0, val_main_cst]
  by_cases h : (j 0).val < 3
  · rw [dif_pos h, dif_neg (by omega)]
  · rw [dif_neg h, dif_pos (by omega)]

theorem ref4 (j : S8192x3072.Idx) : val_main_v4 (F := Ideal) p j = xat p (j 0) (j 1) := by
  pointwise [val_main_v4, ref2]

theorem ref12 (j : S8192x3072.Idx) : val_main_v12 (F := Ideal) p j = xat p (j 0 + 1) (j 1) := by
  pointwise [val_main_v12, ref2]
  rw [Nat.add_comm]

theorem ref19 (j : S8192x3072.Idx) : val_main_v19 (F := Ideal) p j = xat p (j 0 + 2) (j 1) := by
  pointwise [val_main_v19, ref2]
  rw [Nat.add_comm]

theorem ref26 (j : S8192x3072.Idx) : val_main_v26 (F := Ideal) p j = xat p (j 0 + 3) (j 1) := by
  pointwise [val_main_v26, ref2]
  rw [Nat.add_comm]

theorem ref7 (j : S1x3072.Idx) : val_main_v7 (F := Ideal) w j = wat w 0 (j 1) := by
  have h := (j 1).isLt
  rw [wat, dif_pos ⟨by norm_num, h⟩]
  pointwise [val_main_v7, val_main_v6, val_main_v5]

theorem ref15 (j : S1x3072.Idx) : val_main_v15 (F := Ideal) w j = wat w 1 (j 1) := by
  have h := (j 1).isLt
  rw [wat, dif_pos ⟨by norm_num, h⟩]
  pointwise [val_main_v15, val_main_v14, val_main_v13]

theorem ref22 (j : S1x3072.Idx) : val_main_v22 (F := Ideal) w j = wat w 2 (j 1) := by
  have h := (j 1).isLt
  rw [wat, dif_pos ⟨by norm_num, h⟩]
  pointwise [val_main_v22, val_main_v21, val_main_v20]

theorem ref29 (j : S1x3072.Idx) : val_main_v29 (F := Ideal) w j = wat w 3 (j 1) := by
  have h := (j 1).isLt
  rw [wat, dif_pos ⟨by norm_num, h⟩]
  pointwise [val_main_v29, val_main_v28, val_main_v27]

theorem ref32 (j : S8192x3072.Idx) : val_main_v32 (F := Ideal) p w j = conv p w (j 0) (j 1) := by
  unfold conv
  pointwise [val_main_v32, val_main_v31, val_main_v30, val_main_v25, val_main_v24, val_main_v23, val_main_v18,
    val_main_v17, val_main_v16, val_main_v11, val_main_v10, val_main_cst_1, val_main_v9, val_main_v8, ref4, ref12, ref19,
    ref26, ref7, ref15, ref22, ref29]
  simp only [zero_add, mul_comm]

theorem logistic_at (x : EReal) : Ideal.div 1 (1 + Ideal.exp (-x)) = Ideal.logistic x := rfl

theorem ref33_2 (j : S8192x3072.Idx) : val_main_v33_2 (F := Ideal) p w j = Ideal.logistic (conv p w (j 0) (j 1)) := by
  rw [← logistic_at]
  pointwise [val_main_v33_2, val_main_call0_v4, val_main_call0_cst_0, val_main_call0_v3, val_main_call0_v2,
    val_main_call0_cst, val_main_call0_v1, val_main_call0_v0, ref32]

theorem ref33_0 (j : S8192x3072.Idx) : val_main_v33_0 (F := Ideal) p w j = act (conv p w (j 0) (j 1)) := by
  unfold act
  pointwise [val_main_v33_0, ref33_2, ref32]

/-- The queries. -/
theorem ref36 (j : S8192x8x128.Idx) :
    val_main_v36 (F := Ideal) p w j = act (conv p w (j 0) (384 * (j 1).val + (j 2).val)) := by
  pointwise [val_main_v36, val_main_v35, val_main_v34, ref33_0]
  rw [Nat.mul_comm]

/-- The keys. -/
theorem ref38 (j : S8192x8x128.Idx) :
    val_main_v38 (F := Ideal) p w j = act (conv p w (j 0) (384 * (j 1).val + 128 + (j 2).val)) := by
  pointwise [val_main_v38, val_main_v37, val_main_v34, ref33_0]
  rw [Nat.mul_comm]

theorem ref68 (j : S8192x8x3x128.Idx) :
    val_main_v68 (F := Ideal) g j = gat g (j 0) (384 * (j 1).val + 128 * (j 2).val + (j 3).val) := by
  unfold gat
  pointwise [val_main_v68]
  have h1 : (j 1).val < 8 := (j 1).isLt
  have h2 : (j 2).val < 3 := (j 2).isLt
  have h3 : (j 3).val < 128 := (j 3).isLt
  rw [dif_pos (by omega)]
  exact congrArg (fun a => g (ix2 (j 0) a)) (Fin.ext (by show (j 1).val * 384 + (j 2).val * 128 + (j 3).val = 384 * (j 1).val + 128 * (j 2).val + (j 3).val; omega))

theorem ref70 (j : S8192x8x128.Idx) : val_main_v70 (F := Ideal) g j = gat g (j 0) (384 * (j 1).val + (j 2).val) := by
  pointwise [val_main_v70, val_main_v69, ref68]

theorem ref72 (j : S8192x8x128.Idx) :
    val_main_v72 (F := Ideal) g j = gat g (j 0) (384 * (j 1).val + 128 + (j 2).val) := by
  pointwise [val_main_v72, val_main_v71, ref68]

theorem ref74 (j : S8192x8x128.Idx) :
    val_main_v74 (F := Ideal) g j = gat g (j 0) (384 * (j 1).val + 256 + (j 2).val) := by
  pointwise [val_main_v74, val_main_v73, ref68]

/-- The gradient of the queries. -/
theorem ref98 (j : S8192x8x128.Idx) : val_main_v98 (F := Ideal) p w g j
    = back (fun l => conv p w (j 0) (384 * (j 1).val + l)) (fun l => gat g (j 0) (384 * (j 1).val + l)) (j 2) := by
  unfold back pull slope spread norm2
  pointwise [val_main_v98, val_main_v97, val_main_v96, val_main_v95, val_main_v94, val_main_v93, val_main_cst_11,
    val_main_v92, val_main_v91, val_main_v90, val_main_v89, val_main_v88, val_main_cst_10, val_main_v87, val_main_v49,
    val_main_v48, val_main_cst_4, val_main_v47, val_main_v46, val_main_v45, val_main_v44, val_main_cst_3, val_main_v43,
    val_main_v42, val_main_cst_2, val_main_v41, ref36, ref70]

/-- The gradient of the keys. -/
theorem ref86 (j : S8192x8x128.Idx) : val_main_v86 (F := Ideal) p w g j
    = back (fun l => conv p w (j 0) (384 * (j 1).val + 128 + l)) (fun l => gat g (j 0) (384 * (j 1).val + 128 + l)) (j 2) := by
  unfold back pull slope spread norm2
  pointwise [val_main_v86, val_main_v85, val_main_v84, val_main_v83, val_main_v82, val_main_v81, val_main_cst_9,
    val_main_v80, val_main_v79, val_main_v78, val_main_v77, val_main_v76, val_main_cst_8, val_main_v75, val_main_v60,
    val_main_v59, val_main_cst_7, val_main_v58, val_main_v57, val_main_v56, val_main_v55, val_main_cst_6, val_main_v54,
    val_main_v53, val_main_cst_5, val_main_v52, ref38, ref72]

/-- The three parts of a head's channels, padded with zeros to all of them and added. -/
theorem chosen {C : ℕ} (hC : C < 3072) (G B : ℕ → EReal) :
    (((if h : C / 384 < 8 ∧ (2 ≤ C / 128 % 3 ∧ C / 128 % 3 - 2 < 1) ∧ C % 128 < 128 then G (384 * (C / 384) + 256 + C % 128) else 0)
      + if h : C / 384 < 8 ∧ (1 ≤ C / 128 % 3 ∧ C / 128 % 3 - 1 < 1) ∧ C % 128 < 128 then B (384 * (C / 384) + 128) else 0)
      + if h : C / 384 < 8 ∧ C / 128 % 3 < 1 ∧ C % 128 < 128 then B (384 * (C / 384)) else 0)
      = if C / 128 % 3 < 2 then B (C / 128 * 128) else G C := by
  obtain h | h | h : C / 128 % 3 = 0 ∨ C / 128 % 3 = 1 ∨ C / 128 % 3 = 2 := by omega
  · rw [dif_neg (by omega), dif_neg (by omega), dif_pos (by omega), if_pos (by omega), zero_add, zero_add,
      show C / 128 * 128 = 384 * (C / 384) by omega]
  · rw [dif_neg (by omega), dif_pos (by omega), dif_neg (by omega), if_pos (by omega), zero_add, add_zero,
      show C / 128 * 128 = 384 * (C / 384) + 128 by omega]
  · rw [dif_pos (by omega), dif_neg (by omega), dif_neg (by omega), if_neg (by omega), add_zero, add_zero,
      show 384 * (C / 384) + 256 + C % 128 = C by omega]

theorem ref107 (j : S8192x3072.Idx) : val_main_v107 (F := Ideal) p w g j = mid p w g (j 0) (j 1) := by
  unfold mid
  pointwise [val_main_v107, val_main_v106, val_main_v105, val_main_v104, val_main_cst_14, val_main_v103, val_main_v102,
    val_main_v101, val_main_cst_13, val_main_v100, val_main_v99, val_main_cst_12, ref98, ref86, ref74]
  exact chosen (j 1).isLt (gat g (j 0)) fun b => back (fun l => conv p w (j 0) (b + l)) (fun l => gat g (j 0) (b + l))
    ⟨(j 1).val % 128, Nat.mod_lt _ (by norm_num)⟩

theorem ref108 (j : S8192x3072.Idx) : val_main_v108 (F := Ideal) p w g j = dat p w g (j 0) (j 1) := by
  unfold dat rise
  pointwise [val_main_v108, val_main_call1_v2, val_main_call1_v1, val_main_call1_v0, val_main_v33_1, val_main_call0_v7,
    val_main_call0_v6, val_main_call0_cst_1, ref33_2, ref32, ref107]

/-- The gradient of the projection. -/
theorem ref153 (j : S8192x3072.Idx) : val_main_v153 (F := Ideal) p w g j = dxat p w g (j 0) (j 1) := by
  unfold dxat
  pointwise [val_main_v153, val_main_v152, val_main_v150, val_main_v149, val_main_cst_30, val_main_v144, val_main_v143,
    val_main_v139, val_main_v138, val_main_cst_26, val_main_v133, val_main_v132, val_main_v128, val_main_v127,
    val_main_cst_22, val_main_v122, val_main_v121, val_main_v117, val_main_cst_18, val_main_v113, val_main_v112, ref108,
    ref7, ref15, ref22, ref29]
  have q : ∀ {A : Prop} [Decidable A] (R : ℕ) (v : EReal), (¬A → 8192 ≤ R) →
      (if h : A then dat p w g R (j 1) * v else 0) = v * dat p w g R (j 1) := by
    intro A _ R v hA
    split_ifs with h
    · exact mul_comm _ _
    · rw [dat_of_le p w g (hA h), mul_zero]
  rw [q _ _ (by omega), q _ _ (by omega), q _ _ (by omega), show 3 + (j 0).val - 2 = (j 0).val + 1 by omega,
    show 3 + (j 0).val - 1 = (j 0).val + 2 by omega, Nat.add_comm 3]
  ac_rfl

/-- The gradient of the taps. -/
theorem ref148 (j : S4x3072.Idx) : val_main_v148 (F := Ideal) p w g j
    = ∑ k : Fin 8192, dat p w g k (j 1) * xat p (k + (j 0)) (j 1) := by
  pointwise [val_main_v148, val_main_v147, val_main_cst_29, val_main_v146, val_main_v145, val_main_cst_28, val_main_v142,
    val_main_v141, val_main_cst_27, val_main_v140, val_main_v137, val_main_v136, val_main_cst_25, val_main_v135,
    val_main_v134, val_main_cst_24, val_main_v131, val_main_v130, val_main_cst_23, val_main_v129, val_main_v126,
    val_main_v125, val_main_cst_21, val_main_v124, val_main_v123, val_main_cst_20, val_main_v120, val_main_v119,
    val_main_cst_19, val_main_v118, val_main_v116, val_main_cst_17, val_main_v115, val_main_v114, val_main_cst_16,
    val_main_v111, val_main_v110, val_main_cst_15, val_main_v109, ref108, ref4, ref12, ref19, ref26]
  have h4 : (j 0).val < 4 := (j 0).isLt
  obtain h | h | h | h : (j 0).val = 0 ∨ (j 0).val = 1 ∨ (j 0).val = 2 ∨ (j 0).val = 3 := by omega
  all_goals simp [h, mul_comm]

end

end Cert.ConvBwdIdeal.Conv

end
-- ==== Proof.ConvBlock.lean ====
/-
  The kernel of the short convolution's gradient, at one point of its grid: 384 channels (one head's queries, keys and
  values) of 512 rows. It lays 8 rows before them, the 512 rows and 8 rows after them in one buffer, convolves rows 0 to
  519, takes the gradient of each of these rows, and convolves those back in time. `bufK` and `dbufK` are the two buffers.
-/
module

public import proofs.«01_k».proof.Proof.Gen.ConvBwdIdeal.Value
public import proofs.«01_k».proof.Proof.ConvRow
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Conv

open Cert.ConvBwdIdeal Cert.ConvBwdIdeal.Gen

/-! ### The operations of a point -/

/-- The gradient of one channel of a head's queries or keys, of the convolution's values `c` and the cotangent `g`. -/
def unit (c g : Fin 128 → EReal) (l : Fin 128) : EReal := rise (c l) (back c g l)

theorem row512 (y : S512x128.Idx) : (y 0).val < 520 := by have h : (y 0).val < 512 := (y 0).isLt; omega
theorem row8 (y : S8x128.Idx) : 512 + (y 0).val < 520 := by have h : (y 0).val < 8 := (y 0).isLt; omega
theorem col512 (y : S512x128.Idx) : 256 + (y 1).val < 384 := by have h : (y 1).val < 128 := (y 1).isLt; omega
theorem col8 (y : S8x128.Idx) : 256 + (y 1).val < 384 := by have h : (y 1).val < 128 := (y 1).isLt; omega

section

variable (v56 : FVec Ideal S520x384 .f32) (v60 : FVec Ideal S8x384 .f32)

theorem first_at : ∀ k : Fin 16, Scalar.cmpi .sgt (BitVec.ofNat 32 k.val) 0#32 = if k.val = 0 then 0#1 else 1#1 := by decide

theorem last_at : ∀ k : Fin 16, Scalar.cmpi .slt (BitVec.ofNat 32 k.val) 15#32 = if k.val = 15 then 0#1 else 1#1 := by decide

theorem pay4 (i : grid0.Coords) (x : FVec Ideal S8x384 .f32) (y : S8x384.Idx) :
    k0_pay4 (F := Ideal) i x y = if (i 1).val = 0 then 0 else x y := by
  have e := first_at (i 1)
  by_cases h : (i 1).val = 0
  · rw [if_pos h] at e ⊢
    pointwise [k0_pay4, e]
  · rw [if_neg h] at e ⊢
    pointwise [k0_pay4, e]

theorem pay12 (i : grid0.Coords) (x : FVec Ideal S8x384 .f32) (y : S8x384.Idx) :
    k0_pay12 (F := Ideal) (BitVec.ofNat 32 (i 1).val) x y = if (i 1).val = 15 then 0 else x y := by
  have e := last_at (i 1)
  by_cases h : (i 1).val = 15
  · rw [if_pos h] at e ⊢
    pointwise [k0_pay12, e]
  · rw [if_neg h] at e ⊢
    pointwise [k0_pay12, e]

theorem pay5 (x : FVec Ideal S512x384 .f32) (y : S512x384.Idx) : k0_pay5 (F := Ideal) x y = x y := by pointwise [k0_pay5]
theorem pay6 (x : FVec Ideal S8x384 .f32) (y : S8x384.Idx) : k0_pay6 (F := Ideal) x y = x y := by pointwise [k0_pay6]

theorem pay13 (d : FVec Ideal S512x128 .f32) (y : S512x128.Idx) : k0_pay13 (F := Ideal) v56 d y
    = unit (fun l => v56 (ix2 (⟨(y 0).val, row512 y⟩) (⟨l.val, by omega⟩))) (fun l => d (ix2 (y 0) l)) (y 1) := by
  unfold unit rise back pull slope spread norm2 act
  pointwise [k0_pay13]

theorem pay17 (y : S8x128.Idx) : k0_pay17 (F := Ideal) v60 (k0_pay14 v56) (k0_pay15 v56) (k0_pay16 v56) y
    = unit (fun l => v56 (ix2 (⟨512 + (y 0).val, row8 y⟩) (⟨l.val, by omega⟩)))
        (fun l => v60 (ix2 (y 0) (⟨l.val, by omega⟩))) (y 1) := by
  unfold unit rise back pull slope spread norm2 act
  pointwise [k0_pay17, k0_pay16, k0_pay15, k0_pay14]

theorem pay25 (d : FVec Ideal S512x128 .f32) (y : S512x128.Idx) :
    k0_pay25 (F := Ideal) (k0_pay18 v56) (k0_pay19 v56) (k0_pay20 v56) (k0_pay21 v56) (k0_pay23 v56) (k0_pay24 v56) d y
    = unit (fun l => v56 (ix2 (⟨(y 0).val, row512 y⟩) ⟨128 + l.val, by omega⟩)) (fun l => d (ix2 (y 0) l)) (y 1) := by
  unfold unit rise back pull slope spread norm2 act
  pointwise [k0_pay25, k0_pay24, k0_pay23, k0_pay22, k0_pay21, k0_pay20, k0_pay19, k0_pay18]

theorem pay35 (y : S8x128.Idx) :
    k0_pay35 (F := Ideal) (k0_pay26 v56) (k0_pay27 v56) (k0_pay28 v56) (k0_pay29 v56) (k0_pay33 v56 v60) (k0_pay34 v56 v60) y
    = unit (fun l => v56 (ix2 (⟨512 + (y 0).val, row8 y⟩) ⟨128 + l.val, by omega⟩))
        (fun l => v60 (ix2 (y 0) ⟨128 + l.val, by omega⟩)) (y 1) := by
  unfold unit rise back pull slope spread norm2 act
  pointwise [k0_pay35, k0_pay34, k0_pay33, k0_pay32, k0_pay31, k0_pay30, k0_pay29, k0_pay28, k0_pay27, k0_pay26]

theorem pay36 (d : FVec Ideal S512x128 .f32) (y : S512x128.Idx) : k0_pay36 (F := Ideal) v56 d y
    = rise (v56 (ix2 (⟨(y 0).val, row512 y⟩) (⟨256 + (y 1).val, col512 y⟩))) (d y) := by
  unfold rise
  pointwise [k0_pay36]

theorem pay37 (y : S8x128.Idx) : k0_pay37 (F := Ideal) v56 v60 y
    = rise (v56 (ix2 (⟨512 + (y 0).val, row8 y⟩) (⟨256 + (y 1).val, col8 y⟩))) (v60 (ix2 (y 0) (⟨256 + (y 1).val, col8 y⟩))) := by
  unfold rise
  pointwise [k0_pay37]

end

/-! ### The buffers of a point -/

/-- The rows that are convolved. -/
def bufK (a : FVec Ideal S8x384 .f32) (b : FVec Ideal S512x384 .f32) (c : FVec Ideal S8x384 .f32) : FVec Ideal S528x384 .f32 :=
  fun y => if h : (y 0).val < 8 then a (ix2 ⟨(y 0).val, h⟩ (y 1))
    else if h' : (y 0).val < 520 then b (ix2 ⟨(y 0).val - 8, by omega⟩ (y 1))
    else c (ix2 ⟨(y 0).val - 520, by have h : (y 0).val < 528 := (y 0).isLt; omega⟩ (y 1))

/-- The cotangent of the rows that are convolved, of the 512 rows and the 8 after them. -/
def cotK (d : FVec Ideal S512x384 .f32) (v60 : FVec Ideal S8x384 .f32) : FVec Ideal S520x384 .f32 :=
  fun y => if h : (y 0).val < 512 then d (ix2 ⟨(y 0).val, h⟩ (y 1))
    else v60 (ix2 ⟨(y 0).val - 512, by have h : (y 0).val < 520 := (y 0).isLt; omega⟩ (y 1))

/-- The gradient of these rows. -/
def dbufK (v56 : FVec Ideal S520x384 .f32) (d : FVec Ideal S512x384 .f32) (v60 : FVec Ideal S8x384 .f32) : FVec Ideal S520x384 .f32 :=
  fun y => if h : (y 1).val < 256 then
      unit (fun l => v56 (ix2 (y 0) ⟨(y 1).val / 128 * 128 + l.val, by omega⟩))
        (fun l => cotK d v60 (ix2 (y 0) ⟨(y 1).val / 128 * 128 + l.val, by omega⟩)) ⟨(y 1).val % 128, Nat.mod_lt _ (by norm_num)⟩
    else rise (v56 y) (cotK d v60 y)

/-- The first 512 rows. -/
def topd (b : FVec Ideal S520x384 .f32) : FVec Ideal S512x384 .f32 :=
  fun y => b (ix2 ⟨(y 0).val, by have h : (y 0).val < 512 := (y 0).isLt; omega⟩ (y 1))

theorem cot_lo (d : FVec Ideal S512x384 .f32) (v60 : FVec Ideal S8x384 .f32) (i : Fin 520) (j : Fin 384) (h : i.val < 512) :
    cotK d v60 (ix2 i j) = d (ix2 ⟨i.val, h⟩ j) := dif_pos h

theorem cot_hi (d : FVec Ideal S512x384 .f32) (v60 : FVec Ideal S8x384 .f32) (i : Fin 520) (j : Fin 384) (h : ¬ i.val < 512) :
    cotK d v60 (ix2 i j) = v60 (ix2 ⟨i.val - 512, by omega⟩ j) := dif_neg h

theorem eta2 {m n : ℕ} (x : (⟨2, ![m, n]⟩ : Shape).Idx) : x = ix2 (x 0) (x 1) := by
  funext a
  fin_cases a <;> rfl

/-! ### Stores read back -/

theorem at_congr {m n : ℕ} (f : (⟨2, ![m, n]⟩ : Shape).Idx → EReal) {i i' : Fin m} {j j' : Fin n} (hi : i.val = i'.val)
    (hj : j.val = j'.val) : f (ix2 i j) = f (ix2 i' j') := by
  rw [Fin.ext hi, Fin.ext hj]

theorem unit_congr {c c' g g' : Fin 128 → EReal} {l l' : Fin 128} (hc : ∀ k, c k = c' k) (hg : ∀ k, g k = g' k)
    (hl : l.val = l'.val) : unit c g l = unit c' g' l' := by
  rw [funext hc, funext hg, Fin.ext hl]

theorem canon3 (a : FVec Ideal S8x384 .f32) (b : FVec Ideal S512x384 .f32) (c : FVec Ideal S8x384 .f32) (ha hb hc)
    (j : S528x384.Idx) :
    View.canon (Val := Elt Ideal) (e := .f32) [⟨Rect.unit (s := S528x384) ![520, 0] ![8, 384] hc, c⟩,
        ⟨Rect.unit (s := S528x384) ![8, 0] ![512, 384] hb, b⟩, ⟨Rect.unit (s := S528x384) ![0, 0] ![8, 384] ha, a⟩] j
      = bufK a b c j := by
  unfold bufK
  have j0 : (j 0).val < 528 := (j 0).isLt
  have j1 : (j 1).val < 384 := (j 1).isLt
  have hcover : ∃ p ∈ ([⟨Rect.unit (s := S528x384) ![520, 0] ![8, 384] hc, c⟩,
        ⟨Rect.unit (s := S528x384) ![8, 0] ![512, 384] hb, b⟩, ⟨Rect.unit (s := S528x384) ![0, 0] ![8, 384] ha, a⟩] :
        List (View.Piece (Elt Ideal) S528x384 .f32)), j ∈ p.1.set := by
    simp [Rect.mem_set_unit, Fin.forall_fin_two]
    omega
  canon_tiles x h using hcover
  · rw [dif_neg (by omega), dif_neg (by omega)]
    exact (congrArg c (eta2 x)).trans (at_congr c (by show (x 0).val = (j 0).val - 520; omega) (by omega))
  · rw [dif_neg (by omega), dif_pos (by omega)]
    exact (congrArg b (eta2 x)).trans (at_congr b (by show (x 0).val = (j 0).val - 8; omega) (by omega))
  · rw [dif_pos (by omega)]
    exact (congrArg a (eta2 x)).trans (at_congr a (by show (x 0).val = (j 0).val; omega) (by omega))

theorem whole3 {sig : RefSig} {κ : Kind} {sp : Space} (v : View sig κ sp S528x384 .f32) (a : FVec Ideal S8x384 .f32)
    (b : FVec Ideal S512x384 .f32) (c : FVec Ideal S8x384 .f32) (ha hb hc hw) :
    v.readCov (Val := Elt Ideal) [⟨Rect.unit (s := S528x384) ![520, 0] ![8, 384] hc, c⟩,
        ⟨Rect.unit (s := S528x384) ![8, 0] ![512, 384] hb, b⟩, ⟨Rect.unit (s := S528x384) ![0, 0] ![8, 384] ha, a⟩]
      (Rect.unit (s := S528x384) ![0, 0] ![528, 384] hw).toLoadRect = bufK a b c := by
  rw [View.readCov_eq_canon']
  funext j
  have e : (Rect.unit (s := S528x384) ![0, 0] ![528, 384] hw).toLoadRect.idx j = j := by
    funext a
    fin_cases a
    · exact Fin.ext (by show 0 + 1 * (j 0).val = (j 0).val; omega)
    · exact Fin.ext (by show 0 + 1 * (j 1).val = (j 1).val; omega)
  rw [e]
  exact canon3 a b c ha hb hc j

/-- Three blocks of 128 columns side by side. -/
def joind (d0 d1 d2 : FVec Ideal S512x128 .f32) : FVec Ideal S512x384 .f32 :=
  fun y => if h : (y 1).val < 128 then d0 (ix2 (y 0) ⟨(y 1).val, h⟩)
    else if h' : (y 1).val < 256 then d1 (ix2 (y 0) ⟨(y 1).val - 128, by omega⟩)
    else d2 (ix2 (y 0) ⟨(y 1).val - 256, by have h : (y 1).val < 384 := (y 1).isLt; omega⟩)

section

variable (d0 d1 d2 : FVec Ideal S512x128 .f32) (i : Fin 512) (j : Fin 384)

theorem join0 (h : j.val < 128) : joind d0 d1 d2 (ix2 i j) = d0 (ix2 i ⟨j.val, h⟩) := dif_pos h

theorem join1 (h : ¬ j.val < 128) (h' : j.val < 256) : joind d0 d1 d2 (ix2 i j) = d1 (ix2 i ⟨j.val - 128, by omega⟩) :=
  (dif_neg h).trans (dif_pos h')

theorem join2 (h : ¬ j.val < 256) : joind d0 d1 d2 (ix2 i j) = d2 (ix2 i ⟨j.val - 256, by omega⟩) :=
  (dif_neg (by show ¬ j.val < 128; omega)).trans (dif_neg h)

end

theorem canon_d (v56 : FVec Ideal S520x384 .f32) (d0 d1 d2 : FVec Ideal S512x128 .f32) (v60 : FVec Ideal S8x384 .f32)
    (h1 h2 h3 h4 h5 h6) (y : S520x384.Idx) :
    View.canon (Val := Elt Ideal) (e := .f32)
      [⟨Rect.unit (s := S520x384) ![512, 256] ![8, 128] h1, k0_pay37 (F := Ideal) v56 v60⟩,
       ⟨Rect.unit (s := S520x384) ![0, 256] ![512, 128] h2,
        k0_pay36 (F := Ideal) v56 d2⟩,
       ⟨Rect.unit (s := S520x384) ![512, 128] ![8, 128] h3,
        k0_pay35 (F := Ideal) (k0_pay26 v56) (k0_pay27 v56) (k0_pay28 v56) (k0_pay29 v56) (k0_pay33 v56 v60) (k0_pay34 v56 v60)⟩,
       ⟨Rect.unit (s := S520x384) ![0, 128] ![512, 128] h4,
        k0_pay25 (F := Ideal) (k0_pay18 v56) (k0_pay19 v56) (k0_pay20 v56) (k0_pay21 v56) (k0_pay23 v56) (k0_pay24 v56)
          d1⟩,
       ⟨Rect.unit (s := S520x384) ![512, 0] ![8, 128] h5,
        k0_pay17 (F := Ideal) v60 (k0_pay14 v56) (k0_pay15 v56) (k0_pay16 v56)⟩,
       ⟨Rect.unit (s := S520x384) ![0, 0] ![512, 128] h6,
        k0_pay13 (F := Ideal) v56 d0⟩] y = dbufK v56 (joind d0 d1 d2) v60 y := by
  unfold dbufK
  have y0 : (y 0).val < 520 := (y 0).isLt
  have y1 : (y 1).val < 384 := (y 1).isLt
  have hcover : ∃ p ∈ (
      [⟨Rect.unit (s := S520x384) ![512, 256] ![8, 128] h1, k0_pay37 (F := Ideal) v56 v60⟩,
       ⟨Rect.unit (s := S520x384) ![0, 256] ![512, 128] h2,
        k0_pay36 (F := Ideal) v56 d2⟩,
       ⟨Rect.unit (s := S520x384) ![512, 128] ![8, 128] h3,
        k0_pay35 (F := Ideal) (k0_pay26 v56) (k0_pay27 v56) (k0_pay28 v56) (k0_pay29 v56) (k0_pay33 v56 v60) (k0_pay34 v56 v60)⟩,
       ⟨Rect.unit (s := S520x384) ![0, 128] ![512, 128] h4,
        k0_pay25 (F := Ideal) (k0_pay18 v56) (k0_pay19 v56) (k0_pay20 v56) (k0_pay21 v56) (k0_pay23 v56) (k0_pay24 v56)
          d1⟩,
       ⟨Rect.unit (s := S520x384) ![512, 0] ![8, 128] h5,
        k0_pay17 (F := Ideal) v60 (k0_pay14 v56) (k0_pay15 v56) (k0_pay16 v56)⟩,
       ⟨Rect.unit (s := S520x384) ![0, 0] ![512, 128] h6,
        k0_pay13 (F := Ideal) v56 d0⟩] :
        List (View.Piece (Elt Ideal) S520x384 .f32)), y ∈ p.1.set := by
    simp [Rect.mem_set_unit, Fin.forall_fin_two]
    omega
  canon_tiles x h using hcover
  · rw [dif_neg (by omega), pay37]
    refine congr_arg₂ rise ((at_congr v56 (by show 512 + (x 0).val = (y 0).val; omega) (by show 256 + (x 1).val = (y 1).val; omega)).trans (congrArg v56 (eta2 y).symm)) ?_
    refine Eq.trans ?_ (congrArg (cotK (joind d0 d1 d2) v60) (eta2 y).symm)
    refine Eq.trans ?_ (cot_hi (joind d0 d1 d2) v60 (y 0) _ (by omega)).symm
    exact at_congr v60 (by show (x 0).val = (y 0).val - 512; omega) (by show 256 + (x 1).val = (y 1).val; omega)
  · rw [dif_neg (by omega), pay36]
    refine congr_arg₂ rise ((at_congr v56 (by show (x 0).val = (y 0).val; omega) (by show 256 + (x 1).val = (y 1).val; omega)).trans (congrArg v56 (eta2 y).symm)) ?_
    refine Eq.trans ?_ (congrArg (cotK (joind d0 d1 d2) v60) (eta2 y).symm)
    refine Eq.trans ?_ (cot_lo (joind d0 d1 d2) v60 (y 0) _ (by omega)).symm
    refine (congrArg d2 (eta2 x)).trans ?_
    refine Eq.trans ?_ (join2 d0 d1 d2 _ (y 1) (by omega)).symm
    exact at_congr d2 (by show (x 0).val = (y 0).val; omega) (by show (x 1).val = (y 1).val - 256; omega)
  · rw [dif_pos (by omega), pay35]
    refine unit_congr (fun l => at_congr v56 (by show 512 + (x 0).val = (y 0).val; omega) (by show 128 + l.val = (y 1).val / 128 * 128 + l.val; omega)) (fun l => ?_)
      (by show (x 1).val = (y 1).val % 128; omega)
    refine Eq.trans ?_ (cot_hi (joind d0 d1 d2) v60 (y 0) _ (by omega)).symm
    exact at_congr v60 (by show (x 0).val = (y 0).val - 512; omega) (by show 128 + l.val = (y 1).val / 128 * 128 + l.val; omega)
  · rw [dif_pos (by omega), pay25]
    refine unit_congr (fun l => at_congr v56 (by show (x 0).val = (y 0).val; omega) (by show 128 + l.val = (y 1).val / 128 * 128 + l.val; omega)) (fun l => ?_)
      (by show (x 1).val = (y 1).val % 128; omega)
    refine Eq.trans ?_ (cot_lo (joind d0 d1 d2) v60 (y 0) _ (by omega)).symm
    refine Eq.trans ?_ (join1 d0 d1 d2 _ _ (by show ¬ (y 1).val / 128 * 128 + l.val < 128; omega) (by show (y 1).val / 128 * 128 + l.val < 256; omega)).symm
    exact at_congr d1 (by show (x 0).val = (y 0).val; omega) (by show l.val = (y 1).val / 128 * 128 + l.val - 128; omega)
  · rw [dif_pos (by omega), pay17]
    refine unit_congr (fun l => at_congr v56 (by show 512 + (x 0).val = (y 0).val; omega) (by show l.val = (y 1).val / 128 * 128 + l.val; omega)) (fun l => ?_)
      (by show (x 1).val = (y 1).val % 128; omega)
    refine Eq.trans ?_ (cot_hi (joind d0 d1 d2) v60 (y 0) _ (by omega)).symm
    exact at_congr v60 (by show (x 0).val = (y 0).val - 512; omega) (by show l.val = (y 1).val / 128 * 128 + l.val; omega)
  · rw [dif_pos (by omega), pay13]
    refine unit_congr (fun l => at_congr v56 (by show (x 0).val = (y 0).val; omega) (by show l.val = (y 1).val / 128 * 128 + l.val; omega)) (fun l => ?_)
      (by show (x 1).val = (y 1).val % 128; omega)
    refine Eq.trans ?_ (cot_lo (joind d0 d1 d2) v60 (y 0) _ (by omega)).symm
    refine Eq.trans ?_ (join0 d0 d1 d2 _ _ (by show (y 1).val / 128 * 128 + l.val < 128; omega)).symm
    exact at_congr d0 (by show (x 0).val = (y 0).val; omega) (by show l.val = (y 1).val / 128 * 128 + l.val; omega)

theorem whole_d {sig : RefSig} {κ : Kind} {sp : Space} (v : View sig κ sp S520x384 .f32) (v56 : FVec Ideal S520x384 .f32)
    (d0 d1 d2 : FVec Ideal S512x128 .f32) (v60 : FVec Ideal S8x384 .f32) (h1 h2 h3 h4 h5 h6 hw) :
    v.readCov (Val := Elt Ideal)
      [⟨Rect.unit (s := S520x384) ![512, 256] ![8, 128] h1, k0_pay37 (F := Ideal) v56 v60⟩,
       ⟨Rect.unit (s := S520x384) ![0, 256] ![512, 128] h2,
        k0_pay36 (F := Ideal) v56 d2⟩,
       ⟨Rect.unit (s := S520x384) ![512, 128] ![8, 128] h3,
        k0_pay35 (F := Ideal) (k0_pay26 v56) (k0_pay27 v56) (k0_pay28 v56) (k0_pay29 v56) (k0_pay33 v56 v60) (k0_pay34 v56 v60)⟩,
       ⟨Rect.unit (s := S520x384) ![0, 128] ![512, 128] h4,
        k0_pay25 (F := Ideal) (k0_pay18 v56) (k0_pay19 v56) (k0_pay20 v56) (k0_pay21 v56) (k0_pay23 v56) (k0_pay24 v56)
          d1⟩,
       ⟨Rect.unit (s := S520x384) ![512, 0] ![8, 128] h5,
        k0_pay17 (F := Ideal) v60 (k0_pay14 v56) (k0_pay15 v56) (k0_pay16 v56)⟩,
       ⟨Rect.unit (s := S520x384) ![0, 0] ![512, 128] h6,
        k0_pay13 (F := Ideal) v56 d0⟩]
      (Rect.unit (s := S520x384) ![0, 0] ![520, 384] hw).toLoadRect = dbufK v56 (joind d0 d1 d2) v60 := by
  rw [View.readCov_eq_canon']
  funext j
  have e : (Rect.unit (s := S520x384) ![0, 0] ![520, 384] hw).toLoadRect.idx j = j := by
    funext a
    fin_cases a
    · exact Fin.ext (by show 0 + 1 * (j 0).val = (j 0).val; omega)
    · exact Fin.ext (by show 0 + 1 * (j 1).val = (j 1).val; omega)
  rw [e]
  exact canon_d v56 d0 d1 d2 v60 h1 h2 h3 h4 h5 h6 _

theorem part_d {sig : RefSig} {κ : Kind} {sp : Space} (v : View sig κ sp S520x384 .f32) (v56 : FVec Ideal S520x384 .f32)
    (d0 d1 d2 : FVec Ideal S512x128 .f32) (v60 : FVec Ideal S8x384 .f32) (h1 h2 h3 h4 h5 h6 hw) :
    v.readCov (Val := Elt Ideal)
      [⟨Rect.unit (s := S520x384) ![512, 256] ![8, 128] h1, k0_pay37 (F := Ideal) v56 v60⟩,
       ⟨Rect.unit (s := S520x384) ![0, 256] ![512, 128] h2,
        k0_pay36 (F := Ideal) v56 d2⟩,
       ⟨Rect.unit (s := S520x384) ![512, 128] ![8, 128] h3,
        k0_pay35 (F := Ideal) (k0_pay26 v56) (k0_pay27 v56) (k0_pay28 v56) (k0_pay29 v56) (k0_pay33 v56 v60) (k0_pay34 v56 v60)⟩,
       ⟨Rect.unit (s := S520x384) ![0, 128] ![512, 128] h4,
        k0_pay25 (F := Ideal) (k0_pay18 v56) (k0_pay19 v56) (k0_pay20 v56) (k0_pay21 v56) (k0_pay23 v56) (k0_pay24 v56)
          d1⟩,
       ⟨Rect.unit (s := S520x384) ![512, 0] ![8, 128] h5,
        k0_pay17 (F := Ideal) v60 (k0_pay14 v56) (k0_pay15 v56) (k0_pay16 v56)⟩,
       ⟨Rect.unit (s := S520x384) ![0, 0] ![512, 128] h6,
        k0_pay13 (F := Ideal) v56 d0⟩]
      (Rect.unit (s := S520x384) ![0, 0] ![512, 384] hw).toLoadRect = topd (dbufK v56 (joind d0 d1 d2) v60) := by
  rw [View.readCov_eq_canon']
  funext j
  have e : (Rect.unit (s := S520x384) ![0, 0] ![512, 384] hw).toLoadRect.idx j
      = (ix2 ⟨(j 0).val, by have h : (j 0).val < 512 := (j 0).isLt; omega⟩ (j 1) : S520x384.Idx) := by
    funext a
    fin_cases a
    · exact Fin.ext (by show 0 + 1 * (j 0).val = (j 0).val; omega)
    · exact Fin.ext (by show 0 + 1 * (j 1).val = (j 1).val; omega)
  rw [e]
  exact canon_d v56 d0 d1 d2 v60 h1 h2 h3 h4 h5 h6 _

theorem part_d' {sig : RefSig} {κ : Kind} {sp : Space} (v : View sig κ sp S520x384 .f32) (v56 : FVec Ideal S520x384 .f32)
    (d0 d1 d2 : FVec Ideal S512x128 .f32) (v60 : FVec Ideal S8x384 .f32) (h2 h3 h4 h5 h6 hw) :
    v.readCov (Val := Elt Ideal)
      [⟨Rect.unit (s := S520x384) ![0, 256] ![512, 128] h2,
        k0_pay36 (F := Ideal) v56 d2⟩,
       ⟨Rect.unit (s := S520x384) ![512, 128] ![8, 128] h3,
        k0_pay35 (F := Ideal) (k0_pay26 v56) (k0_pay27 v56) (k0_pay28 v56) (k0_pay29 v56) (k0_pay33 v56 v60) (k0_pay34 v56 v60)⟩,
       ⟨Rect.unit (s := S520x384) ![0, 128] ![512, 128] h4,
        k0_pay25 (F := Ideal) (k0_pay18 v56) (k0_pay19 v56) (k0_pay20 v56) (k0_pay21 v56) (k0_pay23 v56) (k0_pay24 v56)
          d1⟩,
       ⟨Rect.unit (s := S520x384) ![512, 0] ![8, 128] h5,
        k0_pay17 (F := Ideal) v60 (k0_pay14 v56) (k0_pay15 v56) (k0_pay16 v56)⟩,
       ⟨Rect.unit (s := S520x384) ![0, 0] ![512, 128] h6,
        k0_pay13 (F := Ideal) v56 d0⟩]
      (Rect.unit (s := S520x384) ![0, 0] ![512, 384] hw).toLoadRect = topd (dbufK v56 (joind d0 d1 d2) v60) :=
  (View.readCov_skip v (Rect.unit (s := S520x384) ![512, 256] ![8, 128] (by decide)) (k0_pay37 (F := Ideal) v56 v60) _ _ rfl).symm.trans
    (part_d v v56 d0 d1 d2 v60 (by decide) h2 h3 h4 h5 h6 hw)

end Cert.ConvBwdIdeal.Conv

end
-- ==== Proof.ConvSlot.lean ====
/-
  The stacks of shifted copies in the kernel of the short convolution's gradient. Four slots hold the buffer of rows, moved
  up by 0, 5, 6 and 7 rows; four more hold the rows' gradient, moved up by 0, 1, 2 and 3 rows. What is read of a slot is
  `from520`, `from512` or `dfrom512` of the buffer: its rows from a given one on.
-/
module

public import proofs.«01_k».proof.Proof.Gen.ConvBwdIdeal.Value
public import proofs.«01_k».proof.Proof.ConvBlock
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Conv

open Cert.ConvBwdIdeal Cert.ConvBwdIdeal.Gen

/-! ### The operations of a point -/

def from520 (b : FVec Ideal S528x384 .f32) (o : ℕ) (ho : o + 520 ≤ 528) : FVec Ideal S1x520x384 .f32 :=
  fun x => b (ix2 ⟨o + (x 1).val, by have h : (x 1).val < 520 := (x 1).isLt; omega⟩ (x 2))

def from512 (b : FVec Ideal S528x384 .f32) (o : ℕ) (ho : o + 512 ≤ 528) : FVec Ideal S1x512x384 .f32 :=
  fun x => b (ix2 ⟨o + (x 1).val, by have h : (x 1).val < 512 := (x 1).isLt; omega⟩ (x 2))

def dfrom512 (b : FVec Ideal S520x384 .f32) (o : ℕ) (ho : o + 512 ≤ 520) : FVec Ideal S1x512x384 .f32 :=
  fun x => b (ix2 ⟨o + (x 1).val, by have h : (x 1).val < 512 := (x 1).isLt; omega⟩ (x 2))

theorem slot520_idx (k off : ℕ) (hk hb) (ho : off + 520 ≤ 528) (x : S1x520x384.Idx) :
    (Rect.unit (s := S4x528x384) ![k, off, 0] ![1, 520, 384] hb).toLoadRect.idx x
      = (Rect.unit (s := S4x528x384) ![k, 0, 0] ![1, 528, 384] hk).emb
        (ix3 0 ⟨off + (x 1).val, by have h : (x 1).val < 520 := (x 1).isLt; omega⟩ (x 2) : S1x528x384.Idx) := by
  have hx : (x 0).val < 1 := (x 0).isLt
  funext a
  refine Fin.ext ?_
  match a with
  | 0 => show k + 1 * (x 0).val = k + 1 * 0; omega
  | 1 => show off + 1 * (x 1).val = 0 + 1 * (off + (x 1).val); omega
  | 2 => show 0 + 1 * (x 2).val = 0 + 1 * (x 2).val; rfl

theorem slot520 {sig : RefSig} {κ : Kind} {sp : Space} (v : View sig κ sp S4x528x384 .f32) (k off : ℕ) (hk hb)
    (w : FVec Ideal S1x528x384 .f32) (L : List (View.Piece (Elt Ideal) S4x528x384 .f32)) (ho : off + 520 ≤ 528)
    (f : FVec Ideal S1x520x384 .f32)
    (hf : ∀ x : S1x520x384.Idx, w (ix3 0 ⟨off + (x 1).val, by have h : (x 1).val < 520 := (x 1).isLt; omega⟩ (x 2)) = f x) :
    v.readCov (Val := Elt Ideal) (⟨Rect.unit (s := S4x528x384) ![k, 0, 0] ![1, 528, 384] hk, w⟩ :: L)
        (Rect.unit (s := S4x528x384) ![k, off, 0] ![1, 520, 384] hb).toLoadRect = f := by
  refine (View.readCov_eq_canon' v _ _).trans ?_
  funext x
  rw [slot520_idx k off hk hb ho x]
  rw [View.canon_cons_emb]
  exact hf x

theorem slot512_idx (k off : ℕ) (hk hb) (ho : off + 512 ≤ 528) (x : S1x512x384.Idx) :
    (Rect.unit (s := S4x528x384) ![k, off, 0] ![1, 512, 384] hb).toLoadRect.idx x
      = (Rect.unit (s := S4x528x384) ![k, 0, 0] ![1, 528, 384] hk).emb
        (ix3 0 ⟨off + (x 1).val, by have h : (x 1).val < 512 := (x 1).isLt; omega⟩ (x 2) : S1x528x384.Idx) := by
  have hx : (x 0).val < 1 := (x 0).isLt
  funext a
  refine Fin.ext ?_
  match a with
  | 0 => show k + 1 * (x 0).val = k + 1 * 0; omega
  | 1 => show off + 1 * (x 1).val = 0 + 1 * (off + (x 1).val); omega
  | 2 => show 0 + 1 * (x 2).val = 0 + 1 * (x 2).val; rfl

theorem slot512 {sig : RefSig} {κ : Kind} {sp : Space} (v : View sig κ sp S4x528x384 .f32) (k off : ℕ) (hk hb)
    (w : FVec Ideal S1x528x384 .f32) (L : List (View.Piece (Elt Ideal) S4x528x384 .f32)) (ho : off + 512 ≤ 528)
    (f : FVec Ideal S1x512x384 .f32)
    (hf : ∀ x : S1x512x384.Idx, w (ix3 0 ⟨off + (x 1).val, by have h : (x 1).val < 512 := (x 1).isLt; omega⟩ (x 2)) = f x) :
    v.readCov (Val := Elt Ideal) (⟨Rect.unit (s := S4x528x384) ![k, 0, 0] ![1, 528, 384] hk, w⟩ :: L)
        (Rect.unit (s := S4x528x384) ![k, off, 0] ![1, 512, 384] hb).toLoadRect = f := by
  refine (View.readCov_eq_canon' v _ _).trans ?_
  funext x
  rw [slot512_idx k off hk hb ho x]
  rw [View.canon_cons_emb]
  exact hf x

theorem dslot512_idx (k off : ℕ) (hk hb) (ho : off + 512 ≤ 520) (x : S1x512x384.Idx) :
    (Rect.unit (s := S4x520x384) ![k, off, 0] ![1, 512, 384] hb).toLoadRect.idx x
      = (Rect.unit (s := S4x520x384) ![k, 0, 0] ![1, 520, 384] hk).emb
        (ix3 0 ⟨off + (x 1).val, by have h : (x 1).val < 512 := (x 1).isLt; omega⟩ (x 2) : S1x520x384.Idx) := by
  have hx : (x 0).val < 1 := (x 0).isLt
  funext a
  refine Fin.ext ?_
  match a with
  | 0 => show k + 1 * (x 0).val = k + 1 * 0; omega
  | 1 => show off + 1 * (x 1).val = 0 + 1 * (off + (x 1).val); omega
  | 2 => show 0 + 1 * (x 2).val = 0 + 1 * (x 2).val; rfl

theorem dslot512 {sig : RefSig} {κ : Kind} {sp : Space} (v : View sig κ sp S4x520x384 .f32) (k off : ℕ) (hk hb)
    (w : FVec Ideal S1x520x384 .f32) (L : List (View.Piece (Elt Ideal) S4x520x384 .f32)) (ho : off + 512 ≤ 520)
    (f : FVec Ideal S1x512x384 .f32)
    (hf : ∀ x : S1x512x384.Idx, w (ix3 0 ⟨off + (x 1).val, by have h : (x 1).val < 512 := (x 1).isLt; omega⟩ (x 2)) = f x) :
    v.readCov (Val := Elt Ideal) (⟨Rect.unit (s := S4x520x384) ![k, 0, 0] ![1, 520, 384] hk, w⟩ :: L)
        (Rect.unit (s := S4x520x384) ![k, off, 0] ![1, 512, 384] hb).toLoadRect = f := by
  refine (View.readCov_eq_canon' v _ _).trans ?_
  funext x
  rw [dslot512_idx k off hk hb ho x]
  rw [View.canon_cons_emb]
  exact hf x

/-! ### The shifted copies -/

theorem pay7 (b : FVec Ideal S528x384 .f32) (r : Fin 528) (q : Fin 384) :
    k0_pay7 (F := Ideal) b (ix3 0 r q) = b (ix2 r q) := by
  pointwise [k0_pay7]

theorem pay38 (b : FVec Ideal S520x384 .f32) (r : Fin 520) (q : Fin 384) :
    k0_pay38 (F := Ideal) b (ix3 0 r q) = b (ix2 r q) := by
  pointwise [k0_pay38]

theorem pay8 (b : FVec Ideal S528x384 .f32) (r : Fin 528) (q : Fin 384) (h : r.val + 5 < 528) :
    k0_pay8 (F := Ideal) b (ix3 0 r q) = b (ix2 ⟨r.val + 5, h⟩ q) := by
  pointwise [k0_pay8]
  exact at_congr b (by show (r.val + 528 - 523) % 528 = r.val + 5; omega) rfl

theorem pay9 (b : FVec Ideal S528x384 .f32) (r : Fin 528) (q : Fin 384) (h : r.val + 6 < 528) :
    k0_pay9 (F := Ideal) b 522#32 (ix3 0 r q) = b (ix2 ⟨r.val + 6, h⟩ q) := by
  pointwise [k0_pay9]
  exact at_congr b (by show (r.val + 528 - 522) % 528 = r.val + 6; omega) rfl

theorem pay10 (b : FVec Ideal S528x384 .f32) (r : Fin 528) (q : Fin 384) (h : r.val + 7 < 528) :
    k0_pay10 (F := Ideal) b (ix3 0 r q) = b (ix2 ⟨r.val + 7, h⟩ q) := by
  pointwise [k0_pay10]
  exact at_congr b (by show (r.val + 528 - 521) % 528 = r.val + 7; omega) rfl

theorem pay39 (b : FVec Ideal S520x384 .f32) (r : Fin 520) (q : Fin 384) (h : r.val + 1 < 520) :
    k0_pay39 (F := Ideal) b (ix3 0 r q) = b (ix2 ⟨r.val + 1, h⟩ q) := by
  pointwise [k0_pay39]
  exact at_congr b (by show (r.val + 520 - 519) % 520 = r.val + 1; omega) rfl

theorem pay40 (b : FVec Ideal S520x384 .f32) (r : Fin 520) (q : Fin 384) (h : r.val + 2 < 520) :
    k0_pay40 (F := Ideal) b (ix3 0 r q) = b (ix2 ⟨r.val + 2, h⟩ q) := by
  pointwise [k0_pay40]
  exact at_congr b (by show (r.val + 520 - 518) % 520 = r.val + 2; omega) rfl

theorem pay41 (b : FVec Ideal S520x384 .f32) (r : Fin 520) (q : Fin 384) (h : r.val + 3 < 520) :
    k0_pay41 (F := Ideal) b (ix3 0 r q) = b (ix2 ⟨r.val + 3, h⟩ q) := by
  pointwise [k0_pay41]
  exact at_congr b (by show (r.val + 520 - 517) % 520 = r.val + 3; omega) rfl

/-! ### The slots read -/

theorem read0_520 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![0, 0, 0] ![1, 528, 384] hk, k0_pay7 (F := Ideal) b⟩ :: L)
        (Rect.unit (s := S4x528x384) ![0, 8, 0] ![1, 520, 384] hb).toLoadRect = from520 b 8 (by norm_num) :=
  slot520 v 0 8 hk hb _ L (by norm_num) _ fun x => (pay7 b _ _).trans rfl

theorem read1_520 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![1, 0, 0] ![1, 528, 384] hk, k0_pay8 (F := Ideal) b⟩ :: L)
        (Rect.unit (s := S4x528x384) ![1, 0, 0] ![1, 520, 384] hb).toLoadRect = from520 b 5 (by norm_num) :=
  slot520 v 1 0 hk hb _ L (by norm_num) _ fun x => (pay8 b _ _ (by have h : (x 1).val < 520 := (x 1).isLt; show 0 + (x 1).val + 5 < 528; omega)).trans (at_congr b (by show 0 + (x 1).val + 5 = 5 + (x 1).val; omega) rfl)

theorem read2_520 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![2, 0, 0] ![1, 528, 384] hk, k0_pay9 (F := Ideal) b 522#32⟩ :: L)
        (Rect.unit (s := S4x528x384) ![2, 0, 0] ![1, 520, 384] hb).toLoadRect = from520 b 6 (by norm_num) :=
  slot520 v 2 0 hk hb _ L (by norm_num) _ fun x => (pay9 b _ _ (by have h : (x 1).val < 520 := (x 1).isLt; show 0 + (x 1).val + 6 < 528; omega)).trans (at_congr b (by show 0 + (x 1).val + 6 = 6 + (x 1).val; omega) rfl)

theorem read3_520 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![3, 0, 0] ![1, 528, 384] hk, k0_pay10 (F := Ideal) b⟩ :: L)
        (Rect.unit (s := S4x528x384) ![3, 0, 0] ![1, 520, 384] hb).toLoadRect = from520 b 7 (by norm_num) :=
  slot520 v 3 0 hk hb _ L (by norm_num) _ fun x => (pay10 b _ _ (by have h : (x 1).val < 520 := (x 1).isLt; show 0 + (x 1).val + 7 < 528; omega)).trans (at_congr b (by show 0 + (x 1).val + 7 = 7 + (x 1).val; omega) rfl)

theorem read0_512 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![0, 0, 0] ![1, 528, 384] hk, k0_pay7 (F := Ideal) b⟩ :: L)
        (Rect.unit (s := S4x528x384) ![0, 8, 0] ![1, 512, 384] hb).toLoadRect = from512 b 8 (by norm_num) :=
  slot512 v 0 8 hk hb _ L (by norm_num) _ fun x => (pay7 b _ _).trans rfl

theorem read1_512 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![1, 0, 0] ![1, 528, 384] hk, k0_pay8 (F := Ideal) b⟩ :: L)
        (Rect.unit (s := S4x528x384) ![1, 0, 0] ![1, 512, 384] hb).toLoadRect = from512 b 5 (by norm_num) :=
  slot512 v 1 0 hk hb _ L (by norm_num) _ fun x => (pay8 b _ _ (by have h : (x 1).val < 512 := (x 1).isLt; show 0 + (x 1).val + 5 < 528; omega)).trans (at_congr b (by show 0 + (x 1).val + 5 = 5 + (x 1).val; omega) rfl)

theorem read2_512 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![2, 0, 0] ![1, 528, 384] hk, k0_pay9 (F := Ideal) b 522#32⟩ :: L)
        (Rect.unit (s := S4x528x384) ![2, 0, 0] ![1, 512, 384] hb).toLoadRect = from512 b 6 (by norm_num) :=
  slot512 v 2 0 hk hb _ L (by norm_num) _ fun x => (pay9 b _ _ (by have h : (x 1).val < 512 := (x 1).isLt; show 0 + (x 1).val + 6 < 528; omega)).trans (at_congr b (by show 0 + (x 1).val + 6 = 6 + (x 1).val; omega) rfl)

theorem read3_512 {sig : RefSig} {κ : Kind} {sp : Space} (v : View sig κ sp S4x528x384 .f32) (hk hb) (b : FVec Ideal S528x384 .f32)
    (L : List (View.Piece (Elt Ideal) S4x528x384 .f32)) :
    v.readCov (Val := Elt Ideal) (⟨Rect.unit (s := S4x528x384) ![3, 0, 0] ![1, 528, 384] hk, k0_pay10 (F := Ideal) b⟩ :: L)
        (Rect.unit (s := S4x528x384) ![3, 0, 0] ![1, 512, 384] hb).toLoadRect = from512 b 7 (by norm_num) :=
  slot512 v 3 0 hk hb _ L (by norm_num) _ fun x => (pay10 b _ _ (by have h : (x 1).val < 512 := (x 1).isLt; show 0 + (x 1).val + 7 < 528; omega)).trans (at_congr b (by show 0 + (x 1).val + 7 = 7 + (x 1).val; omega) rfl)

theorem dread0 {sig : RefSig} {κ : Kind} {sp : Space} (v : View sig κ sp S4x520x384 .f32) (hk hb) (b : FVec Ideal S520x384 .f32)
    (L : List (View.Piece (Elt Ideal) S4x520x384 .f32)) :
    v.readCov (Val := Elt Ideal) (⟨Rect.unit (s := S4x520x384) ![0, 0, 0] ![1, 520, 384] hk, k0_pay38 (F := Ideal) b⟩ :: L)
        (Rect.unit (s := S4x520x384) ![0, 0, 0] ![1, 512, 384] hb).toLoadRect = dfrom512 b 0 (by norm_num) :=
  dslot512 v 0 0 hk hb _ L (by norm_num) _ fun x => (pay38 b _ _).trans (at_congr b (by show 0 + (x 1).val = 0 + (x 1).val; rfl) rfl)

theorem dread1 {sig : RefSig} {κ : Kind} {sp : Space} (v : View sig κ sp S4x520x384 .f32) (hk hb) (b : FVec Ideal S520x384 .f32)
    (L : List (View.Piece (Elt Ideal) S4x520x384 .f32)) :
    v.readCov (Val := Elt Ideal) (⟨Rect.unit (s := S4x520x384) ![1, 0, 0] ![1, 520, 384] hk, k0_pay39 (F := Ideal) b⟩ :: L)
        (Rect.unit (s := S4x520x384) ![1, 0, 0] ![1, 512, 384] hb).toLoadRect = dfrom512 b 1 (by norm_num) :=
  dslot512 v 1 0 hk hb _ L (by norm_num) _ fun x => (pay39 b _ _ (by have h : (x 1).val < 512 := (x 1).isLt; show 0 + (x 1).val + 1 < 520; omega)).trans (at_congr b (by show 0 + (x 1).val + 1 = 1 + (x 1).val; omega) rfl)

theorem dread2 {sig : RefSig} {κ : Kind} {sp : Space} (v : View sig κ sp S4x520x384 .f32) (hk hb) (b : FVec Ideal S520x384 .f32)
    (L : List (View.Piece (Elt Ideal) S4x520x384 .f32)) :
    v.readCov (Val := Elt Ideal) (⟨Rect.unit (s := S4x520x384) ![2, 0, 0] ![1, 520, 384] hk, k0_pay40 (F := Ideal) b⟩ :: L)
        (Rect.unit (s := S4x520x384) ![2, 0, 0] ![1, 512, 384] hb).toLoadRect = dfrom512 b 2 (by norm_num) :=
  dslot512 v 2 0 hk hb _ L (by norm_num) _ fun x => (pay40 b _ _ (by have h : (x 1).val < 512 := (x 1).isLt; show 0 + (x 1).val + 2 < 520; omega)).trans (at_congr b (by show 0 + (x 1).val + 2 = 2 + (x 1).val; omega) rfl)

theorem dread3 {sig : RefSig} {κ : Kind} {sp : Space} (v : View sig κ sp S4x520x384 .f32) (hk hb) (b : FVec Ideal S520x384 .f32)
    (L : List (View.Piece (Elt Ideal) S4x520x384 .f32)) :
    v.readCov (Val := Elt Ideal) (⟨Rect.unit (s := S4x520x384) ![3, 0, 0] ![1, 520, 384] hk, k0_pay41 (F := Ideal) b⟩ :: L)
        (Rect.unit (s := S4x520x384) ![3, 0, 0] ![1, 512, 384] hb).toLoadRect = dfrom512 b 3 (by norm_num) :=
  dslot512 v 3 0 hk hb _ L (by norm_num) _ fun x => (pay41 b _ _ (by have h : (x 1).val < 512 := (x 1).isLt; show 0 + (x 1).val + 3 < 520; omega)).trans (at_congr b (by show 0 + (x 1).val + 3 = 3 + (x 1).val; omega) rfl)

/-! ### The convolutions of a point -/

theorem pay11 (a0 a1 a2 a3 : FVec Ideal S1x384 .f32) (s0 s1 s2 s3 : FVec Ideal S1x520x384 .f32) (y : S520x384.Idx) :
    k0_pay11 (F := Ideal) a0 s0 a1 s1 a2 s2 a3 s3 y
      = a0 (ix2 0 (y 1)) * s0 (ix3 0 (y 0) (y 1)) + a1 (ix2 0 (y 1)) * s1 (ix3 0 (y 0) (y 1))
        + a2 (ix2 0 (y 1)) * s2 (ix3 0 (y 0) (y 1)) + a3 (ix2 0 (y 1)) * s3 (ix3 0 (y 0) (y 1)) := by
  pointwise [k0_pay11]

theorem pay2 (a0 a1 a2 a3 : FVec Ideal S1x384 .f32) (s0 s1 s2 s3 : FVec Ideal S1x512x384 .f32) (y : S512x384.Idx) :
    k0_pay2 (F := Ideal) (k0_pay45 (k0_pay42 a0 s0) a1 s1 a2 s2) a3 s3 y
      = a0 (ix2 0 (y 1)) * s0 (ix3 0 (y 0) (y 1)) + a1 (ix2 0 (y 1)) * s1 (ix3 0 (y 0) (y 1))
        + a2 (ix2 0 (y 1)) * s2 (ix3 0 (y 0) (y 1)) + a3 (ix2 0 (y 1)) * s3 (ix3 0 (y 0) (y 1)) := by
  pointwise [k0_pay2, k0_pay45, k0_pay42]

theorem pay43 (d : FVec Ideal S512x384 .f32) (a : FVec Ideal S1x384 .f32) (s : FVec Ideal S1x512x384 .f32) (y : S1x384.Idx) :
    k0_pay43 (F := Ideal) d a s y = a y + ∑ r : Fin 512, d (ix2 r (y 1)) * s (ix3 0 r (y 1)) := by
  pointwise [k0_pay43]

theorem pay44 (d : FVec Ideal S512x384 .f32) (a : FVec Ideal S1x384 .f32) (s : FVec Ideal S1x512x384 .f32) (y : S1x384.Idx) :
    k0_pay44 (F := Ideal) d a s y = a y + ∑ r : Fin 512, d (ix2 r (y 1)) * s (ix3 0 r (y 1)) := by
  pointwise [k0_pay44]

theorem pay46 (d : FVec Ideal S512x384 .f32) (a : FVec Ideal S1x384 .f32) (s : FVec Ideal S1x512x384 .f32) (y : S1x384.Idx) :
    k0_pay46 (F := Ideal) d a s y = a y + ∑ r : Fin 512, d (ix2 r (y 1)) * s (ix3 0 r (y 1)) := by
  pointwise [k0_pay46]

theorem pay1 (d : FVec Ideal S512x384 .f32) (a : FVec Ideal S1x384 .f32) (s : FVec Ideal S1x512x384 .f32) (y : S1x384.Idx) :
    k0_pay1 (F := Ideal) d a s y = a y + ∑ r : Fin 512, d (ix2 r (y 1)) * s (ix3 0 r (y 1)) := by
  pointwise [k0_pay1]

end Cert.ConvBwdIdeal.Conv

end
-- ==== Proof.ConvPoint.lean ====
/-
  The buffers of the short convolution's gradient at each point of the kernel's grid, in terms of the arrays: point `t`
  stands at rows `512 (t % 16), …` and channels `384 (t / 16), …`. The buffer's row `r` is row `512 (t % 16) + r - 8` of the
  projection and the gradient's row `r` is row `512 (t % 16) + r`; the rows that lie outside the arrays count as zeros,
  which the kernel's two masks see to.
-/
module

public import proofs.«01_k».proof.Proof.Gen.ConvBwdIdeal.Value
public import proofs.«01_k».proof.Proof.ConvSlot
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Conv

open Cert.ConvBwdIdeal Cert.ConvBwdIdeal.Gen

/-! ### The operations of a point -/

variable (m : (ℓ : Loc nD τ sig) → Buf (Elt Ideal) ℓ) (c : Dev nD) (t : Fin cfg0.N)

/-- The projection, the taps and the cotangent. -/
abbrev P : FVec Ideal S8192x7296 .f32 := m ((c : Thread nD τ).loc main_arg0)
abbrev W : FVec Ideal S4x3072 .f32 := m ((c : Thread nD τ).loc main_arg1)
abbrev G : FVec Ideal S8192x3072 .f32 := m ((c : Thread nD τ).loc main_arg2)

/-- Where the windows stand at each point. -/
theorem place : ∀ t : Fin cfg0.N, win0_0.index t = ![t.val % 16 * 64 - 1, t.val / 16]
    ∧ win0_1.index t = ![t.val % 16, t.val / 16] ∧ win0_2.index t = ![min ((t.val % 16 + 1) * 64) 1023, t.val / 16]
    ∧ win0_3.index t = ![0, t.val / 16] ∧ win0_4.index t = ![t.val % 16, t.val / 16]
    ∧ win0_5.index t = ![min ((t.val % 16 + 1) * 64) 1023, t.val / 16] ∧ win0_6.index t = ![t.val % 16, t.val / 16]
    ∧ win0_7.index t = ![0, t.val / 16] :=
  (by decide +kernel : ∀ t : Fin grid0.N, _)

theorem coord : ∀ t : Fin cfg0.N, (grid0.coords t 1).val = t.val % 16 := (by decide +kernel : ∀ t : Fin grid0.N, _)

theorem lt128 : t.val < 128 := lt_of_lt_of_eq t.isLt (by decide +kernel)

/-! ### The windows -/

theorem blk0 (r : Fin 8) (q : Fin 384) : (iblk m c 0 t : FVec Ideal S8x384 .f32) (ix2 r q)
    = P m c (ix2 ⟨(t.val % 16 * 64 - 1) * 8 + r.val, by omega⟩ ⟨t.val / 16 * 384 + q.val, by have := lt128 t; omega⟩) := by
  blk_point [iblk, V, place t]

theorem blk1 (r : Fin 512) (q : Fin 384) : (iblk m c 1 t : FVec Ideal S512x384 .f32) (ix2 r q)
    = P m c (ix2 ⟨t.val % 16 * 512 + r.val, by omega⟩ ⟨t.val / 16 * 384 + q.val, by have := lt128 t; omega⟩) := by
  blk_point [iblk, V, place t]

theorem blk2 (r : Fin 8) (q : Fin 384) : (iblk m c 2 t : FVec Ideal S8x384 .f32) (ix2 r q)
    = P m c (ix2 ⟨min ((t.val % 16 + 1) * 64) 1023 * 8 + r.val, by omega⟩ ⟨t.val / 16 * 384 + q.val, by have := lt128 t; omega⟩) := by
  blk_point [iblk, V, place t]

theorem blk3 (r : Fin 4) (q : Fin 384) : (iblk m c 3 t : FVec Ideal S4x384 .f32) (ix2 r q)
    = W m c (ix2 r ⟨t.val / 16 * 384 + q.val, by have := lt128 t; omega⟩) := by
  blk_point [iblk, V, place t]

theorem blk4 (r : Fin 512) (q : Fin 384) : (iblk m c 4 t : FVec Ideal S512x384 .f32) (ix2 r q)
    = G m c (ix2 ⟨t.val % 16 * 512 + r.val, by omega⟩ ⟨t.val / 16 * 384 + q.val, by have := lt128 t; omega⟩) := by
  blk_point [iblk, V, place t]

theorem blk5 (r : Fin 8) (q : Fin 384) : (iblk m c 5 t : FVec Ideal S8x384 .f32) (ix2 r q)
    = G m c (ix2 ⟨min ((t.val % 16 + 1) * 64) 1023 * 8 + r.val, by omega⟩ ⟨t.val / 16 * 384 + q.val, by have := lt128 t; omega⟩) := by
  blk_point [iblk, V, place t]

/-! ### The buffer of rows -/

/-- The buffer of rows at point `t`. -/
def bufP : FVec Ideal S528x384 .f32 :=
  bufK (k0_pay4 (grid0.coords t) (iblk m c 0 t)) (k0_pay5 (iblk m c 1 t)) (k0_pay6 (iblk m c 2 t))

theorem buf_at (r : Fin 528) (q : Fin 384) (h5 : 5 ≤ r.val) (h : r.val < 520 ∨ t.val % 16 < 15) (R C : ℕ)
    (hR : R = 512 * (t.val % 16) + r.val - 5) (hC : C = 384 * (t.val / 16) + q.val) :
    bufP m c t (ix2 r q) = xat (P m c) R C := by
  have ht := lt128 t
  unfold bufP bufK xat
  by_cases h8 : r.val < 8
  · refine (dif_pos h8).trans ((pay4 _ _ _).trans ?_)
    rw [coord t]
    by_cases h0 : t.val % 16 = 0
    · rw [if_pos h0, dif_neg (by omega)]
    · rw [if_neg h0, dif_pos (by omega)]
      refine (blk0 m c t _ _).trans (at_congr (P m c) ?_ ?_)
      · show (t.val % 16 * 64 - 1) * 8 + r.val = R - 3
        omega
      · show t.val / 16 * 384 + q.val = C
        omega
  · refine (dif_neg h8).trans ?_
    by_cases h9 : r.val < 520
    · refine (dif_pos h9).trans ((pay5 _ _).trans ?_)
      rw [dif_pos (by omega)]
      refine (blk1 m c t _ _).trans (at_congr (P m c) ?_ ?_)
      · show t.val % 16 * 512 + (r.val - 8) = R - 3
        omega
      · show t.val / 16 * 384 + q.val = C
        omega
    · refine (dif_neg h9).trans ((pay6 _ _).trans ?_)
      rw [dif_pos (by omega)]
      refine (blk2 m c t _ _).trans (at_congr (P m c) ?_ ?_)
      · show min ((t.val % 16 + 1) * 64) 1023 * 8 + (r.val - 520) = R - 3
        omega
      · show t.val / 16 * 384 + q.val = C
        omega

theorem tap0 (z : Fin 1) (q : Fin 384) (C : ℕ) (hC : C = 384 * (t.val / 16) + q.val) :
    (View.ld (iblk m c 3 t) (Rect.unit ![0, 0] ![1, 384] inb_S4x384_S1x384_0_0) : FVec Ideal S1x384 .f32) (ix2 z q) = wat (W m c) 0 C := by
  have ht := lt128 t
  refine (View.ld_unit_apply_of _ _ _ _ _ (ix2 (0 : Fin 4) q : S4x384.Idx) fun a => ?_).trans ?_
  · fin_cases a
    · show 0 = 0 + z.val
      omega
    · show q.val = 0 + q.val
      omega
  · rw [wat, dif_pos ⟨by norm_num, by omega⟩]
    refine (blk3 m c t _ _).trans (at_congr (W m c) rfl ?_)
    show t.val / 16 * 384 + q.val = C
    omega

theorem tap1 (z : Fin 1) (q : Fin 384) (C : ℕ) (hC : C = 384 * (t.val / 16) + q.val) :
    (View.ld (iblk m c 3 t) (Rect.unit ![1, 0] ![1, 384] inb_S4x384_S1x384_1_0) : FVec Ideal S1x384 .f32) (ix2 z q) = wat (W m c) 1 C := by
  have ht := lt128 t
  refine (View.ld_unit_apply_of _ _ _ _ _ (ix2 (1 : Fin 4) q : S4x384.Idx) fun a => ?_).trans ?_
  · fin_cases a
    · show 1 = 1 + z.val
      omega
    · show q.val = 0 + q.val
      omega
  · rw [wat, dif_pos ⟨by norm_num, by omega⟩]
    refine (blk3 m c t _ _).trans (at_congr (W m c) rfl ?_)
    show t.val / 16 * 384 + q.val = C
    omega

theorem tap2 (z : Fin 1) (q : Fin 384) (C : ℕ) (hC : C = 384 * (t.val / 16) + q.val) :
    (View.ld (iblk m c 3 t) (Rect.unit ![2, 0] ![1, 384] inb_S4x384_S1x384_2_0) : FVec Ideal S1x384 .f32) (ix2 z q) = wat (W m c) 2 C := by
  have ht := lt128 t
  refine (View.ld_unit_apply_of _ _ _ _ _ (ix2 (2 : Fin 4) q : S4x384.Idx) fun a => ?_).trans ?_
  · fin_cases a
    · show 2 = 2 + z.val
      omega
    · show q.val = 0 + q.val
      omega
  · rw [wat, dif_pos ⟨by norm_num, by omega⟩]
    refine (blk3 m c t _ _).trans (at_congr (W m c) rfl ?_)
    show t.val / 16 * 384 + q.val = C
    omega

theorem tap3 (z : Fin 1) (q : Fin 384) (C : ℕ) (hC : C = 384 * (t.val / 16) + q.val) :
    (View.ld (iblk m c 3 t) (Rect.unit ![3, 0] ![1, 384] inb_S4x384_S1x384_3_0) : FVec Ideal S1x384 .f32) (ix2 z q) = wat (W m c) 3 C := by
  have ht := lt128 t
  refine (View.ld_unit_apply_of _ _ _ _ _ (ix2 (3 : Fin 4) q : S4x384.Idx) fun a => ?_).trans ?_
  · fin_cases a
    · show 3 = 3 + z.val
      omega
    · show q.val = 0 + q.val
      omega
  · rw [wat, dif_pos ⟨by norm_num, by omega⟩]
    refine (blk3 m c t _ _).trans (at_congr (W m c) rfl ?_)
    show t.val / 16 * 384 + q.val = C
    omega

/-! ### The convolution -/

/-- The convolution's rows at point `t`. -/
def convP : FVec Ideal S520x384 .f32 :=
  k0_pay11 (View.ld (iblk m c 3 t) (Rect.unit ![0, 0] ![1, 384] inb_S4x384_S1x384_0_0)) (from520 (bufP m c t) 5 (by norm_num))
    (View.ld (iblk m c 3 t) (Rect.unit ![1, 0] ![1, 384] inb_S4x384_S1x384_1_0)) (from520 (bufP m c t) 6 (by norm_num))
    (View.ld (iblk m c 3 t) (Rect.unit ![2, 0] ![1, 384] inb_S4x384_S1x384_2_0)) (from520 (bufP m c t) 7 (by norm_num))
    (View.ld (iblk m c 3 t) (Rect.unit ![3, 0] ![1, 384] inb_S4x384_S1x384_3_0)) (from520 (bufP m c t) 8 (by norm_num))

theorem conv_at (r : Fin 520) (q : Fin 384) (h : r.val < 512 ∨ t.val % 16 < 15) (R C : ℕ)
    (hR : R = 512 * (t.val % 16) + r.val) (hC : C = 384 * (t.val / 16) + q.val) :
    convP m c t (ix2 r q) = conv (P m c) (W m c) R C := by
  refine (pay11 _ _ _ _ _ _ _ _ _).trans ?_
  unfold conv
  refine congr_arg₂ (· + ·) (congr_arg₂ (· + ·) (congr_arg₂ (· + ·) ?_ ?_) ?_) ?_
  · exact congr_arg₂ (· * ·) (tap0 m c t _ _ C hC) (buf_at m c t ⟨5 + r.val, by omega⟩ q (by show 5 ≤ 5 + r.val; omega)
      (by show 5 + r.val < 520 ∨ _; omega) _ C (by show R = 512 * (t.val % 16) + (5 + r.val) - 5; omega) hC)
  · exact congr_arg₂ (· * ·) (tap1 m c t _ _ C hC) (buf_at m c t ⟨6 + r.val, by omega⟩ q (by show 5 ≤ 6 + r.val; omega)
      (by show 6 + r.val < 520 ∨ _; omega) _ C (by show R + 1 = 512 * (t.val % 16) + (6 + r.val) - 5; omega) hC)
  · exact congr_arg₂ (· * ·) (tap2 m c t _ _ C hC) (buf_at m c t ⟨7 + r.val, by omega⟩ q (by show 5 ≤ 7 + r.val; omega)
      (by show 7 + r.val < 520 ∨ _; omega) _ C (by show R + 2 = 512 * (t.val % 16) + (7 + r.val) - 5; omega) hC)
  · exact congr_arg₂ (· * ·) (tap3 m c t _ _ C hC) (buf_at m c t ⟨8 + r.val, by omega⟩ q (by show 5 ≤ 8 + r.val; omega)
      (by show 8 + r.val < 520 ∨ _; omega) _ C (by show R + 3 = 512 * (t.val % 16) + (8 + r.val) - 5; omega) hC)

/-! ### The gradient -/

/-- The cotangent's rows at point `t`. -/
def curP : FVec Ideal S512x384 .f32 :=
  joind (View.ld (iblk m c 4 t) (Rect.unit ![0, 0] ![512, 128] inb_S512x384_S512x128_0_0))
    (View.ld (iblk m c 4 t) (Rect.unit ![0, 128] ![512, 128] inb_S512x384_S512x128_0_128))
    (View.ld (iblk m c 4 t) (Rect.unit ![0, 256] ![512, 128] inb_S512x384_S512x128_0_256))

/-- The 8 rows after them. -/
def nextP : FVec Ideal S8x384 .f32 := k0_pay12 (BitVec.ofNat 32 (grid0.coords t 1).val) (iblk m c 5 t)

theorem cur_at (r : Fin 512) (q : Fin 384) : curP m c t (ix2 r q) = (iblk m c 4 t : FVec Ideal S512x384 .f32) (ix2 r q) := by
  unfold curP
  by_cases h : q.val < 128
  · refine (join0 _ _ _ _ _ h).trans (View.ld_unit_apply_of _ _ _ _ _ (ix2 r q : S512x384.Idx) fun a => ?_)
    fin_cases a
    · show r.val = 0 + r.val
      omega
    · show q.val = 0 + q.val
      omega
  by_cases h' : q.val < 256
  · refine (join1 _ _ _ _ _ h h').trans (View.ld_unit_apply_of _ _ _ _ _ (ix2 r q : S512x384.Idx) fun a => ?_)
    fin_cases a
    · show r.val = 0 + r.val
      omega
    · show q.val = 128 + (q.val - 128)
      omega
  · refine (join2 _ _ _ _ _ h').trans (View.ld_unit_apply_of _ _ _ _ _ (ix2 r q : S512x384.Idx) fun a => ?_)
    fin_cases a
    · show r.val = 0 + r.val
      omega
    · show q.val = 256 + (q.val - 256)
      omega

theorem cot_at (r : Fin 520) (q : Fin 384) (R C : ℕ) (hR : R = 512 * (t.val % 16) + r.val)
    (hC : C = 384 * (t.val / 16) + q.val) : cotK (curP m c t) (nextP m c t) (ix2 r q) = gat (G m c) R C := by
  have ht := lt128 t
  unfold gat
  by_cases h : r.val < 512
  · rw [dif_pos (by omega)]
    refine (cot_lo _ _ _ _ h).trans ((cur_at m c t _ _).trans ((blk4 m c t _ _).trans (at_congr (G m c) ?_ ?_)))
    · show t.val % 16 * 512 + r.val = R
      omega
    · show t.val / 16 * 384 + q.val = C
      omega
  · refine (cot_hi _ _ _ _ h).trans ((pay12 _ _ _).trans ?_)
    rw [coord t]
    by_cases h0 : t.val % 16 = 15
    · rw [if_pos h0, dif_neg (by omega)]
    · rw [if_neg h0, dif_pos (by omega)]
      refine (blk5 m c t _ _).trans (at_congr (G m c) ?_ ?_)
      · show min ((t.val % 16 + 1) * 64) 1023 * 8 + (r.val - 512) = R
        omega
      · show t.val / 16 * 384 + q.val = C
        omega

/-- The gradient's rows at point `t`. -/
def datP : FVec Ideal S520x384 .f32 := dbufK (convP m c t) (curP m c t) (nextP m c t)

theorem dat_at (r : Fin 520) (q : Fin 384) (R C : ℕ) (hR : R = 512 * (t.val % 16) + r.val)
    (hC : C = 384 * (t.val / 16) + q.val) : datP m c t (ix2 r q) = dat (P m c) (W m c) (G m c) R C := by
  have ht := lt128 t
  unfold datP dbufK
  by_cases hz : r.val < 512 ∨ t.val % 16 < 15
  · unfold dat mid
    by_cases hq : q.val < 256
    · refine (dif_pos hq).trans ?_
      rw [if_pos (by omega)]
      have e1 : ∀ l : Fin 128, convP m c t (ix2 r ⟨q.val / 128 * 128 + l.val, by omega⟩)
          = conv (P m c) (W m c) R (C / 128 * 128 + l) := fun l =>
        conv_at m c t r _ hz R _ hR (by show C / 128 * 128 + l.val = 384 * (t.val / 16) + (q.val / 128 * 128 + l.val); omega)
      have e2 : ∀ l : Fin 128, cotK (curP m c t) (nextP m c t) (ix2 r ⟨q.val / 128 * 128 + l.val, by omega⟩)
          = gat (G m c) R (C / 128 * 128 + l) := fun l =>
        cot_at m c t r _ R _ hR (by show C / 128 * 128 + l.val = 384 * (t.val / 16) + (q.val / 128 * 128 + l.val); omega)
      refine (unit_congr e1 e2 (l' := ⟨C % 128, Nat.mod_lt _ (by norm_num)⟩) (by show q.val % 128 = C % 128; omega)).trans ?_
      unfold unit
      refine congrArg (fun x => rise x _) (congrArg (conv (P m c) (W m c) R) ?_)
      show C / 128 * 128 + C % 128 = C
      omega
    · refine (dif_neg hq).trans ?_
      rw [if_neg (by omega)]
      exact congr_arg₂ rise (conv_at m c t r q hz R C hR hC) (cot_at m c t r q R C hR hC)
  · rw [dat_of_le _ _ _ (by omega)]
    have e : ∀ q : Fin 384, cotK (curP m c t) (nextP m c t) (ix2 r q) = 0 := fun q =>
      (cot_at m c t r q R _ hR rfl).trans (dif_neg (by omega))
    by_cases hq : q.val < 256
    · refine (dif_pos hq).trans ((unit_congr (fun _ => rfl) (fun l => e _) rfl).trans ?_)
      unfold unit
      rw [back_zero, rise_zero]
    · exact (dif_neg hq).trans ((congrArg (rise _) (e q)).trans (rise_zero _))

end Cert.ConvBwdIdeal.Conv

end
-- ==== Proof.ConvBwd.lean ====
/-
  The gradient of the deltanet's short causal convolution (with its silu and, on queries and keys, the l2 normalisation):
  of the projection `p` [8192, 7296], of whose columns the first 3072 are convolved, the taps `w` [4, 3072] and the
  cotangent `g` [8192, 3072], the gradient of the convolved columns and of the taps.

  The kernel takes 384 channels and 512 rows a point, with 8 rows before and 8 after. The gradient of the columns is
  written block by block. The gradient of the taps is one block for each 384 channels, which 16 points add into; it ends
  as `0 + ∑ s < 16, ∑ r < 512, …`, the reference's one sum over 8192 rows.
-/
module

public import proofs.«01_k».proof.Proof.Gen.ConvBwdIdeal.Value
public import proofs.«01_k».proof.Proof.ConvPoint
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvBwdIdeal.Conv

open Cert.ConvBwdIdeal Cert.ConvBwdIdeal.Gen

variable (m : (ℓ : Loc nD τ sig) → Buf (Elt Ideal) ℓ) (c : Dev nD) (t : Fin cfg0.N)

/-! ### One point -/

/-- The columns' gradient at point `t`. -/
theorem out_at (y : S512x384.Idx) (R C : ℕ) (hR : R = 512 * (t.val % 16) + (y 0).val) (hC : C = 384 * (t.val / 16) + (y 1).val) :
    k0_pay2 (F := Ideal) (k0_pay45
        (k0_pay42 (View.ld (iblk m c 3 t) (Rect.unit ![0, 0] ![1, 384] inb_S4x384_S1x384_0_0)) (dfrom512 (datP m c t) 3 (by norm_num)))
        (View.ld (iblk m c 3 t) (Rect.unit ![1, 0] ![1, 384] inb_S4x384_S1x384_1_0)) (dfrom512 (datP m c t) 2 (by norm_num))
        (View.ld (iblk m c 3 t) (Rect.unit ![2, 0] ![1, 384] inb_S4x384_S1x384_2_0)) (dfrom512 (datP m c t) 1 (by norm_num)))
      (View.ld (iblk m c 3 t) (Rect.unit ![3, 0] ![1, 384] inb_S4x384_S1x384_3_0)) (dfrom512 (datP m c t) 0 (by norm_num)) y
      = dxat (P m c) (W m c) (G m c) R C := by
  have hy : (y 0).val < 512 := (y 0).isLt
  refine (pay2 _ _ _ _ _ _ _ _ _).trans ?_
  unfold dxat
  refine congr_arg₂ (· + ·) (congr_arg₂ (· + ·) (congr_arg₂ (· + ·) ?_ ?_) ?_) ?_
  · exact congr_arg₂ (· * ·) (tap0 m c t _ _ C hC) (dat_at m c t ⟨3 + (y 0).val, by omega⟩ (y 1) _ C
      (by show R + 3 = 512 * (t.val % 16) + (3 + (y 0).val); omega) hC)
  · exact congr_arg₂ (· * ·) (tap1 m c t _ _ C hC) (dat_at m c t ⟨2 + (y 0).val, by omega⟩ (y 1) _ C
      (by show R + 2 = 512 * (t.val % 16) + (2 + (y 0).val); omega) hC)
  · exact congr_arg₂ (· * ·) (tap2 m c t _ _ C hC) (dat_at m c t ⟨1 + (y 0).val, by omega⟩ (y 1) _ C
      (by show R + 1 = 512 * (t.val % 16) + (1 + (y 0).val); omega) hC)
  · exact congr_arg₂ (· * ·) (tap3 m c t _ _ C hC) (dat_at m c t ⟨0 + (y 0).val, by omega⟩ (y 1) _ C
      (by show R = 512 * (t.val % 16) + (0 + (y 0).val); omega) hC)

/-- What point `s` of a run adds to the gradient of tap `k`. -/
def part (i j k q : ℕ) : EReal :=
  ∑ r : Fin 512, dat (P m c) (W m c) (G m c) (512 * i + r.val) (384 * j + q) * xat (P m c) (512 * i + r.val + k) (384 * j + q)

theorem part_at (k : ℕ) (hk : k < 4) (q : Fin 384) (ho : 5 + k + 512 ≤ 528) :
    ∑ r : Fin 512, topd (datP m c t) (ix2 r q) * from512 (bufP m c t) (5 + k) ho (ix3 0 r q)
      = part m c (t.val % 16) (t.val / 16) k q.val := by
  unfold part
  refine Finset.sum_congr rfl fun r _ => ?_
  exact congr_arg₂ (· * ·) (dat_at m c t ⟨r.val, by omega⟩ q _ _ rfl rfl)
    (buf_at m c t ⟨5 + k + r.val, by omega⟩ q (by show 5 ≤ 5 + k + r.val; omega) (Or.inl (by show 5 + k + r.val < 520; omega)) _ _
      (by show 512 * (t.val % 16) + r.val + k = 512 * (t.val % 16) + (5 + k + r.val) - 5; omega) rfl)

/-- The four rows of taps, each with this point's part added. -/
theorem taps_at (a0 a1 a2 a3 : FVec Ideal S1x384 .f32) (L : List (View.Piece (Elt Ideal) S4x384 .f32)) (y : S4x384.Idx) (acc : EReal)
    (h0 : (y 0).val = 0 → a0 (ix2 0 (y 1)) = acc) (h1 : (y 0).val = 1 → a1 (ix2 0 (y 1)) = acc)
    (h2 : (y 0).val = 2 → a2 (ix2 0 (y 1)) = acc) (h3 : (y 0).val = 3 → a3 (ix2 0 (y 1)) = acc) :
    View.canon (Val := Elt Ideal) (e := .f32)
      ((⟨Rect.unit (s := S4x384) ![3, 0] ![1, 384] inb_S4x384_S1x384_3_0,
          k0_pay1 (F := Ideal) (topd (datP m c t)) a3 (from512 (bufP m c t) 8 (by norm_num))⟩ : View.Piece (Elt Ideal) S4x384 .f32) ::
        (⟨Rect.unit (s := S4x384) ![2, 0] ![1, 384] inb_S4x384_S1x384_2_0,
          k0_pay46 (F := Ideal) (topd (datP m c t)) a2 (from512 (bufP m c t) 7 (by norm_num))⟩ : View.Piece (Elt Ideal) S4x384 .f32) ::
        (⟨Rect.unit (s := S4x384) ![1, 0] ![1, 384] inb_S4x384_S1x384_1_0,
          k0_pay44 (F := Ideal) (topd (datP m c t)) a1 (from512 (bufP m c t) 6 (by norm_num))⟩ : View.Piece (Elt Ideal) S4x384 .f32) ::
        (⟨Rect.unit (s := S4x384) ![0, 0] ![1, 384] inb_S4x384_S1x384_0_0,
          k0_pay43 (F := Ideal) (topd (datP m c t)) a0 (from512 (bufP m c t) 5 (by norm_num))⟩ : View.Piece (Elt Ideal) S4x384 .f32) :: L) y
      = acc + part m c (t.val % 16) (t.val / 16) (y 0).val (y 1).val := by
  have y0 : (y 0).val < 4 := (y 0).isLt
  have y1 : (y 1).val < 384 := (y 1).isLt
  obtain h | h | h | h : (y 0).val = 0 ∨ (y 0).val = 1 ∨ (y 0).val = 2 ∨ (y 0).val = 3 := by omega
  · have e : y = (Rect.unit (s := S4x384) ![0, 0] ![1, 384] inb_S4x384_S1x384_0_0).emb (ix2 0 (y 1) : S1x384.Idx) := by
      funext a
      fin_cases a
      · exact Fin.ext (by show (y 0).val = 0 + 1 * 0; omega)
      · exact Fin.ext (by show (y 1).val = 0 + 1 * (y 1).val; omega)
    rw [View.canon_cons_of_not_mem _ _ (by rw [Rect.mem_set_unit]; intro q; have q0 := q 0; change 3 ≤ (y 0).val ∧ _ at q0; omega)]
    rw [View.canon_cons_of_not_mem _ _ (by rw [Rect.mem_set_unit]; intro q; have q0 := q 0; change 2 ≤ (y 0).val ∧ _ at q0; omega)]
    rw [View.canon_cons_of_not_mem _ _ (by rw [Rect.mem_set_unit]; intro q; have q0 := q 0; change 1 ≤ (y 0).val ∧ _ at q0; omega)]
    refine (congrArg _ e).trans ((View.canon_cons_emb _ _ _ _).trans ((pay43 _ _ _ _).trans ?_))
    rw [h]
    exact congr_arg₂ (· + ·) (h0 h) (part_at m c t 0 (by norm_num) (y 1) (by norm_num))
  · have e : y = (Rect.unit (s := S4x384) ![1, 0] ![1, 384] inb_S4x384_S1x384_1_0).emb (ix2 0 (y 1) : S1x384.Idx) := by
      funext a
      fin_cases a
      · exact Fin.ext (by show (y 0).val = 1 + 1 * 0; omega)
      · exact Fin.ext (by show (y 1).val = 0 + 1 * (y 1).val; omega)
    rw [View.canon_cons_of_not_mem _ _ (by rw [Rect.mem_set_unit]; intro q; have q0 := q 0; change 3 ≤ (y 0).val ∧ _ at q0; omega)]
    rw [View.canon_cons_of_not_mem _ _ (by rw [Rect.mem_set_unit]; intro q; have q0 := q 0; change 2 ≤ (y 0).val ∧ _ at q0; omega)]
    refine (congrArg _ e).trans ((View.canon_cons_emb _ _ _ _).trans ((pay44 _ _ _ _).trans ?_))
    rw [h]
    exact congr_arg₂ (· + ·) (h1 h) (part_at m c t 1 (by norm_num) (y 1) (by norm_num))
  · have e : y = (Rect.unit (s := S4x384) ![2, 0] ![1, 384] inb_S4x384_S1x384_2_0).emb (ix2 0 (y 1) : S1x384.Idx) := by
      funext a
      fin_cases a
      · exact Fin.ext (by show (y 0).val = 2 + 1 * 0; omega)
      · exact Fin.ext (by show (y 1).val = 0 + 1 * (y 1).val; omega)
    rw [View.canon_cons_of_not_mem _ _ (by rw [Rect.mem_set_unit]; intro q; have q0 := q 0; change 3 ≤ (y 0).val ∧ _ at q0; omega)]
    refine (congrArg _ e).trans ((View.canon_cons_emb _ _ _ _).trans ((pay46 _ _ _ _).trans ?_))
    rw [h]
    exact congr_arg₂ (· + ·) (h2 h) (part_at m c t 2 (by norm_num) (y 1) (by norm_num))
  · have e : y = (Rect.unit (s := S4x384) ![3, 0] ![1, 384] inb_S4x384_S1x384_3_0).emb (ix2 0 (y 1) : S1x384.Idx) := by
      funext a
      fin_cases a
      · exact Fin.ext (by show (y 0).val = 3 + 1 * 0; omega)
      · exact Fin.ext (by show (y 1).val = 0 + 1 * (y 1).val; omega)
    refine (congrArg _ e).trans ((View.canon_cons_emb _ _ _ _).trans ((pay1 _ _ _ _).trans ?_))
    rw [h]
    exact congr_arg₂ (· + ·) (h3 h) (part_at m c t 3 (by norm_num) (y 1) (by norm_num))

theorem zero3 (y : S4x384.Idx) : k0_pay3 (F := Ideal) y = 0 := by pointwise [k0_pay3]

theorem A6 (h : t.val % 16 = 0) (y : S512x384.Idx) : (outsAt0 m c t.val t.isLt).1 y
    = dxat (P m c) (W m c) (G m c) (512 * (t.val % 16) + (y 0).val) (384 * (t.val / 16) + (y 1).val) := by
  rw [outsAt0_A m c t h]
  frame_open
  simp (disch := decide) only [↓ View.readCov_skip, ↓ View.readCov_cons_toLoadRect, ↓ View.readCov_fill]
  simp only [whole3, read0_520, read1_520, read2_520, read3_520, read0_512, read1_512, read2_512, read3_512, whole_d, part_d,
    part_d', dread0, dread1, dread2, dread3]
  frame_out
  exact out_at m c t y _ _ rfl rfl

theorem B6 (h : t.val % 16 ≠ 0) (y : S512x384.Idx) : (outsAt0 m c t.val t.isLt).1 y
    = dxat (P m c) (W m c) (G m c) (512 * (t.val % 16) + (y 0).val) (384 * (t.val / 16) + (y 1).val) := by
  rw [outsAt0_B m c t h]
  frame_open
  simp (disch := decide) only [↓ View.readCov_skip, ↓ View.readCov_cons_toLoadRect, ↓ View.readCov_fill]
  simp only [whole3, read0_520, read1_520, read2_520, read3_520, read0_512, read1_512, read2_512, read3_512, whole_d, part_d,
    part_d', dread0, dread1, dread2, dread3]
  frame_out
  exact out_at m c t y _ _ rfl rfl

theorem A7 (h : t.val % 16 = 0) (y : S4x384.Idx) : (outsAt0 m c t.val t.isLt).2 y
    = 0 + part m c (t.val % 16) (t.val / 16) (y 0).val (y 1).val := by
  rw [outsAt0_A m c t h]
  frame_open
  simp (disch := decide) only [↓ View.readCov_skip, ↓ View.readCov_cons_toLoadRect, ↓ View.readCov_fill]
  simp only [whole3, read0_520, read1_520, read2_520, read3_520, read0_512, read1_512, read2_512, read3_512, whole_d, part_d,
    part_d', dread0, dread1, dread2, dread3]
  frame_out
  exact taps_at m c t _ _ _ _ _ y 0 (fun _ => zero3 _) (fun _ => zero3 _) (fun _ => zero3 _) (fun _ => zero3 _)

theorem row_at (x : FVec Ideal S4x384 .f32) (k : ℕ) (hb) (y : S4x384.Idx) (hk : (y 0).val = k) :
    View.ld (Val := Elt Ideal) (e' := .f32) x (Rect.unit (s := S4x384) ![k, 0] ![1, 384] hb) (ix2 0 (y 1) : S1x384.Idx) = x y := by
  refine View.ld_unit_apply_of _ _ _ _ _ y fun a => ?_
  fin_cases a
  · show (y 0).val = k + 0
    omega
  · show (y 1).val = 0 + (y 1).val
    omega

theorem B7 (h : t.val % 16 ≠ 0) (y : S4x384.Idx) : (outsAt0 m c t.val t.isLt).2 y
    = (outsAt0 m c (t.val - 1) (Nat.lt_of_le_of_lt (Nat.sub_le _ _) t.isLt)).2 y
      + part m c (t.val % 16) (t.val / 16) (y 0).val (y 1).val := by
  rw [outsAt0_B m c t h]
  frame_open
  simp (disch := decide) only [↓ View.readCov_skip, ↓ View.readCov_cons_toLoadRect, ↓ View.readCov_fill]
  simp only [whole3, read0_520, read1_520, read2_520, read3_520, read0_512, read1_512, read2_512, read3_512, whole_d, part_d,
    part_d', dread0, dread1, dread2, dread3]
  frame_out
  exact taps_at m c t _ _ _ _ _ y _ (fun e => row_at _ 0 _ y e) (fun e => row_at _ 1 _ y e) (fun e => row_at _ 2 _ y e)
    (fun e => row_at _ 3 _ y e)

/-! ### The kernel's two results -/

/-- The gradient of the projection's columns. -/
theorem cols : (dats m 0 c).arrAt 6 cfg0.N = Cert.ConvBwdReferenceIdeal.Read.val_main_v153 (F := Ideal) (P m c) (W m c) (G m c) := by
  refine (dats m 0 c).arrAt_eq_of_covers 6 _ (by decide +kernel) fun t hf y => ?_
  blk_simp
  rw [after0_6]
  have ht := lt128 t
  have y0 : (y 0).val < 512 := (y 0).isLt
  have y1 : (y 1).val < 384 := (y 1).isLt
  have place_y : Cert.ConvBwdReferenceIdeal.Read.val_main_v153 (F := Ideal) (P m c) (W m c) (G m c) ((win0_6.blk t).view.emb y)
      = Cert.ConvBwdReferenceIdeal.Read.val_main_v153 (F := Ideal) (P m c) (W m c) (G m c)
        (ix2 ⟨512 * (t.val % 16) + (y 0).val, by omega⟩ ⟨384 * (t.val / 16) + (y 1).val, by omega⟩) := by
    blk_point [place t]
  by_cases h : t.val % 16 = 0
  on_goal 1 => refine (A6 m c t h _).trans ?_
  on_goal 2 => refine (B6 m c t h _).trans ?_
  all_goals exact (place_y.trans (ref153 _ _ _ _)).symm

/-- The gradient of the taps. -/
theorem taps : (dats m 0 c).arrAt 7 cfg0.N = Cert.ConvBwdReferenceIdeal.Read.val_main_v148 (F := Ideal) (P m c) (W m c) (G m c) := by
  refine (dats m 0 c).arrAt_eq_of_covers 7 _ (by decide +kernel) fun t hf y => ?_
  blk_simp
  have ht := lt128 t
  have y0 : (y 0).val < 4 := (y 0).isLt
  have y1 : (y 1).val < 384 := (y 1).isLt
  have place_y : Cert.ConvBwdReferenceIdeal.Read.val_main_v148 (F := Ideal) (P m c) (W m c) (G m c) ((win0_7.blk t).view.emb y)
      = Cert.ConvBwdReferenceIdeal.Read.val_main_v148 (F := Ideal) (P m c) (W m c) (G m c)
        (ix2 ⟨(y 0).val, y0⟩ ⟨384 * (t.val / 16) + (y 1).val, by omega⟩) := by
    blk_point [place t]
  rw [after0_7, Pipeline.eq_sum_fin_of_reset_step_apply_of_flush (fun n h => (outsAt0 m c n h).2) 16 (fun _ => 0)
    (fun t y => part m c (t.val % 16) (t.val / 16) (y 0).val (y 1).val)
    (fun t h j => A7 m c t h j) (fun t h j => B7 m c t h j) t ((flush0_7 t).mp hf) _, zero_add]
  refine Eq.trans ?_ (place_y.trans (ref148 _ _ _ _)).symm
  refine Fin.sum_mul_add_congr fun s k hl => ?_
  have f0 : (16 * (t.val / 16) + s.val) % 16 = s.val := by omega
  have f1 : (16 * (t.val / 16) + s.val) / 16 = t.val / 16 := by omega
  show dat _ _ _ (512 * ((16 * (t.val / 16) + s.val) % 16) + k.val) (384 * ((16 * (t.val / 16) + s.val) / 16) + (y 1).val)
      * xat _ (512 * ((16 * (t.val / 16) + s.val) % 16) + k.val + (y 0).val) (384 * ((16 * (t.val / 16) + s.val) / 16) + (y 1).val)
    = dat _ _ _ (s.val * 512 + k.val) (384 * (t.val / 16) + (y 1).val) * xat _ (s.val * 512 + k.val + (y 0).val) (384 * (t.val / 16) + (y 1).val)
  rw [f0, f1, Nat.mul_comm 512 s.val]

end Cert.ConvBwdIdeal.Conv

namespace Cert.Proof

open Cert.ConvBwdIdeal Cert.ConvBwdReferenceIdeal

/-- The kernel and the reference compute the same two results over the extended reals. -/
theorem algebraic_dn_pre_bwd : Cert.algebraic_ConvBwdIdeal_ConvBwdReferenceIdeal := by
  pair_intro
  · run_from Cert.ConvBwdIdeal.Gen.run_main m g
  · refine Idealize.ShloMosaic.θ_run_mono (Cert.ConvBwdReferenceIdeal.Value.run m' g') ?_
    intro r hr c
    obtain ⟨h0, h1, kept⟩ := hr c
    obtain ⟨a0, a1, a2⟩ := hagree c
    refine ⟨(h0.trans (Read.val_main_v153_eq _)).trans ?_, (h1.trans (Read.val_main_v148_eq _)).trans ?_, kept⟩
      <;> simp only [a0, a1, a2]
    · exact (Conv.cols m c).symm
    · exact (Conv.taps m c).symm

end Cert.Proof

end
-- ==== Proof.GatingBlock.lean ====
/-
  The backward pass of the causal spatial gating unit, on one block of 128 rows and one head of 128 channels.

  With `u`, `v`, `g` the block of the projection's gate input, value input and output gate, the forward pass is
    `vl = layernorm (gelu v) * ln_g + ln_b`  over the channels of the head,
    `mixed = wm @ vl + b`                     over the rows of the block, `wm` the head's weight under the causal mask,
    `y = gelu u * mixed * silu g`.
  This module says what its gradients are, entry by entry (`du`, `dv`, `dgate` and the block's terms of the sums that are
  the gradients of `ln_g`, `ln_b`, the weight and the bias), and that the kernel's operations on a block compute them.
-/
module
public import proofs.«01_k».proof.Proof.Gen.KernelIdeal.Value
public import proofs.«01_k».proof.Proof.Gen.ReferenceIdeal.Read
public import proofs.«01_k».proof.Defs
public import Idealize.ShloMosaic.Lib.Pipeline.ValueKit
public import Idealize.ShloMosaic.Lib.Pointwise
public import Idealize.ShloMosaic.Lib.Claim
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.KernelIdeal.Exact

open Cert.KernelIdeal Cert.KernelIdeal.Gen

/-! ### Entries: the activations -/

/-- One half of `x`. -/
def half (x : EReal) : EReal := Ideal.ofBits .f32 0x3F000000#32 * x

/-- `x` over the square root of two. -/
def scaled (x : EReal) : EReal := x * Ideal.ofBits .f32 0x3F3504F3#32

/-- Twice the normal distribution function at `x`. -/
def phi (x : EReal) : EReal := 1 + Ideal.erf (scaled x)

/-- The bell curve at `x`. -/
def bell (x : EReal) : EReal := Ideal.exp (-(scaled x * scaled x))

def gelu (x : EReal) : EReal := half x * phi x

/-- What a gradient `d` of `gelu x` is as a gradient of `x`. -/
def geluBack (x d : EReal) : EReal :=
  Ideal.ofBits .f32 0x3F906EBB#32 * (half x * d) * bell x * Ideal.ofBits .f32 0x3F3504F3#32
    + Ideal.ofBits .f32 0x3F000000#32 * (d * phi x)

/-- The gradient that `silu g` scales: `dy * silu g`. -/
def gated (g dy : EReal) : EReal := dy * (g * Ideal.logistic g)

/-- What a gradient `q` of `silu g` is as a gradient of `g`. -/
def siluBack (g q : EReal) : EReal :=
  q * Ideal.logistic g + g * q * (Ideal.logistic g * (1 - Ideal.logistic g))

/-! ### Rows: the layer norm over the channels of a head -/

def mean (r : Fin 128 → EReal) : EReal := Ideal.div (∑ l, r l) (Ideal.ofBits .f32 0x43000000#32)
def ctr (r : Fin 128 → EReal) (c : Fin 128) : EReal := r c - mean r
def vare (r : Fin 128 → EReal) : EReal :=
  Ideal.div (∑ l, ctr r l * ctr r l) (Ideal.ofBits .f32 0x43000000#32) + Ideal.ofBits .f32 0x3727C5AC#32
def spread (r : Fin 128 → EReal) : EReal := Ideal.rsqrt (vare r)
def slope (r : Fin 128 → EReal) : EReal := Ideal.ofBits .f32 0xBF000000#32 * Ideal.div (spread r) (vare r)
def nrm (r : Fin 128 → EReal) (c : Fin 128) : EReal := ctr r c * spread r

/-- What comes back through the variance, of the gradient `t` of the normalised row. -/
def pull (r t : Fin 128 → EReal) : EReal :=
  ∑ _ : Fin 1, Ideal.div ((∑ l, ctr r l * t l) * slope r) (Ideal.ofBits .f32 0x43000000#32)

/-- The gradient of the centred row. -/
def ctrBack (r t : Fin 128 → EReal) (c : Fin 128) : EReal := t c * spread r + ctr r c * pull r t + pull r t * ctr r c

/-- The gradient of the row. -/
def normBack (r t : Fin 128 → EReal) (c : Fin 128) : EReal :=
  ctrBack r t c + ∑ _ : Fin 1, Ideal.div (∑ l, -ctrBack r t l) (Ideal.ofBits .f32 0x43000000#32)

/-! ### The causal mask -/

/-- Whether row `i` of a block sees row `k`: rows are taken by halves of 64. -/
def sees (i k : Fin 128) : BitVec 1 := Scalar.cmpi .sge (BitVec.ofNat 32 (i.val / 64)) (BitVec.ofNat 32 (k.val / 64))

/-- `x` where row `i` sees row `k`, zero elsewhere. -/
def masked (i k : Fin 128) (x : EReal) : EReal := Scalar.select (sees i k) x 0

/-! ### A block and its gradients -/

/-- The entries of one block of one head. -/
structure Block where
  (u v g dy : Fin 128 → Fin 128 → EReal)
  (lg lb : Fin 128 → EReal)
  (w b : Fin 128 → Fin 128 → EReal)

namespace Block

variable (B : Block)

def row (i l : Fin 128) : EReal := gelu (B.v i l)
def vl (i c : Fin 128) : EReal := nrm (B.row i) c * B.lg c + B.lb c
def wm (i k : Fin 128) : EReal := masked i k (B.w i k)
def mixed (i c : Fin 128) : EReal := (∑ k, B.wm i k * B.vl k c) + B.b i c
def ds (i c : Fin 128) : EReal := gated (B.g i c) (B.dy i c)
/-- The gradient of `mixed`. -/
def dm (i c : Fin 128) : EReal := gelu (B.u i c) * B.ds i c
def du (i c : Fin 128) : EReal := geluBack (B.u i c) (B.ds i c * B.mixed i c)
def dgate (i c : Fin 128) : EReal := siluBack (B.g i c) (gelu (B.u i c) * B.mixed i c * B.dy i c)
/-- The gradient of `vl`. -/
def dvl (k c : Fin 128) : EReal := ∑ i, B.wm i k * B.dm i c
def dv (i c : Fin 128) : EReal := geluBack (B.v i c) (normBack (B.row i) (fun l => B.dvl i l * B.lg l) c)
def dlb (c : Fin 128) : EReal := ∑ i, B.dvl i c
def dlg (c : Fin 128) : EReal := ∑ i, nrm (B.row i) c * B.dvl i c
/-- The gradient of the masked weight, before the mask is laid over it. -/
def dwm (i k : Fin 128) : EReal := ∑ c, B.dm i c * B.vl k c
def db (i : Fin 128) : EReal := ∑ c, B.dm i c

end Block

/-- The gradients of a block by the three column ranges of the array they are stored in. -/
def grad (B : Block) (part : Fin 3) (i l : Fin 128) : EReal :=
  if part = 0 then B.du i l else if part = 1 then B.dv i l else B.dgate i l

/-! ### The blocks of the arguments -/

/-- The head a channel belongs to, and the channel in it. -/
def head (l : Fin 512) : Fin 4 := ⟨l.val / 128, by omega⟩
def chan (l : Fin 512) : Fin 128 := ⟨l.val % 128, by omega⟩

/-- Block `n` of head `g`: of the projection `p` [8192, 7296] (`u` at columns 4096, `v` at 4608, the gate at 5120 on), the
    layer norm's `lg`, `lb` [512], the weight `w` [4, 128, 128] and bias `b` [4, 128], and the gradient `dy` [8192, 512]. -/
def blockAt (p : FVec Ideal S8192x7296 .f32) (lg lb : FVec Ideal S512 .f32) (w : FVec Ideal S4x128x128 .f32)
    (b : FVec Ideal S4x128 .f32) (dy : FVec Ideal S8192x512 .f32) (n : Fin 64) (g : Fin 4) : Block where
  u i c := p (ix2 ⟨128 * n + i, by omega⟩ ⟨4096 + (128 * g + c), by omega⟩)
  v i c := p (ix2 ⟨128 * n + i, by omega⟩ ⟨4608 + (128 * g + c), by omega⟩)
  g i c := p (ix2 ⟨128 * n + i, by omega⟩ ⟨5120 + (128 * g + c), by omega⟩)
  dy i c := dy (ix2 ⟨128 * n + i, by omega⟩ ⟨128 * g + c, by omega⟩)
  lg c := lg (ix1 ⟨128 * g + c, by omega⟩)
  lb c := lb (ix1 ⟨128 * g + c, by omega⟩)
  w i k := w (ix3 g i k)
  b i _ := b (ix2 g i)

/-! ### The kernel's operations on a block -/

section Payloads

variable (u v g dy : FVec Ideal S128x128 .f32) (lg lb : FVec Ideal S1x128 .f32) (w b : FVec Ideal S1x128x128 .f32)

/-- Row `i` of `gelu v`. -/
abbrev row (i : Fin 128) (l : Fin 128) : EReal := gelu (v (ix2 i l))

theorem pay18 (j : S128x128.Idx) : k0_pay18 (F := Ideal) v j = half (v j) := by
  unfold half; pointwise [k0_pay18]
theorem pay19 (j : S128x128.Idx) : k0_pay19 (F := Ideal) v j = scaled (v j) := by
  unfold scaled; pointwise [k0_pay19]
theorem pay20 (j : S128x128.Idx) : k0_pay20 (F := Ideal) v j = bell (v j) := by
  unfold bell; pointwise [k0_pay20, pay19]; rw [zero_sub]
theorem pay21 (j : S128x128.Idx) : k0_pay21 (F := Ideal) v j = phi (v j) := by
  unfold phi; pointwise [k0_pay21, pay19]; rfl
theorem pay22 (j : S128x128.Idx) : k0_pay22 (F := Ideal) v j = gelu (v j) := by
  unfold gelu; pointwise [k0_pay22, pay18, pay21]
theorem pay31 (j : S128x128.Idx) : k0_pay31 (F := Ideal) v j = half (v j) := by
  unfold half; pointwise [k0_pay31]
theorem pay32 (j : S128x128.Idx) : k0_pay32 (F := Ideal) v j = scaled (v j) := by
  unfold scaled; pointwise [k0_pay32]
theorem pay33 (j : S128x128.Idx) : k0_pay33 (F := Ideal) v j = bell (v j) := by
  unfold bell; pointwise [k0_pay33, pay32]; rw [zero_sub]
theorem pay34 (j : S128x128.Idx) : k0_pay34 (F := Ideal) v j = phi (v j) := by
  unfold phi; pointwise [k0_pay34, pay32]; rfl
theorem pay35 (j : S128x128.Idx) : k0_pay35 (F := Ideal) v j = gelu (v j) := by
  unfold gelu; pointwise [k0_pay35, pay31, pay34]
theorem pay36 (j : S128x128.Idx) : k0_pay36 (F := Ideal) v j = Ideal.logistic (v j) := by
  pointwise [k0_pay36]
theorem pay39 (j : S128x128.Idx) : k0_pay39 (F := Ideal) g dy j = gated (g j) (dy j) := by
  unfold gated; pointwise [k0_pay39, pay36]

theorem pay24 (j : S128x128.Idx) : k0_pay24 (F := Ideal) (k0_pay22 v) (k0_pay23 v) j = ctr (row v (j 0)) (j 1) := by
  unfold ctr mean row; pointwise [k0_pay24, k0_pay23, pay22]
theorem pay25 (j : S128x1.Idx) : k0_pay25 (F := Ideal) (k0_pay22 v) (k0_pay23 v) j = vare (row v (j 0)) := by
  unfold vare; pointwise [k0_pay25, pay24]
theorem pay26 (j : S128x1.Idx) : k0_pay26 (F := Ideal) (k0_pay22 v) (k0_pay23 v) j = spread (row v (j 0)) := by
  unfold spread; pointwise [k0_pay26, pay25]
theorem pay27 (j : S128x1.Idx) : k0_pay27 (F := Ideal) (k0_pay22 v) (k0_pay23 v) j = slope (row v (j 0)) := by
  unfold slope; pointwise [k0_pay27, pay26, pay25]
theorem pay28 (j : S128x128.Idx) : k0_pay28 (F := Ideal) (k0_pay22 v) (k0_pay23 v) j = nrm (row v (j 0)) (j 1) := by
  unfold nrm; pointwise [k0_pay28, pay24, pay26]

/-- The block of the kernel's arrays. -/
def blockOf : Block where
  u i c := u (ix2 i c)
  v i c := v (ix2 i c)
  g i c := g (ix2 i c)
  dy i c := dy (ix2 i c)
  lg c := lg (ix2 0 c)
  lb c := lb (ix2 0 c)
  w i k := w (ix3 0 i k)
  b i c := b (ix3 0 i c)

/-- The masked weight. -/
def kWm : FVec Ideal S128x128 .f32 := k0_pay17 (k0_pay10 w) k0_pay12 k0_pay13 k0_pay14 k0_pay15

def kVl : FVec Ideal S128x128 .f32 := k0_pay29 (k0_pay8 lg) (k0_pay9 lb) (k0_pay22 v) (k0_pay23 v)

def kMixed : FVec Ideal S128x128 .f32 :=
  k0_pay30 (k0_pay8 lg) (k0_pay9 lb) (k0_pay11 b) (kWm w) (k0_pay22 v) (k0_pay23 v)

def kDu : FVec Ideal S128x128 .bf16 :=
  k0_pay50 (k0_pay42 (kMixed v lg lb w b) (k0_pay31 u) (k0_pay33 u) (k0_pay34 u) (k0_pay39 g dy))

def kDv : FVec Ideal S128x128 .bf16 :=
  k0_pay51 (k0_pay18 v) (k0_pay20 v) (k0_pay21 v)
    (k0_pay47 (k0_pay8 lg) (kWm w) (k0_pay24 (k0_pay22 v) (k0_pay23 v)) (k0_pay26 (k0_pay22 v) (k0_pay23 v))
      (k0_pay27 (k0_pay22 v) (k0_pay23 v)) (k0_pay35 u) (k0_pay39 g dy))
    (k0_pay48 (k0_pay8 lg) (kWm w) (k0_pay24 (k0_pay22 v) (k0_pay23 v)) (k0_pay26 (k0_pay22 v) (k0_pay23 v))
      (k0_pay27 (k0_pay22 v) (k0_pay23 v)) (k0_pay35 u) (k0_pay39 g dy))

def kDgate : FVec Ideal S128x128 .bf16 :=
  k0_pay52 (k0_pay40 g (k0_pay36 g) (k0_pay37 g)
    (k0_pay38 u (k0_pay8 lg) (k0_pay9 lb) (k0_pay11 b) (kWm w) (k0_pay22 v) (k0_pay23 v) dy))

def kDlg (acc : FVec Ideal S1x128 .f32) : FVec Ideal S1x128 .f32 :=
  k0_pay53 (k0_pay46 (kWm w) (k0_pay28 (k0_pay22 v) (k0_pay23 v)) (k0_pay35 u) (k0_pay39 g dy)) acc

def kDlb (acc : FVec Ideal S1x128 .f32) : FVec Ideal S1x128 .f32 :=
  k0_pay54 (k0_pay45 (kWm w) (k0_pay35 u) (k0_pay39 g dy)) acc

def kDw (acc : FVec Ideal S1x128x128 .f32) : FVec Ideal S1x128x128 .f32 :=
  k0_pay55 (k0_pay49 (k0_pay16 k0_pay12 k0_pay13 k0_pay14 k0_pay15) (k0_pay43 (kVl v lg lb) (k0_pay35 u) (k0_pay39 g dy))) acc

def kDb (acc : FVec Ideal S1x128x128 .f32) : FVec Ideal S1x128x128 .f32 :=
  k0_pay56 (k0_pay41 (k0_pay35 u) (k0_pay39 g dy)) acc

theorem pay16 (j : S128x128.Idx) : k0_pay16 k0_pay12 k0_pay13 k0_pay14 k0_pay15 j = sees (j 0) (j 1) := by
  have word : ∀ i : Fin 128, Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by decide +kernel
  have half_row : ∀ i : Fin 128, ∀ k : Fin 128, k0_pay16 k0_pay12 k0_pay13 k0_pay14 k0_pay15 (ix2 i k) = sees i k := by
    intro i k
    unfold sees
    pointwise [k0_pay16, k0_pay12, k0_pay13, k0_pay14, k0_pay15]
    exact congrArg₂ (IntOp.cmpi .sge) (word i) (word k)
  exact (congrArg _ (ix2_eta j)).symm.trans (half_row _ _)

theorem wm_at (j : S128x128.Idx) : kWm w j = masked (j 0) (j 1) (w (ix3 0 (j 0) (j 1))) := by
  unfold masked
  pointwise [kWm, k0_pay17, k0_pay10, pay16]

theorem vl_at (j : S128x128.Idx) : kVl v lg lb j = nrm (row v (j 0)) (j 1) * lg (ix2 0 (j 1)) + lb (ix2 0 (j 1)) := by
  pointwise [kVl, k0_pay29, k0_pay8, k0_pay9, pay28]

theorem mixed_at (j : S128x128.Idx) : kMixed v lg lb w b j = (blockOf u v g dy lg lb w b).mixed (j 0) (j 1) := by
  have e : kMixed v lg lb w b j = (∑ k, kWm w (ix2 (j 0) k) * kVl v lg lb (ix2 k (j 1))) + b (ix3 0 (j 0) (j 1)) := by
    pointwise [kMixed, k0_pay30, k0_pay11]
    rfl
  rw [e]
  simp only [wm_at, vl_at]
  rfl

/-- The gradient of `mixed`, and that of `vl` under a weight `wm`. -/
theorem pay41 (j : S128x128.Idx) : k0_pay41 (F := Ideal) (k0_pay35 u) (k0_pay39 g dy) j = gelu (u j) * gated (g j) (dy j) := by
  pointwise [k0_pay41, pay35, pay39]

theorem dvl_at (j : S128x128.Idx) :
    k0_pay44 (F := Ideal) (kWm w) (k0_pay35 u) (k0_pay39 g dy) j = (blockOf u v g dy lg lb w b).dvl (j 0) (j 1) := by
  have e : k0_pay44 (F := Ideal) (kWm w) (k0_pay35 u) (k0_pay39 g dy) j
      = ∑ i, kWm w (ix2 i (j 0)) * k0_pay41 (F := Ideal) (k0_pay35 u) (k0_pay39 g dy) (ix2 i (j 1)) := by
    pointwise [k0_pay44]
  rw [e]
  simp only [wm_at, pay41]
  rfl

theorem du_at (j : S128x128.Idx) : kDu u v g dy lg lb w b j = (blockOf u v g dy lg lb w b).du (j 0) (j 1) := by
  have e : kDu u v g dy lg lb w b j = geluBack (u j) (gated (g j) (dy j) * kMixed v lg lb w b j) := by
    unfold geluBack
    pointwise [kDu, k0_pay50, k0_pay42, pay31, pay33, pay34, pay39]
  rw [e, mixed_at u v g dy]
  show _ = geluBack (u (ix2 (j 0) (j 1))) (gated (g (ix2 (j 0) (j 1))) (dy (ix2 (j 0) (j 1))) * _)
  rw [ix2_eta]

theorem dgate_at (j : S128x128.Idx) : kDgate u v g dy lg lb w b j = (blockOf u v g dy lg lb w b).dgate (j 0) (j 1) := by
  have e : kDgate u v g dy lg lb w b j = siluBack (g j) (gelu (u j) * kMixed v lg lb w b j * dy j) := by
    unfold siluBack
    pointwise [kDgate, kMixed, k0_pay52, k0_pay40, k0_pay38, k0_pay37, pay36, pay35]
  rw [e, mixed_at u v g dy]
  show _ = siluBack (g (ix2 (j 0) (j 1))) (gelu (u (ix2 (j 0) (j 1))) * _ * dy (ix2 (j 0) (j 1)))
  rw [ix2_eta]

theorem ctrBack_at (j : S128x128.Idx) :
    k0_pay47 (F := Ideal) (k0_pay8 lg) (kWm w) (k0_pay24 (k0_pay22 v) (k0_pay23 v)) (k0_pay26 (k0_pay22 v) (k0_pay23 v))
      (k0_pay27 (k0_pay22 v) (k0_pay23 v)) (k0_pay35 u) (k0_pay39 g dy) j
      = ctrBack (row v (j 0)) (fun l => (blockOf u v g dy lg lb w b).dvl (j 0) l * lg (ix2 0 l)) (j 1) := by
  unfold ctrBack pull
  pointwise [k0_pay47, k0_pay8, pay24, pay26, pay27, dvl_at u v g dy lg lb w b]

theorem dv_at (j : S128x128.Idx) : kDv u v g dy lg w j = (blockOf u v g dy lg lb w b).dv (j 0) (j 1) := by
  have e : kDv u v g dy lg w j = geluBack (v j)
      (normBack (row v (j 0)) (fun l => (blockOf u v g dy lg lb w b).dvl (j 0) l * lg (ix2 0 l)) (j 1)) := by
    unfold geluBack normBack
    pointwise [kDv, k0_pay51, k0_pay48, pay18, pay20, pay21, ctrBack_at u v g dy lg lb w b]
    simp only [zero_sub]
  rw [e]
  show _ = geluBack (v (ix2 (j 0) (j 1))) _
  rw [ix2_eta]
  rfl

theorem dlg_at (acc : FVec Ideal S1x128 .f32) (j : S1x128.Idx) :
    kDlg u v g dy w acc j = acc j + (blockOf u v g dy lg lb w b).dlg (j 1) := by
  have e : kDlg u v g dy w acc j
      = acc j + ∑ i : Fin 128, nrm (row v i) (j 1) * (blockOf u v g dy lg lb w b).dvl i (j 1) := by
    pointwise [kDlg, k0_pay53, k0_pay46, pay28, dvl_at u v g dy lg lb w b]
  rw [e]
  rfl

theorem dlb_at (acc : FVec Ideal S1x128 .f32) (j : S1x128.Idx) :
    kDlb u g dy w acc j = acc j + (blockOf u v g dy lg lb w b).dlb (j 1) := by
  have e : kDlb u g dy w acc j = acc j + ∑ i : Fin 128, (blockOf u v g dy lg lb w b).dvl i (j 1) := by
    pointwise [kDlb, k0_pay54, k0_pay45, dvl_at u v g dy lg lb w b]
  rw [e]
  rfl

theorem dw_at (acc : FVec Ideal S1x128x128 .f32) (j : S1x128x128.Idx) :
    kDw u v g dy lg lb acc j = acc j + masked (j 1) (j 2) ((blockOf u v g dy lg lb w b).dwm (j 1) (j 2)) := by
  have e : kDw u v g dy lg lb acc j = acc j + masked (j 1) (j 2)
      (∑ c, k0_pay41 (F := Ideal) (k0_pay35 u) (k0_pay39 g dy) (ix2 (j 1) c) * kVl v lg lb (ix2 (j 2) c)) := by
    unfold masked
    pointwise [kDw, k0_pay55, k0_pay49, k0_pay43, pay16]
  rw [e]
  simp only [pay41, vl_at]
  rfl

theorem db_at (acc : FVec Ideal S1x128x128 .f32) (j : S1x128x128.Idx) :
    kDb u g dy acc j = acc j + (blockOf u v g dy lg lb w b).db (j 1) := by
  have e : kDb u g dy acc j = acc j + ∑ c : Fin 128, gelu (u (ix2 (j 1) c)) * gated (g (ix2 (j 1) c)) (dy (ix2 (j 1) c)) := by
    pointwise [kDb, k0_pay56, pay41]
  rw [e]
  rfl

end Payloads

end Cert.KernelIdeal.Exact

end
-- ==== Proof.GatingPoint.lean ====
/-
  What the kernel of the gating unit's backward pass leaves in its output blocks at each point.

  A point takes 256 rows, two blocks of 128, and four heads: eight times the operations of `GatingBlock`. This module says
  which entries of the arguments each of the eight reads, and so what is stored.
-/
module

public import proofs.«01_k».proof.Proof.GatingBlock

@[expose] public section
set_option maxRecDepth 16384
noncomputable section
open Idealize.ShloMosaic Idealize.ShloMosaic.TcCoe Idealize.SL.Sem
open Idealize.ShloMosaic.Pipeline (Dat)

namespace Cert.KernelIdeal.Exact

open Cert.KernelIdeal Cert.KernelIdeal.Gen

variable (m : (ℓ : Loc nD τ sig) → Buf (Elt Ideal) ℓ)

/-- Block `n` of head `g` of the kernel's arguments. -/
def blk (c : Dev nD) (n : Fin 64) (g : Fin 4) : Block :=
  blockAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n g

/-- Where the windows stand at each point. -/
theorem place : ∀ t : Fin cfg0.N, win0_0.index t = ![t.val, 8] ∧ win0_1.index t = ![t.val, 9]
    ∧ win0_2.index t = ![t.val, 10] ∧ win0_3.index t = ![0, 0] ∧ win0_4.index t = ![0, 0] ∧ win0_5.index t = ![0, 0, 0]
    ∧ win0_6.index t = ![0, 0, 0] ∧ win0_7.index t = ![t.val, 0] ∧ win0_8.index t = ![t.val, 0] ∧ win0_9.index t = ![0, 0]
    ∧ win0_10.index t = ![0, 0] ∧ win0_11.index t = ![0, 0, 0] ∧ win0_12.index t = ![0, 0, 0] :=
  (by decide +kernel : ∀ t : Fin grid0.N, _)

variable (c : Dev nD) (t : Fin cfg0.N)

theorem points : cfg0.N = 32 := rfl

theorem u_at (i : Fin 256) (l : Fin 512) (hi : 256 * t.val + i.val < 8192) (hl : 4096 + l.val < 7296) :
    X0_0 m c t (ix2 i l) = m ((c : Thread nD τ).loc main_arg0) (ix2 ⟨256 * t.val + i, hi⟩ ⟨4096 + l, hl⟩) := by
  unfold X0_0 Pipeline.Window.fill
  rw [dif_pos (moved0_0 t _)]
  blk_point [iblk, V, place t]

theorem v_at (i : Fin 256) (l : Fin 512) (hi : 256 * t.val + i.val < 8192) (hl : 4608 + l.val < 7296) :
    X0_1 m c t (ix2 i l) = m ((c : Thread nD τ).loc main_arg0) (ix2 ⟨256 * t.val + i, hi⟩ ⟨4608 + l, hl⟩) := by
  unfold X0_1 Pipeline.Window.fill
  rw [dif_pos (moved0_1 t _)]
  blk_point [iblk, V, place t]

theorem g_at (i : Fin 256) (l : Fin 512) (hi : 256 * t.val + i.val < 8192) (hl : 5120 + l.val < 7296) :
    X0_2 m c t (ix2 i l) = m ((c : Thread nD τ).loc main_arg0) (ix2 ⟨256 * t.val + i, hi⟩ ⟨5120 + l, hl⟩) := by
  unfold X0_2 Pipeline.Window.fill
  rw [dif_pos (moved0_2 t _)]
  blk_point [iblk, V, place t]

theorem lg_at (l : Fin 512) : (iblk m c 3 t : FVec Ideal S1x512 .f32) (ix2 0 l) = m ((c : Thread nD τ).loc main_arg1) (ix1 l) := by
  blk_point [iblk, V, place t]

theorem lb_at (l : Fin 512) : (iblk m c 4 t : FVec Ideal S1x512 .f32) (ix2 0 l) = m ((c : Thread nD τ).loc main_arg2) (ix1 l) := by
  blk_point [iblk, V, place t]

theorem w_at (g : Fin 4) (i k : Fin 128) :
    (iblk m c 5 t : FVec Ideal S4x128x128 .f32) (ix3 g i k) = m ((c : Thread nD τ).loc main_arg3) (ix3 g i k) := by
  blk_point [iblk, V, place t]

theorem b_at (g : Fin 4) (i k : Fin 128) :
    (iblk m c 6 t : FVec Ideal S4x128x128 .f32) (ix3 g i k) = m ((c : Thread nD τ).loc main_arg4) (ix2 g i) := by
  blk_point [iblk, V, place t]

theorem dy_at (i : Fin 256) (l : Fin 512) (hi : 256 * t.val + i.val < 8192) :
    (iblk m c 7 t : FVec Ideal S256x512 .f32) (ix2 i l) = m ((c : Thread nD τ).loc main_arg5) (ix2 ⟨256 * t.val + i, hi⟩ l) := by
  blk_point [iblk, V, place t]

/-- The `r`-th block of rows and `g`-th head of the point: the tiles the kernel loads. -/
theorem tile_block (r : Fin 2) (g : Fin 4) (hn : 2 * t.val + r.val < 64)
    (h2 : ∀ a, ![128 * r.val, 128 * g.val] a + ![128, 128] a ≤ S256x512.size a) (h1 : ∀ a, ![0, 128 * g.val] a + ![1, 128] a ≤ S1x512.size a)
    (h3 : ∀ a, ![g.val, 0, 0] a + ![1, 128, 128] a ≤ S4x128x128.size a) :
    blockOf (View.ld (X0_0 m c t) (Rect.unit ![128 * r.val, 128 * g.val] ![128, 128] h2))
      (View.ld (X0_1 m c t) (Rect.unit ![128 * r.val, 128 * g.val] ![128, 128] h2))
      (View.ld (X0_2 m c t) (Rect.unit ![128 * r.val, 128 * g.val] ![128, 128] h2))
      (View.ld (iblk m c 7 t) (Rect.unit ![128 * r.val, 128 * g.val] ![128, 128] h2))
      (View.ld (iblk m c 3 t) (Rect.unit ![0, 128 * g.val] ![1, 128] h1))
      (View.ld (iblk m c 4 t) (Rect.unit ![0, 128 * g.val] ![1, 128] h1))
      (View.ld (iblk m c 5 t) (Rect.unit ![g.val, 0, 0] ![1, 128, 128] h3))
      (View.ld (iblk m c 6 t) (Rect.unit ![g.val, 0, 0] ![1, 128, 128] h3)) = blk m c ⟨2 * t.val + r.val, hn⟩ g := by
  have tt := t.isLt
  have e2 : ∀ i l : Fin 128, (Rect.unit (s := S256x512) ![128 * r.val, 128 * g.val] ![128, 128] h2).idx (ix2 i l)
      = ix2 (n0 := 256) (n1 := 512) ⟨128 * r.val + i.val, by omega⟩ ⟨128 * g.val + l.val, by omega⟩ := by
    intro i l; blk_point []
    all_goals simp [Rect.idx_unit_val]
  have e1 : ∀ l : Fin 128, (Rect.unit (s := S1x512) ![0, 128 * g.val] ![1, 128] h1).idx (ix2 0 l)
      = ix2 (n0 := 1) (n1 := 512) 0 ⟨128 * g.val + l.val, by omega⟩ := by
    intro l; blk_point []
    all_goals simp [Rect.idx_unit_val]
  have e3 : ∀ i l : Fin 128, (Rect.unit (s := S4x128x128) ![g.val, 0, 0] ![1, 128, 128] h3).idx (ix3 0 i l)
      = ix3 (n0 := 4) (n1 := 128) (n2 := 128) g i l := by
    intro i l; blk_point []
    all_goals simp [Rect.idx_unit_val]
  have rows : ∀ i : Fin 128, 256 * t.val + (128 * r.val + i.val) = 128 * (2 * t.val + r.val) + i.val := by intro i; omega
  have sp : ∀ (o : ℕ) (i l : Fin 128) (h h' k k'), (ix2 (n0 := 8192) (n1 := 7296) ⟨256 * t.val + (128 * r.val + i.val), h⟩ ⟨o + (128 * g.val + l.val), k⟩)
      = ix2 ⟨128 * (2 * t.val + r.val) + i.val, h'⟩ ⟨o + (128 * g.val + l.val), k'⟩ := by
    intro o i l h h' k k'; simp only [rows]
  have sd : ∀ (i l : Fin 128) (h h' k), (ix2 (n0 := 8192) (n1 := 512) ⟨256 * t.val + (128 * r.val + i.val), h⟩ ⟨128 * g.val + l.val, k⟩)
      = ix2 ⟨128 * (2 * t.val + r.val) + i.val, h'⟩ ⟨128 * g.val + l.val, k⟩ := by
    intro i l h h' k; simp only [rows]
  unfold blk blockAt blockOf
  congr 1
  · funext i l
    exact (congrArg (X0_0 m c t) (e2 i l)).trans ((u_at m c t _ _ (by dsimp only; omega) (by dsimp only; omega)).trans
      (congrArg _ (sp 4096 i l _ _ _ _)))
  · funext i l
    exact (congrArg (X0_1 m c t) (e2 i l)).trans ((v_at m c t _ _ (by dsimp only; omega) (by dsimp only; omega)).trans
      (congrArg _ (sp 4608 i l _ _ _ _)))
  · funext i l
    exact (congrArg (X0_2 m c t) (e2 i l)).trans ((g_at m c t _ _ (by dsimp only; omega) (by dsimp only; omega)).trans
      (congrArg _ (sp 5120 i l _ _ _ _)))
  · funext i l
    exact (congrArg (iblk m c 7 t) (e2 i l)).trans ((dy_at m c t _ _ (by dsimp only; omega)).trans
      (congrArg _ (sd i l _ _ _)))
  · funext l
    exact (congrArg (iblk m c 3 t) (e1 l)).trans (lg_at m c t _)
  · funext l
    exact (congrArg (iblk m c 4 t) (e1 l)).trans (lb_at m c t _)
  · funext i k
    exact (congrArg (iblk m c 5 t) (e3 i k)).trans (w_at m c t g i k)
  · funext i k
    exact (congrArg (iblk m c 6 t) (e3 i k)).trans (b_at m c t g i k)

/-- What a point leaves in its rows of the gradient array. -/
def left8 (y : S256x1536.Idx) : EReal :=
  grad (blk m c ⟨2 * t.val + (y 0).val / 128, by have h := t.isLt; have h' : (y 0).val < 256 := (y 0).isLt; have h'' : t.val < 32 := h; omega⟩
        ⟨(y 1).val % 512 / 128, by omega⟩)
      ⟨(y 1).val / 512, by have h' : (y 1).val < 1536 := (y 1).isLt; omega⟩ ⟨(y 0).val % 128, by omega⟩ ⟨(y 1).val % 128, by omega⟩

theorem left8_at (y : S256x1536.Idx) (r : Fin 2) (g : Fin 4) (part : Fin 3) (i l : Fin 128) (hn : 2 * t.val + r.val < 64)
    (h0 : (y 0).val = 128 * r.val + i.val) (h1 : (y 1).val = 512 * part.val + 128 * g.val + l.val) :
    grad (blk m c ⟨2 * t.val + r.val, hn⟩ g) part i l = left8 m c t y := by
  unfold left8
  have a : (y 0).val / 128 = r.val := by omega
  have b : (y 0).val % 128 = i.val := by omega
  have d : (y 1).val / 512 = part.val := by omega
  have e : (y 1).val % 512 / 128 = g.val := by omega
  have f : (y 1).val % 128 = l.val := by omega
  simp only [a, b, d, e, f]

section Pieces

variable (r : Fin 2) (g : Fin 4)
    (h2 : ∀ a, ![128 * r.val, 128 * g.val] a + ![128, 128] a ≤ S256x512.size a) (h1 : ∀ a, ![0, 128 * g.val] a + ![1, 128] a ≤ S1x512.size a)
    (h3 : ∀ a, ![g.val, 0, 0] a + ![1, 128, 128] a ≤ S4x128x128.size a)

abbrev tu : FVec Ideal S128x128 .f32 := View.ld (X0_0 m c t) (Rect.unit ![128 * r.val, 128 * g.val] ![128, 128] h2)
abbrev tv : FVec Ideal S128x128 .f32 := View.ld (X0_1 m c t) (Rect.unit ![128 * r.val, 128 * g.val] ![128, 128] h2)
abbrev tg : FVec Ideal S128x128 .f32 := View.ld (X0_2 m c t) (Rect.unit ![128 * r.val, 128 * g.val] ![128, 128] h2)
abbrev tdy : FVec Ideal S128x128 .f32 := View.ld (iblk m c 7 t) (Rect.unit ![128 * r.val, 128 * g.val] ![128, 128] h2)
abbrev tlg : FVec Ideal S1x128 .f32 := View.ld (iblk m c 3 t) (Rect.unit ![0, 128 * g.val] ![1, 128] h1)
abbrev tlb : FVec Ideal S1x128 .f32 := View.ld (iblk m c 4 t) (Rect.unit ![0, 128 * g.val] ![1, 128] h1)
abbrev tw : FVec Ideal S1x128x128 .f32 := View.ld (iblk m c 5 t) (Rect.unit ![g.val, 0, 0] ![1, 128, 128] h3)
abbrev tb : FVec Ideal S1x128x128 .f32 := View.ld (iblk m c 6 t) (Rect.unit ![g.val, 0, 0] ![1, 128, 128] h3)

theorem point_lt : 2 * t.val + r.val < 64 := by have h : t.val < 32 := t.isLt; omega

theorem du_piece (x : S128x128.Idx) (y : S256x1536.Idx) (h0 : (y 0).val = 128 * r.val + (x 0).val)
    (h1' : (y 1).val = 128 * g.val + (x 1).val) :
    kDu (tu m c t r g h2) (tv m c t r g h2) (tg m c t r g h2) (tdy m c t r g h2) (tlg m c t g h1) (tlb m c t g h1)
      (tw m c t g h3) (tb m c t g h3) x = left8 m c t y := by
  rw [du_at, tile_block m c t r g (point_lt t r)]
  exact left8_at m c t y r g 0 (x 0) (x 1) _ h0 (h1'.trans (by simp))

theorem dv_piece (x : S128x128.Idx) (y : S256x1536.Idx) (h0 : (y 0).val = 128 * r.val + (x 0).val)
    (h1' : (y 1).val = 512 + 128 * g.val + (x 1).val) :
    kDv (tu m c t r g h2) (tv m c t r g h2) (tg m c t r g h2) (tdy m c t r g h2) (tlg m c t g h1)
      (tw m c t g h3) x = left8 m c t y := by
  rw [dv_at (lb := tlb m c t g h1) (b := tb m c t g h3), tile_block m c t r g (point_lt t r)]
  exact left8_at m c t y r g 1 (x 0) (x 1) _ h0 (h1'.trans (by simp))

theorem dgate_piece (x : S128x128.Idx) (y : S256x1536.Idx) (h0 : (y 0).val = 128 * r.val + (x 0).val)
    (h1' : (y 1).val = 1024 + 128 * g.val + (x 1).val) :
    kDgate (tu m c t r g h2) (tv m c t r g h2) (tg m c t r g h2) (tdy m c t r g h2) (tlg m c t g h1) (tlb m c t g h1)
      (tw m c t g h3) (tb m c t g h3) x = left8 m c t y := by
  rw [dgate_at, tile_block m c t r g (point_lt t r)]
  exact left8_at m c t y r g 2 (x 0) (x 1) _ h0 (h1'.trans (by simp))

end Pieces

theorem out8_first (h : t.val % 32 = 0) (y : S256x1536.Idx) : (outsAt0 m c t.val t.isLt).1 y = left8 m c t y := by
  rw [outsAt0_A m c t h]
  frame_open
  simp (disch := first | rfl | decide) only [↓View.readCov_skip, ↓View.readCov_fill, View.read_writes_junk_eq_canon, View.canon_cons_unit_lit',
    View.ld_unit_lit', View.readCov_unit_lit', View.readCov_cons_unit_lit', View.readAt_eq_ld, Memref.IsWhole.read_unread]
  canon_tiles x h
  case piece0 => exact dgate_piece m c t 1 3 _ _ _ x y (h0.trans (by simp)) (h1.trans (by simp))
  case piece1 => exact dv_piece m c t 1 3 _ _ _ x y (h0.trans (by simp)) (h1.trans (by simp))
  case piece2 => exact du_piece m c t 1 3 _ _ _ x y (h0.trans (by simp)) (h1.trans (by simp))
  case piece3 => exact dgate_piece m c t 1 2 _ _ _ x y (h0.trans (by simp)) (h1.trans (by simp))
  case piece4 => exact dv_piece m c t 1 2 _ _ _ x y (h0.trans (by simp)) (h1.trans (by simp))
  case piece5 => exact du_piece m c t 1 2 _ _ _ x y (h0.trans (by simp)) (h1.trans (by simp))
  case piece6 => exact dgate_piece m c t 1 1 _ _ _ x y (h0.trans (by simp)) (h1.trans (by simp))
  case piece7 => exact dv_piece m c t 1 1 _ _ _ x y (h0.trans (by simp)) (h1.trans (by simp))
  case piece8 => exact du_piece m c t 1 1 _ _ _ x y (h0.trans (by simp)) (h1.trans (by simp))
  case piece9 => exact dgate_piece m c t 1 0 _ _ _ x y (h0.trans (by simp)) (h1.trans (by simp))
  case piece10 => exact dv_piece m c t 1 0 _ _ _ x y (h0.trans (by simp)) (h1.trans (by simp))
  case piece11 => exact du_piece m c t 1 0 _ _ _ x y (h0.trans (by simp)) (h1.trans (by simp))
  case piece12 => exact dgate_piece m c t 0 3 _ _ _ x y (h0.trans (by simp)) (h1.trans (by simp))
  case piece13 => exact dv_piece m c t 0 3 _ _ _ x y (h0.trans (by simp)) (h1.trans (by simp))
  case piece14 => exact du_piece m c t 0 3 _ _ _ x y (h0.trans (by simp)) (h1.trans (by simp))
  case piece15 => exact dgate_piece m c t 0 2 _ _ _ x y (h0.trans (by simp)) (h1.trans (by simp))
  case piece16 => exact dv_piece m c t 0 2 _ _ _ x y (h0.trans (by simp)) (h1.trans (by simp))
  case piece17 => exact du_piece m c t 0 2 _ _ _ x y (h0.trans (by simp)) (h1.trans (by simp))
  case piece18 => exact dgate_piece m c t 0 1 _ _ _ x y (h0.trans (by simp)) (h1.trans (by simp))
  case piece19 => exact dv_piece m c t 0 1 _ _ _ x y (h0.trans (by simp)) (h1.trans (by simp))
  case piece20 => exact du_piece m c t 0 1 _ _ _ x y (h0.trans (by simp)) (h1.trans (by simp))
  case piece21 => exact dgate_piece m c t 0 0 _ _ _ x y (h0.trans (by simp)) (h1.trans (by simp))
  case piece22 => exact dv_piece m c t 0 0 _ _ _ x y (h0.trans (by simp)) (h1.trans (by simp))
  case piece23 => exact du_piece m c t 0 0 _ _ _ x y (h0.trans (by simp)) (h1.trans (by simp))

theorem out8_later (h : ¬t.val % 32 = 0) (y : S256x1536.Idx) : (outsAt0 m c t.val t.isLt).1 y = left8 m c t y := by
  rw [outsAt0_B m c t h]
  frame_open
  simp (disch := first | rfl | decide) only [↓View.readCov_skip, ↓View.readCov_fill, View.read_writes_junk_eq_canon, View.canon_cons_unit_lit',
    View.ld_unit_lit', View.readCov_unit_lit', View.readCov_cons_unit_lit', View.readAt_eq_ld, Memref.IsWhole.read_unread]
  canon_tiles x h
  case piece0 => exact dgate_piece m c t 1 3 _ _ _ x y (h0.trans (by simp)) (h1.trans (by simp))
  case piece1 => exact dv_piece m c t 1 3 _ _ _ x y (h0.trans (by simp)) (h1.trans (by simp))
  case piece2 => exact du_piece m c t 1 3 _ _ _ x y (h0.trans (by simp)) (h1.trans (by simp))
  case piece3 => exact dgate_piece m c t 1 2 _ _ _ x y (h0.trans (by simp)) (h1.trans (by simp))
  case piece4 => exact dv_piece m c t 1 2 _ _ _ x y (h0.trans (by simp)) (h1.trans (by simp))
  case piece5 => exact du_piece m c t 1 2 _ _ _ x y (h0.trans (by simp)) (h1.trans (by simp))
  case piece6 => exact dgate_piece m c t 1 1 _ _ _ x y (h0.trans (by simp)) (h1.trans (by simp))
  case piece7 => exact dv_piece m c t 1 1 _ _ _ x y (h0.trans (by simp)) (h1.trans (by simp))
  case piece8 => exact du_piece m c t 1 1 _ _ _ x y (h0.trans (by simp)) (h1.trans (by simp))
  case piece9 => exact dgate_piece m c t 1 0 _ _ _ x y (h0.trans (by simp)) (h1.trans (by simp))
  case piece10 => exact dv_piece m c t 1 0 _ _ _ x y (h0.trans (by simp)) (h1.trans (by simp))
  case piece11 => exact du_piece m c t 1 0 _ _ _ x y (h0.trans (by simp)) (h1.trans (by simp))
  case piece12 => exact dgate_piece m c t 0 3 _ _ _ x y (h0.trans (by simp)) (h1.trans (by simp))
  case piece13 => exact dv_piece m c t 0 3 _ _ _ x y (h0.trans (by simp)) (h1.trans (by simp))
  case piece14 => exact du_piece m c t 0 3 _ _ _ x y (h0.trans (by simp)) (h1.trans (by simp))
  case piece15 => exact dgate_piece m c t 0 2 _ _ _ x y (h0.trans (by simp)) (h1.trans (by simp))
  case piece16 => exact dv_piece m c t 0 2 _ _ _ x y (h0.trans (by simp)) (h1.trans (by simp))
  case piece17 => exact du_piece m c t 0 2 _ _ _ x y (h0.trans (by simp)) (h1.trans (by simp))
  case piece18 => exact dgate_piece m c t 0 1 _ _ _ x y (h0.trans (by simp)) (h1.trans (by simp))
  case piece19 => exact dv_piece m c t 0 1 _ _ _ x y (h0.trans (by simp)) (h1.trans (by simp))
  case piece20 => exact du_piece m c t 0 1 _ _ _ x y (h0.trans (by simp)) (h1.trans (by simp))
  case piece21 => exact dgate_piece m c t 0 0 _ _ _ x y (h0.trans (by simp)) (h1.trans (by simp))
  case piece22 => exact dv_piece m c t 0 0 _ _ _ x y (h0.trans (by simp)) (h1.trans (by simp))
  case piece23 => exact du_piece m c t 0 0 _ _ _ x y (h0.trans (by simp)) (h1.trans (by simp))

theorem out8 (y : S256x1536.Idx) : (outsAt0 m c t.val t.isLt).1 y = left8 m c t y := by
  by_cases h : t.val % 32 = 0
  · exact out8_first m c t h y
  · exact out8_later m c t h y

/-! ### The sums over the rows -/

/-- Four stores that are blocks of `G` and cover it leave `G`, whatever was stored before. -/
theorem canon_four {s : Shape} {e : EltTy} (G : s.Idx → Elt Ideal e) (p₁ p₂ p₃ p₄ : View.Piece (Elt Ideal) s e) (L : List (View.Piece (Elt Ideal) s e))
    (h : View.PiecesOf G [p₁, p₂, p₃, p₄]) (y : s.Idx) (hc : ∃ p ∈ [p₁, p₂, p₃, p₄], y ∈ p.1.set) :
    View.canon (p₁ :: p₂ :: p₃ :: p₄ :: L) y = G y :=
  View.canon_append_of_piecesOf G L [p₁, p₂, p₃, p₄] h y hc

def early : Fin 64 := ⟨2 * t.val, by have h : t.val < 32 := t.isLt; omega⟩
def late : Fin 64 := ⟨2 * t.val + 1, by have h : t.val < 32 := t.isLt; omega⟩

def step9 (prev : FVec Ideal S1x512 .f32) (y : S1x512.Idx) : EReal :=
  prev y + (blk m c (early t) (head (y 1))).dlg (chan (y 1)) + (blk m c (late t) (head (y 1))).dlg (chan (y 1))

def step10 (prev : FVec Ideal S1x512 .f32) (y : S1x512.Idx) : EReal :=
  prev y + (blk m c (early t) (head (y 1))).dlb (chan (y 1)) + (blk m c (late t) (head (y 1))).dlb (chan (y 1))

def step11 (prev : FVec Ideal S4x128x128 .f32) (y : S4x128x128.Idx) : EReal :=
  prev y + masked (y 1) (y 2) ((blk m c (early t) (y 0)).dwm (y 1) (y 2))
    + masked (y 1) (y 2) ((blk m c (late t) (y 0)).dwm (y 1) (y 2))

def step12 (prev : FVec Ideal S4x128x128 .f32) (y : S4x128x128.Idx) : EReal :=
  prev y + (blk m c (early t) (y 0)).db (y 1) + (blk m c (late t) (y 0)).db (y 1)

theorem zero4 : k0_pay4 (F := Ideal) = fun _ => 0 := by funext j; pointwise [k0_pay4]
theorem zero5 : k0_pay5 (F := Ideal) = fun _ => 0 := by funext j; pointwise [k0_pay5]
theorem zero6 : k0_pay6 (F := Ideal) = fun _ => 0 := by funext j; pointwise [k0_pay6]
theorem zero7 : k0_pay7 (F := Ideal) = fun _ => 0 := by funext j; pointwise [k0_pay7]

section Pieces

variable (g : Fin 4)
    (h2 : ∀ a, ![128 * (0 : Fin 2).val, 128 * g.val] a + ![128, 128] a ≤ S256x512.size a)
    (h2' : ∀ a, ![128 * (1 : Fin 2).val, 128 * g.val] a + ![128, 128] a ≤ S256x512.size a)
    (h1 : ∀ a, ![0, 128 * g.val] a + ![1, 128] a ≤ S1x512.size a)
    (h3 : ∀ a, ![g.val, 0, 0] a + ![1, 128, 128] a ≤ S4x128x128.size a)

theorem head_emb (x : S1x128.Idx) : head ((Rect.unit (s := S1x512) ![0, 128 * g.val] ![1, 128] h1).idx x 1) = g := by
  have e : ((Rect.unit (s := S1x512) ![0, 128 * g.val] ![1, 128] h1).idx x 1).val = 128 * g.val + (x 1).val := by simp [Rect.idx_unit_val]
  have hx : (x 1).val < 128 := (x 1).isLt
  exact Fin.ext (by show _ / 128 = _; omega)

theorem chan_emb (x : S1x128.Idx) : chan ((Rect.unit (s := S1x512) ![0, 128 * g.val] ![1, 128] h1).idx x 1) = x 1 := by
  have e : ((Rect.unit (s := S1x512) ![0, 128 * g.val] ![1, 128] h1).idx x 1).val = 128 * g.val + (x 1).val := by simp [Rect.idx_unit_val]
  have hx : (x 1).val < 128 := (x 1).isLt
  exact Fin.ext (by show _ % 128 = _; omega)

abbrev acc1 (prev : FVec Ideal S1x512 .f32) : FVec Ideal S1x128 .f32 := View.ld (S := S1x512) (Val := Elt Ideal) (e' := .f32) prev (Rect.unit ![0, 128 * g.val] ![1, 128] h1)
abbrev acc3 (prev : FVec Ideal S4x128x128 .f32) : FVec Ideal S1x128x128 .f32 :=
  View.ld (S := S4x128x128) (Val := Elt Ideal) (e' := .f32) prev (Rect.unit ![g.val, 0, 0] ![1, 128, 128] h3)

theorem dlg_piece (prev : FVec Ideal S1x512 .f32) (x : S1x128.Idx) :
    kDlg (tu m c t 1 g h2') (tv m c t 1 g h2') (tg m c t 1 g h2') (tdy m c t 1 g h2') (tw m c t g h3)
      (kDlg (tu m c t 0 g h2) (tv m c t 0 g h2) (tg m c t 0 g h2) (tdy m c t 0 g h2) (tw m c t g h3)
        (acc1 g h1 prev)) x
      = step9 m c t prev ((Rect.unit (s := S1x512) ![0, 128 * g.val] ![1, 128] h1).emb x) := by
  rw [dlg_at (lg := tlg m c t g h1) (lb := tlb m c t g h1) (b := tb m c t g h3), tile_block m c t 1 g (point_lt t 1),
    dlg_at (lg := tlg m c t g h1) (lb := tlb m c t g h1) (b := tb m c t g h3), tile_block m c t 0 g (point_lt t 0)]
  show _ = step9 m c t prev ((Rect.unit (s := S1x512) ![0, 128 * g.val] ![1, 128] h1).idx x)
  unfold step9
  rw [head_emb, chan_emb]
  rfl

theorem dlb_piece (prev : FVec Ideal S1x512 .f32) (x : S1x128.Idx) :
    kDlb (tu m c t 1 g h2') (tg m c t 1 g h2') (tdy m c t 1 g h2') (tw m c t g h3)
      (kDlb (tu m c t 0 g h2) (tg m c t 0 g h2) (tdy m c t 0 g h2) (tw m c t g h3)
        (acc1 g h1 prev)) x
      = step10 m c t prev ((Rect.unit (s := S1x512) ![0, 128 * g.val] ![1, 128] h1).emb x) := by
  rw [dlb_at (v := tv m c t 1 g h2') (lg := tlg m c t g h1) (lb := tlb m c t g h1) (b := tb m c t g h3), tile_block m c t 1 g (point_lt t 1),
    dlb_at (v := tv m c t 0 g h2) (lg := tlg m c t g h1) (lb := tlb m c t g h1) (b := tb m c t g h3), tile_block m c t 0 g (point_lt t 0)]
  show _ = step10 m c t prev ((Rect.unit (s := S1x512) ![0, 128 * g.val] ![1, 128] h1).idx x)
  unfold step10
  rw [head_emb, chan_emb]
  rfl

theorem emb3 (x : S1x128x128.Idx) : (Rect.unit (s := S4x128x128) ![g.val, 0, 0] ![1, 128, 128] h3).idx x
    = ix3 (n0 := 4) (n1 := 128) (n2 := 128) g (x 1) (x 2) := by
  funext a
  refine Fin.ext ((Rect.idx_unit_val _ _ h3 x a).trans ?_)
  have hx : (x 0).val < 1 := (x 0).isLt
  fin_cases a
  · show g.val + (x 0).val = g.val; omega
  · show 0 + (x 1).val = (x 1).val; omega
  · show 0 + (x 2).val = (x 2).val; omega

theorem dw_piece (prev : FVec Ideal S4x128x128 .f32) (x : S1x128x128.Idx) :
    kDw (tu m c t 1 g h2') (tv m c t 1 g h2') (tg m c t 1 g h2') (tdy m c t 1 g h2') (tlg m c t g h1) (tlb m c t g h1)
      (kDw (tu m c t 0 g h2) (tv m c t 0 g h2) (tg m c t 0 g h2) (tdy m c t 0 g h2) (tlg m c t g h1) (tlb m c t g h1)
        (acc3 g h3 prev)) x
      = step11 m c t prev ((Rect.unit (s := S4x128x128) ![g.val, 0, 0] ![1, 128, 128] h3).emb x) := by
  rw [dw_at (w := tw m c t g h3) (b := tb m c t g h3), tile_block m c t 1 g (point_lt t 1),
    dw_at (w := tw m c t g h3) (b := tb m c t g h3), tile_block m c t 0 g (point_lt t 0)]
  show _ = step11 m c t prev ((Rect.unit (s := S4x128x128) ![g.val, 0, 0] ![1, 128, 128] h3).idx x)
  rw [acc3, View.ld_apply, emb3]
  rfl

include h1 in
theorem db_piece (prev : FVec Ideal S4x128x128 .f32) (x : S1x128x128.Idx) :
    kDb (tu m c t 1 g h2') (tg m c t 1 g h2') (tdy m c t 1 g h2')
      (kDb (tu m c t 0 g h2) (tg m c t 0 g h2) (tdy m c t 0 g h2)
        (acc3 g h3 prev)) x
      = step12 m c t prev ((Rect.unit (s := S4x128x128) ![g.val, 0, 0] ![1, 128, 128] h3).emb x) := by
  rw [db_at (v := tv m c t 1 g h2') (lg := tlg m c t g h1) (lb := tlb m c t g h1) (w := tw m c t g h3) (b := tb m c t g h3), tile_block m c t 1 g (point_lt t 1),
    db_at (v := tv m c t 0 g h2) (lg := tlg m c t g h1) (lb := tlb m c t g h1) (w := tw m c t g h3) (b := tb m c t g h3), tile_block m c t 0 g (point_lt t 0)]
  show _ = step12 m c t prev ((Rect.unit (s := S4x128x128) ![g.val, 0, 0] ![1, 128, 128] h3).idx x)
  rw [acc3, View.ld_apply, emb3]
  rfl

end Pieces

theorem out9_later (h : ¬t.val % 32 = 0) (y : S1x512.Idx) : (outsAt0 m c t.val t.isLt).2.1 y
    = step9 m c t (outsAt0 m c (t.val - 1) (Nat.lt_of_le_of_lt (Nat.sub_le _ _) t.isLt)).2.1 y := by
  rw [outsAt0_B m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step9 m c t _) _ _ _ _ _ ⟨?_, ?_, ?_, ?_, trivial⟩ y (View.cover_of_tiledBy _ ![1, 128] (by sl_kernel_rfl) y)
  · exact dlg_piece m c t 3 (by decide) (by decide) (by decide) (by decide) _
  · exact dlg_piece m c t 2 (by decide) (by decide) (by decide) (by decide) _
  · exact dlg_piece m c t 1 (by decide) (by decide) (by decide) (by decide) _
  · exact dlg_piece m c t 0 (by decide) (by decide) (by decide) (by decide) _

theorem out9_first (h : t.val % 32 = 0) (y : S1x512.Idx) : (outsAt0 m c t.val t.isLt).2.1 y
    = step9 m c t (fun _ => 0) y := by
  rw [← zero4, outsAt0_A m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step9 m c t _) _ _ _ _ _ ⟨?_, ?_, ?_, ?_, trivial⟩ y (View.cover_of_tiledBy _ ![1, 128] (by sl_kernel_rfl) y)
  · exact dlg_piece m c t 3 (by decide) (by decide) (by decide) (by decide) _
  · exact dlg_piece m c t 2 (by decide) (by decide) (by decide) (by decide) _
  · exact dlg_piece m c t 1 (by decide) (by decide) (by decide) (by decide) _
  · exact dlg_piece m c t 0 (by decide) (by decide) (by decide) (by decide) _

theorem out10_later (h : ¬t.val % 32 = 0) (y : S1x512.Idx) : (outsAt0 m c t.val t.isLt).2.2.1 y
    = step10 m c t (outsAt0 m c (t.val - 1) (Nat.lt_of_le_of_lt (Nat.sub_le _ _) t.isLt)).2.2.1 y := by
  rw [outsAt0_B m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step10 m c t _) _ _ _ _ _ ⟨?_, ?_, ?_, ?_, trivial⟩ y (View.cover_of_tiledBy _ ![1, 128] (by sl_kernel_rfl) y)
  · exact dlb_piece m c t 3 (by decide) (by decide) (by decide) (by decide) _
  · exact dlb_piece m c t 2 (by decide) (by decide) (by decide) (by decide) _
  · exact dlb_piece m c t 1 (by decide) (by decide) (by decide) (by decide) _
  · exact dlb_piece m c t 0 (by decide) (by decide) (by decide) (by decide) _

theorem out10_first (h : t.val % 32 = 0) (y : S1x512.Idx) : (outsAt0 m c t.val t.isLt).2.2.1 y
    = step10 m c t (fun _ => 0) y := by
  rw [← zero5, outsAt0_A m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step10 m c t _) _ _ _ _ _ ⟨?_, ?_, ?_, ?_, trivial⟩ y (View.cover_of_tiledBy _ ![1, 128] (by sl_kernel_rfl) y)
  · exact dlb_piece m c t 3 (by decide) (by decide) (by decide) (by decide) _
  · exact dlb_piece m c t 2 (by decide) (by decide) (by decide) (by decide) _
  · exact dlb_piece m c t 1 (by decide) (by decide) (by decide) (by decide) _
  · exact dlb_piece m c t 0 (by decide) (by decide) (by decide) (by decide) _

theorem out11_later (h : ¬t.val % 32 = 0) (y : S4x128x128.Idx) : (outsAt0 m c t.val t.isLt).2.2.2.1 y
    = step11 m c t (outsAt0 m c (t.val - 1) (Nat.lt_of_le_of_lt (Nat.sub_le _ _) t.isLt)).2.2.2.1 y := by
  rw [outsAt0_B m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step11 m c t _) _ _ _ _ _ ⟨?_, ?_, ?_, ?_, trivial⟩ y (View.cover_of_tiledBy _ ![1, 128, 128] (by sl_kernel_rfl) y)
  · exact dw_piece m c t 3 (by decide) (by decide) (by decide) (by decide) _
  · exact dw_piece m c t 2 (by decide) (by decide) (by decide) (by decide) _
  · exact dw_piece m c t 1 (by decide) (by decide) (by decide) (by decide) _
  · exact dw_piece m c t 0 (by decide) (by decide) (by decide) (by decide) _

theorem out11_first (h : t.val % 32 = 0) (y : S4x128x128.Idx) : (outsAt0 m c t.val t.isLt).2.2.2.1 y
    = step11 m c t (fun _ => 0) y := by
  rw [← zero6, outsAt0_A m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step11 m c t _) _ _ _ _ _ ⟨?_, ?_, ?_, ?_, trivial⟩ y (View.cover_of_tiledBy _ ![1, 128, 128] (by sl_kernel_rfl) y)
  · exact dw_piece m c t 3 (by decide) (by decide) (by decide) (by decide) _
  · exact dw_piece m c t 2 (by decide) (by decide) (by decide) (by decide) _
  · exact dw_piece m c t 1 (by decide) (by decide) (by decide) (by decide) _
  · exact dw_piece m c t 0 (by decide) (by decide) (by decide) (by decide) _

theorem out12_later (h : ¬t.val % 32 = 0) (y : S4x128x128.Idx) : (outsAt0 m c t.val t.isLt).2.2.2.2 y
    = step12 m c t (outsAt0 m c (t.val - 1) (Nat.lt_of_le_of_lt (Nat.sub_le _ _) t.isLt)).2.2.2.2 y := by
  rw [outsAt0_B m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step12 m c t _) _ _ _ _ _ ⟨?_, ?_, ?_, ?_, trivial⟩ y (View.cover_of_tiledBy _ ![1, 128, 128] (by sl_kernel_rfl) y)
  · exact db_piece m c t 3 (by decide) (by decide) (by decide) (by decide) _
  · exact db_piece m c t 2 (by decide) (by decide) (by decide) (by decide) _
  · exact db_piece m c t 1 (by decide) (by decide) (by decide) (by decide) _
  · exact db_piece m c t 0 (by decide) (by decide) (by decide) (by decide) _

theorem out12_first (h : t.val % 32 = 0) (y : S4x128x128.Idx) : (outsAt0 m c t.val t.isLt).2.2.2.2 y
    = step12 m c t (fun _ => 0) y := by
  rw [← zero7, outsAt0_A m c t h]
  frame_open
  simp (disch := first | rfl | decide) only [↓View.readCov_skip, ↓View.readCov_fill, View.readCov_cons_toLoadRect, View.read_writes_junk_eq_canon,
    View.canon_cons_unit_lit', View.ld_unit_lit', View.readCov_unit_lit', View.readCov_cons_unit_lit', View.readAt_eq_ld,
    Memref.IsWhole.read_unread]
  refine canon_four (e := .f32) (step12 m c t _) _ _ _ _ _ ⟨?_, ?_, ?_, ?_, trivial⟩ y (View.cover_of_tiledBy _ ![1, 128, 128] (by sl_kernel_rfl) y)
  · exact db_piece m c t 3 (by decide) (by decide) (by decide) (by decide) _
  · exact db_piece m c t 2 (by decide) (by decide) (by decide) (by decide) _
  · exact db_piece m c t 1 (by decide) (by decide) (by decide) (by decide) _
  · exact db_piece m c t 0 (by decide) (by decide) (by decide) (by decide) _

end Cert.KernelIdeal.Exact

end
-- ==== Proof.GatingReference.lean ====
/-
  The gating unit's backward pass in the reference, entry by entry.

  The reference works on whole arrays [8192, 512] and on their views as [8192, 4, 128] (rows, heads, channels of a head)
  and [64, 128, 4, 128] (blocks, rows of a block, heads, channels). Row `R` and channel `C` are row `R % 128` of block
  `R / 128` and channel `C % 128` of head `C / 128`; this module reads each of its arrays at an entry, in the words of
  `GatingBlock`. Its own words differ in: `erfc (-z)` for `1 + erf z`, a doubled centred row for adding its product twice,
  and a constant and a result both negated in the derivative of `gelu`.
-/
module

public import proofs.«01_k».proof.Proof.GatingBlock

@[expose] public section
set_option maxRecDepth 16384
noncomputable section
open Idealize.ShloMosaic Idealize.ShloMosaic.TcCoe Idealize.SL.Sem
open Idealize.ShloMosaic.Pipeline (Dat)

namespace Cert.ReferenceIdeal.Gating

open Cert.ReferenceIdeal Cert.ReferenceIdeal.Read
open Cert.KernelIdeal.Exact

variable (p : FVec Ideal S8192x7296 .f32) (lg lb : FVec Ideal S512 .f32) (w : FVec Ideal S4x128x128 .f32)
  (b : FVec Ideal S4x128 .f32) (dy : FVec Ideal S8192x512 .f32)

/-! ### The activations -/

theorem neg_scaled (x : EReal) : -x * Ideal.ofBits .f32 0x3F3504F3#32 = -scaled x := EReal.neg_mul _ _

theorem ref4 (j : S8192x512.Idx) : val_main_v4 (F := Ideal) p j = half (val_main_v0 (F := Ideal) p j) := by
  unfold half; pointwise [val_main_v4, val_main_v3, val_main_cst]
theorem ref8 (j : S8192x512.Idx) : val_main_v8 (F := Ideal) p j = phi (val_main_v0 (F := Ideal) p j) := by
  unfold phi; pointwise [val_main_v8, val_main_v7, val_main_v5, val_main_v6, val_main_cst_0]
  rw [neg_scaled, Ideal.erfc_neg]
theorem ref11 (j : S8192x512.Idx) : val_main_v11 (F := Ideal) p j = bell (val_main_v0 (F := Ideal) p j) := by
  unfold bell; pointwise [val_main_v11, val_main_v10, val_main_v9, val_main_v7, val_main_v5, val_main_v6, val_main_cst_0]
  rw [neg_scaled, neg_mul_neg]
theorem ref12 (j : S8192x512.Idx) : val_main_v12 (F := Ideal) p j = gelu (val_main_v0 (F := Ideal) p j) := by
  unfold gelu; pointwise [val_main_v12, ref4, ref8]
theorem ref14 (j : S8192x512.Idx) : val_main_v14 (F := Ideal) p j = half (val_main_v1 (F := Ideal) p j) := by
  unfold half; pointwise [val_main_v14, val_main_v13, val_main_cst_1]
theorem ref18 (j : S8192x512.Idx) : val_main_v18 (F := Ideal) p j = phi (val_main_v1 (F := Ideal) p j) := by
  unfold phi; pointwise [val_main_v18, val_main_v17, val_main_v15, val_main_v16, val_main_cst_2]
  rw [neg_scaled, Ideal.erfc_neg]
theorem ref21 (j : S8192x512.Idx) : val_main_v21 (F := Ideal) p j = bell (val_main_v1 (F := Ideal) p j) := by
  unfold bell; pointwise [val_main_v21, val_main_v20, val_main_v19, val_main_v17, val_main_v15, val_main_v16, val_main_cst_2]
  rw [neg_scaled, neg_mul_neg]
theorem ref22 (j : S8192x512.Idx) : val_main_v22 (F := Ideal) p j = gelu (val_main_v1 (F := Ideal) p j) := by
  unfold gelu; pointwise [val_main_v22, ref14, ref18]

theorem logistic_at (x : EReal) : Ideal.div 1 (1 + Ideal.exp (-x)) = Ideal.logistic x := rfl

theorem ref69 (j : S8192x512.Idx) : val_main_v69_2 (F := Ideal) p j = Ideal.logistic (val_main_v2 (F := Ideal) p j) := by
  rw [← logistic_at]; pointwise [val_main_v69_2, val_main_call2_v4, val_main_call2_cst_0, val_main_call2_v3, val_main_call2_v2, val_main_call2_cst, val_main_call2_v1, val_main_call2_v0]
theorem ref72 (j : S8192x512.Idx) : val_main_v72 (F := Ideal) p dy j = gated (val_main_v2 (F := Ideal) p j) (dy j) := by
  unfold gated; pointwise [val_main_v72, val_main_v69_0, ref69]
theorem ref74 (j : S8192x512.Idx) : val_main_v74 (F := Ideal) p dy j
    = gelu (val_main_v0 (F := Ideal) p j) * gated (val_main_v2 (F := Ideal) p j) (dy j) := by
  pointwise [val_main_v74, ref12, ref72]

/-! ### The layer norm -/

/-- Row `R` of `gelu v`, in the channels of head `g`. -/
def rowAt (R : Fin 8192) (g : Fin 4) (l : Fin 128) : EReal := gelu (p (ix2 R ⟨4608 + (128 * g + l), by omega⟩))

theorem ref23 (j : S8192x4x128.Idx) : val_main_v23 (F := Ideal) p j = rowAt p (j 0) (j 1) (j 2) := by
  unfold rowAt
  pointwise [val_main_v23, ref22, val_main_v1]
  blk_point []
theorem ref29 (j : S8192x4x128.Idx) : val_main_v29 (F := Ideal) p j = ctr (rowAt p (j 0) (j 1)) (j 2) := by
  unfold ctr mean
  pointwise [val_main_v29, val_main_v28, val_main_v27, val_main_v25, val_main_v24, val_main_cst_3, val_main_v26, val_main_cst_4, ref23]
theorem ref38 (j : S8192x4x1.Idx) : val_main_v38 (F := Ideal) p j = vare (rowAt p (j 0) (j 1)) := by
  unfold vare
  pointwise [val_main_v38, val_main_v36, val_main_v34, val_main_v33, val_main_v30, val_main_cst_6, val_main_v35, val_main_cst_7, val_main_v37, val_main_cst_8, ref29]
theorem ref39 (j : S8192x4x1.Idx) : val_main_v39 (F := Ideal) p j = spread (rowAt p (j 0) (j 1)) := by
  unfold spread
  pointwise [val_main_v39, ref38]
theorem ref42 (j : S8192x4x1.Idx) : val_main_v42 (F := Ideal) p j = Cert.KernelIdeal.Exact.slope (rowAt p (j 0) (j 1)) := by
  unfold Cert.KernelIdeal.Exact.slope
  pointwise [val_main_v42, val_main_v41, val_main_cst_9, val_main_v40, ref39, ref38]
theorem ref44 (j : S8192x4x128.Idx) : val_main_v44 (F := Ideal) p j = nrm (rowAt p (j 0) (j 1)) (j 2) := by
  unfold nrm
  pointwise [val_main_v44, val_main_v43, ref39, ref29]
theorem ref45 (j : S8192x512.Idx) : val_main_v45 (F := Ideal) p j = nrm (rowAt p (j 0) (head (j 1))) (chan (j 1)) := by
  unfold head chan
  pointwise [val_main_v45, ref44]
theorem ref51 (j : S8192x512.Idx) : val_main_v51 (F := Ideal) p lg lb j
    = nrm (rowAt p (j 0) (head (j 1))) (chan (j 1)) * lg (ix1 (j 1)) + lb (ix1 (j 1)) := by
  pointwise [val_main_v51, val_main_v48, val_main_v47, val_main_v46, val_main_v50, val_main_v49, ref45]
/-! ### Rows and channels by block and head -/

theorem head_at (g : Fin 4) (l : Fin 128) (h) : head ⟨g.val * 128 + l.val, h⟩ = g := Fin.ext (by show (g.val * 128 + l.val) / 128 = g.val; omega)
theorem chan_at (g : Fin 4) (l : Fin 128) (h) : chan ⟨g.val * 128 + l.val, h⟩ = l := Fin.ext (by show (g.val * 128 + l.val) % 128 = l.val; omega)

/-- The block a row belongs to, and the row in it. -/
def blockNo (R : Fin 8192) : Fin 64 := ⟨R.val / 128, by omega⟩
def line (R : Fin 8192) : Fin 128 := ⟨R.val % 128, by omega⟩

theorem blockNo_at (n : Fin 64) (i : Fin 128) (h) : blockNo ⟨n.val * 128 + i.val, h⟩ = n := Fin.ext (by show (n.val * 128 + i.val) / 128 = n.val; omega)
theorem line_at (n : Fin 64) (i : Fin 128) (h) : line ⟨n.val * 128 + i.val, h⟩ = i := Fin.ext (by show (n.val * 128 + i.val) % 128 = i.val; omega)

theorem row_glue (R : Fin 8192) (h) : (⟨128 * (blockNo R).val + (line R).val, h⟩ : Fin 8192) = R :=
  Fin.ext (by show 128 * (_ / 128) + _ % 128 = _; omega)
theorem col_glue (C : Fin 512) (h) : (⟨128 * (head C).val + (chan C).val, h⟩ : Fin 512) = C :=
  Fin.ext (by show 128 * (_ / 128) + _ % 128 = _; omega)
theorem glue (C : Fin 512) : 128 * (head C).val + (chan C).val = C.val := by
  show 128 * (C.val / 128) + C.val % 128 = C.val
  omega

/-- The block of row `R` and channel `C`. -/
def around (R : Fin 8192) (C : Fin 512) : Block := blockAt p lg lb w b dy (blockNo R) (head C)

theorem u_around (R : Fin 8192) (C : Fin 512) :
    val_main_v0 (F := Ideal) p (ix2 R C) = (around p lg lb w b dy R C).u (line R) (chan C) := by
  simp only [around, blockAt, row_glue, glue]
  pointwise [val_main_v0]
theorem v_around (R : Fin 8192) (C : Fin 512) :
    val_main_v1 (F := Ideal) p (ix2 R C) = (around p lg lb w b dy R C).v (line R) (chan C) := by
  simp only [around, blockAt, row_glue, glue]
  pointwise [val_main_v1]
theorem g_around (R : Fin 8192) (C : Fin 512) :
    val_main_v2 (F := Ideal) p (ix2 R C) = (around p lg lb w b dy R C).g (line R) (chan C) := by
  simp only [around, blockAt, row_glue, glue]
  pointwise [val_main_v2]
theorem dy_around (R : Fin 8192) (C : Fin 512) :
    dy (ix2 R C) = (around p lg lb w b dy R C).dy (line R) (chan C) := by
  simp only [around, blockAt, row_glue, col_glue]
theorem lg_around (R : Fin 8192) (C : Fin 512) :
    lg (ix1 C) = (around p lg lb w b dy R C).lg (chan C) := by
  simp only [around, blockAt, col_glue]
theorem lb_around (R : Fin 8192) (C : Fin 512) :
    lb (ix1 C) = (around p lg lb w b dy R C).lb (chan C) := by
  simp only [around, blockAt, col_glue]
theorem row_around (R : Fin 8192) (C : Fin 512) :
    rowAt p R (head C) = (around p lg lb w b dy R C).row (line R) := by
  funext l
  simp only [rowAt, Block.row, around, blockAt, row_glue]

theorem around_at (n : Fin 64) (i : Fin 128) (g : Fin 4) (l : Fin 128) (h h') :
    around p lg lb w b dy ⟨n.val * 128 + i.val, h⟩ ⟨g.val * 128 + l.val, h'⟩ = blockAt p lg lb w b dy n g := by
  unfold around
  rw [blockNo_at, head_at]

theorem in_block (f : Block → Fin 128 → Fin 128 → EReal) (n : Fin 64) (i : Fin 128) (g : Fin 4) (l : Fin 128) (h h') :
    f (around p lg lb w b dy ⟨n.val * 128 + i.val, h⟩ ⟨g.val * 128 + l.val, h'⟩) (line ⟨n.val * 128 + i.val, h⟩) (chan ⟨g.val * 128 + l.val, h'⟩)
      = f (blockAt p lg lb w b dy n g) i l := by
  rw [around_at, line_at, chan_at]

theorem ref51' (R : Fin 8192) (C : Fin 512) : val_main_v51 (F := Ideal) p lg lb (ix2 R C)
    = (around p lg lb w b dy R C).vl (line R) (chan C) := by
  rw [ref51]
  unfold Block.vl
  rw [← row_around, ← lg_around, ← lb_around]
  rfl

theorem ref52 (j : S64x128x4x128.Idx) : val_main_v52 (F := Ideal) p lg lb j
    = (blockAt p lg lb w b dy (j 0) (j 2)).vl (j 1) (j 3) := by
  pointwise [val_main_v52, ref51' p lg lb w b dy]
  exact in_block p lg lb w b dy Block.vl (j 0) (j 1) (j 2) (j 3) _ _

/-! ### The masked weight -/

theorem word : ∀ i : Fin 128, Scalar.select
        (IntOp.andi
          (IntOp.cmpi CmpIPredicate.ne
            (if BitVec.ofNat 32 i.val = 0 then 0 else if (BitVec.ofNat 32 i.val).msb = true then -1 else 1 : BitVec 32)
            (if 64#32 = 0 then 0 else if BitVec.msb 64#32 = true then -1 else 1 : BitVec 32))
          (IntOp.cmpi CmpIPredicate.ne (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32) = BitVec.ofNat 32 (i.val / 64) := by decide +kernel

theorem ref59 (j : S128x128.Idx) : val_main_v59 (F := Ideal) j = sees (j 0) (j 1) := by
  unfold sees
  pointwise [val_main_v59, val_main_v57, val_main_v55, val_main_v54, val_main_call0_v11, val_main_call0_v6, val_main_call0_v3, val_main_v53, val_main_call0_v5, val_main_call0_v4, val_main_call0_v0, val_main_c, val_main_call0_v10, val_main_call0_v8, val_main_call0_v7, val_main_call0_v9, val_main_call0_c, val_main_call0_v13, val_main_call0_v2, val_main_call0_v1, val_main_call0_v12, val_main_call0_c_0, val_main_v58, val_main_v56]
  exact congrArg₂ (IntOp.cmpi .sge) (word (j 0)) (word (j 1))

theorem sitofp_zero : FloatOps.sitofp (F := Ideal) .f32 (0#32 : BitVec 32) = (0 : EReal) := by
  show ((((0#32 : BitVec 32).toInt : ℤ) : ℝ) : EReal) = 0
  simp

theorem ref60 (j : S4x128x128.Idx) : val_main_v60_0 (F := Ideal) w j = masked (j 1) (j 2) (w j) := by
  unfold masked
  pointwise [val_main_v60_0, val_main_v60_1, val_main_call1_v2, val_main_call1_v0, val_main_c_10, ref59]
  exact congrArg _ sitofp_zero

theorem ref61 (j : S4x64x128x128.Idx) : val_main_v61 (F := Ideal) p lg lb w j
    = ∑ k, (blockAt p lg lb w b dy (j 1) (j 0)).wm (j 3) k * (blockAt p lg lb w b dy (j 1) (j 0)).vl k (j 2) := by
  unfold Block.wm
  pointwise [val_main_v61, ref52 p lg lb w b dy, ref60]
  exact Finset.sum_congr rfl fun k _ => mul_comm _ _

theorem ref66 (j : S64x128x4x128.Idx) : val_main_v66 (F := Ideal) p lg lb w b j
    = (blockAt p lg lb w b dy (j 0) (j 2)).mixed (j 1) (j 3) := by
  unfold Block.mixed
  pointwise [val_main_v66, val_main_v62, val_main_v65, val_main_v64, val_main_v63, ref61 p lg lb w b dy]
  rfl

theorem ref67 (R : Fin 8192) (C : Fin 512) : val_main_v67 (F := Ideal) p lg lb w b (ix2 R C)
    = (around p lg lb w b dy R C).mixed (line R) (chan C) := by
  unfold around
  pointwise [val_main_v67, ref66 p lg lb w b dy]
  rfl

/-! ### The gradients row by row -/

theorem ref74' (R : Fin 8192) (C : Fin 512) : val_main_v74 (F := Ideal) p dy (ix2 R C)
    = (around p lg lb w b dy R C).dm (line R) (chan C) := by
  rw [ref74, u_around p lg lb w b dy, g_around p lg lb w b dy, dy_around p lg lb w b dy]
  rfl

theorem ref76 (j : S64x128x4x128.Idx) : val_main_v76 (F := Ideal) p dy j
    = (blockAt p lg lb w b dy (j 0) (j 2)).dm (j 1) (j 3) := by
  pointwise [val_main_v76, ref74' p lg lb w b dy]
  exact in_block p lg lb w b dy Block.dm (j 0) (j 1) (j 2) (j 3) _ _

theorem ref73 (R : Fin 8192) (C : Fin 512) : val_main_v73 (F := Ideal) p lg lb w b dy (ix2 R C)
    = (around p lg lb w b dy R C).dgate (line R) (chan C) := by
  unfold Block.dgate siluBack
  pointwise [val_main_v73, val_main_call3_v1, val_main_v71, val_main_v68, val_main_call3_v2, val_main_call3_v0, val_main_v69_1, val_main_call2_v7, val_main_call2_v6, val_main_call2_cst_1, ref69, ref12, u_around p lg lb w b dy, g_around p lg lb w b dy, ref67 p lg lb w b dy]
  rw [dy_around p lg lb w b dy R C]

theorem ref84 (j : S64x128x4x128.Idx) : val_main_v84 (F := Ideal) p w dy j
    = (blockAt p lg lb w b dy (j 0) (j 2)).dvl (j 1) (j 3) := by
  unfold Block.dvl Block.wm
  pointwise [val_main_v84, val_main_v83, val_main_v81, ref76 p lg lb w b dy, ref60]
  exact Finset.sum_congr rfl fun k _ => mul_comm _ _

theorem ref86 (R : Fin 8192) (C : Fin 512) : val_main_v86 (F := Ideal) p w dy (ix2 R C)
    = (around p lg lb w b dy R C).dvl (line R) (chan C) := by
  unfold around
  pointwise [val_main_v86, ref84 p lg lb w b dy]
  rfl

/-- The gradient of the scaled and shifted norm, times the scale. -/
def scaledBack (R : Fin 8192) (g : Fin 4) (l : Fin 128) : EReal :=
  (blockAt p lg lb w b dy (blockNo R) g).dvl (line R) l * (blockAt p lg lb w b dy (blockNo R) g).lg l

theorem ref94 (R : Fin 8192) (C : Fin 512) : val_main_v94 (F := Ideal) p lg w dy (ix2 R C)
    = (around p lg lb w b dy R C).dvl (line R) (chan C) * (around p lg lb w b dy R C).lg (chan C) := by
  rw [← lg_around]
  pointwise [val_main_v94, val_main_v93, val_main_v46, ref86 p lg lb w b dy]

theorem in_head (R : Fin 8192) (g : Fin 4) (l : Fin 128) (h) :
    (around p lg lb w b dy R ⟨g.val * 128 + l.val, h⟩).dvl (line R) (chan ⟨g.val * 128 + l.val, h⟩)
        * (around p lg lb w b dy R ⟨g.val * 128 + l.val, h⟩).lg (chan ⟨g.val * 128 + l.val, h⟩)
      = scaledBack p lg lb w b dy R g l := by
  unfold scaledBack around
  rw [head_at, chan_at]

theorem ref96 (j : S8192x4x128.Idx) : val_main_v96 (F := Ideal) p lg w dy j = scaledBack p lg lb w b dy (j 0) (j 1) (j 2) := by
  pointwise [val_main_v96, ref94 p lg lb w b dy]
  exact in_head p lg lb w b dy (j 0) (j 1) (j 2) _

theorem two : Ideal.ofBits .f32 0x40000000#32 = (2 : EReal) := by
  rw [show (2 : EReal) = ((2 : ℝ) : EReal) by norm_cast]
  simp [Ideal.ofBits, Ideal.ieee, -EReal.coe_mul]; norm_num

/-- The reference doubles the centred row, the kernel adds its product twice. -/
theorem twice (x y z : EReal) : z + y * (Ideal.ofBits .f32 0x40000000#32 * x) = z + x * y + y * x := by
  rw [two, mul_left_comm, show (2 : EReal) * (y * x) = y * x + y * x by
    rw [show (2 : EReal) = 1 + 1 by norm_num, EReal.right_distrib_of_nonneg (by norm_num) (by norm_num), one_mul],
    ← add_assoc, mul_comm x y]

theorem ref98 (j : S8192x4.Idx) : val_main_v98 (F := Ideal) p lg w dy j
    = ∑ l, ctr (rowAt p (j 0) (j 1)) l * scaledBack p lg lb w b dy (j 0) (j 1) l := by
  pointwise [val_main_v98, val_main_v97, val_main_cst_17, ref29, ref96 p lg lb w b dy]

theorem ref105 (j : S8192x4.Idx) : val_main_v105 (F := Ideal) p lg w dy j
    = pull (rowAt p (j 0) (j 1)) (scaledBack p lg lb w b dy (j 0) (j 1)) := by
  unfold pull
  pointwise [val_main_v105, val_main_v104, val_main_v102, val_main_v99, val_main_v103, val_main_cst_18, val_main_cst_19, ref42, ref98 p lg lb w b dy]

theorem ref108 (j : S8192x4x128.Idx) : val_main_v108 (F := Ideal) p lg w dy j
    = ctrBack (rowAt p (j 0) (j 1)) (scaledBack p lg lb w b dy (j 0) (j 1)) (j 2) := by
  unfold ctrBack
  rw [← twice]
  pointwise [val_main_v108, val_main_v101, val_main_v100, val_main_v107, val_main_v106, val_main_v32, val_main_v31, val_main_cst_5, ref39, ref29, ref96 p lg lb w b dy, ref105 p lg lb w b dy]

theorem ref116 (j : S8192x4x128.Idx) : val_main_v116 (F := Ideal) p lg w dy j
    = normBack (rowAt p (j 0) (j 1)) (scaledBack p lg lb w b dy (j 0) (j 1)) (j 2) := by
  unfold normBack
  pointwise [val_main_v116, val_main_v115, val_main_v114, val_main_v113, val_main_v111, val_main_v110, val_main_v109, val_main_cst_20, val_main_v112, val_main_cst_21, val_main_cst_22, ref108 p lg lb w b dy]

theorem ref117 (R : Fin 8192) (C : Fin 512) : val_main_v117 (F := Ideal) p lg w dy (ix2 R C)
    = normBack ((around p lg lb w b dy R C).row (line R))
        (fun l => (around p lg lb w b dy R C).dvl (line R) l * (around p lg lb w b dy R C).lg l) (chan C) := by
  rw [← row_around]
  pointwise [val_main_v117, ref116 p lg lb w b dy]
  rfl

/-! ### The derivative of `gelu` -/

theorem neg_const : Ideal.ofBits .f32 0xBF906EBB#32 = -Ideal.ofBits .f32 0x3F906EBB#32 := by
  simp [Ideal.ofBits, Ideal.ieee, -EReal.coe_mul, -EReal.coe_neg]
  exact EReal.coe_neg _

/-- The reference negates the constant and the product. -/
theorem geluBack_neg (x d : EReal) :
    -(Ideal.ofBits .f32 0xBF906EBB#32 * (half x * d) * bell x * Ideal.ofBits .f32 0x3F3504F3#32)
      + Ideal.ofBits .f32 0x3F000000#32 * (d * phi x) = geluBack x d := by
  rw [neg_const, EReal.neg_mul, EReal.neg_mul, EReal.neg_mul, neg_neg]
  rfl

theorem ref139 (R : Fin 8192) (C : Fin 512) : val_main_v139 (F := Ideal) p lg lb w b dy (ix2 R C)
    = (around p lg lb w b dy R C).du (line R) (chan C) := by
  unfold Block.du Block.ds
  rw [← geluBack_neg]
  pointwise [val_main_v139, val_main_v136, val_main_v135, val_main_v133, val_main_v132, val_main_v131, val_main_cst_26, val_main_v129, val_main_v75, val_main_v134, val_main_cst_27, val_main_v138, val_main_v137, val_main_cst_28, val_main_v130, ref4, ref8, ref11, ref72, ref67 p lg lb w b dy, u_around p lg lb w b dy, g_around p lg lb w b dy]
  rw [dy_around p lg lb w b dy R C]

theorem ref128 (R : Fin 8192) (C : Fin 512) : val_main_v128 (F := Ideal) p lg w dy (ix2 R C)
    = (around p lg lb w b dy R C).dv (line R) (chan C) := by
  unfold Block.dv
  rw [← geluBack_neg]
  pointwise [val_main_v128, val_main_v125, val_main_v124, val_main_v122, val_main_v121, val_main_v120, val_main_cst_23, val_main_v118, val_main_v123, val_main_cst_24, val_main_v127, val_main_v126, val_main_cst_25, val_main_v119, ref14, ref18, ref21, ref117 p lg lb w b dy, v_around p lg lb w b dy]

/-- The gradients of the gating unit's columns of the projection, by the three ranges. -/
theorem ref141_du (R : Fin 8192) (C : Fin 512) (h) : val_main_v141 (F := Ideal) p lg lb w b dy (ix2 R ⟨C.val, h⟩)
    = val_main_v139 (F := Ideal) p lg lb w b dy (ix2 R C) := by
  pointwise [val_main_v141, val_main_v140]
theorem ref141_dv (R : Fin 8192) (C : Fin 512) (h) : val_main_v141 (F := Ideal) p lg lb w b dy (ix2 R ⟨512 + C.val, h⟩)
    = val_main_v128 (F := Ideal) p lg w dy (ix2 R C) := by
  pointwise [val_main_v141, val_main_v140]
theorem ref141_dgate (R : Fin 8192) (C : Fin 512) (h) : val_main_v141 (F := Ideal) p lg lb w b dy (ix2 R ⟨1024 + C.val, h⟩)
    = val_main_v73 (F := Ideal) p lg lb w b dy (ix2 R C) := by
  pointwise [val_main_v141, val_main_v140]
  rw [dif_neg (by omega), dif_neg (by omega)]
  exact congrArg (fun c => val_main_v73 (F := Ideal) p lg lb w b dy (ix2 R c)) (Fin.ext (by show 1024 + _ - 512 - 512 = _; omega))

/-- Column `c` of the result: part `c / 512`, column `c % 512` of it. -/
theorem ref141 (R : Fin 8192) (c : Fin 1536) (hp : c.val / 512 < 3) (hc : c.val % 512 < 512) :
    val_main_v141 (F := Ideal) p lg lb w b dy (ix2 R c)
      = grad (around p lg lb w b dy R ⟨c.val % 512, hc⟩) ⟨c.val / 512, hp⟩ (line R) (chan ⟨c.val % 512, hc⟩) := by
  unfold grad
  by_cases h0 : c.val < 512
  · rw [if_pos (Fin.ext (by show c.val / 512 = 0; omega)), ← ref139, ← ref141_du (h := by show c.val % 512 < _; omega)]
    exact congrArg (fun d => val_main_v141 (F := Ideal) p lg lb w b dy (ix2 R d)) (Fin.ext (by show _ = c.val % 512; omega))
  · rw [if_neg fun e => h0 (by have := congrArg Fin.val e; change c.val / 512 = 0 at this; omega)]
    by_cases h1 : c.val < 1024
    · rw [if_pos (Fin.ext (by show c.val / 512 = 1; omega)), ← ref128, ← ref141_dv p lg lb w b dy (h := by show 512 + c.val % 512 < _; omega)]
      exact congrArg (fun d => val_main_v141 (F := Ideal) p lg lb w b dy (ix2 R d)) (Fin.ext (by show _ = 512 + c.val % 512; omega))
    · rw [if_neg fun e => h1 (by have := congrArg Fin.val e; change c.val / 512 = 1 at this; omega), ← ref73,
        ← ref141_dgate (h := by show 1024 + c.val % 512 < _; omega)]
      exact congrArg (fun d => val_main_v141 (F := Ideal) p lg lb w b dy (ix2 R d)) (Fin.ext (by show _ = 1024 + c.val % 512; omega))

/-! ### The sums over the rows -/

/-- A sum over the rows, block by block. -/
theorem sum_rows (f : Fin 8192 → EReal) :
    ∑ R, f R = ∑ n : Fin 64, ∑ i : Fin 128, f ⟨n.val * 128 + i.val, by omega⟩ :=
  (Fin.sum_mul_add_congr fun n i hl => rfl).symm

theorem ref142 (r : Fin 1) (C : Fin 512) : val_main_v142 (F := Ideal) p w dy (ix2 r C)
    = ∑ n, (blockAt p lg lb w b dy n (head C)).dlg (chan C) := by
  have e : val_main_v142 (F := Ideal) p w dy (ix2 r C)
      = ∑ R : Fin 8192, val_main_v45 (F := Ideal) p (ix2 R C) * val_main_v86 (F := Ideal) p w dy (ix2 R C) := by
    pointwise [val_main_v142, val_main_v95, val_main_v92, val_main_v91, val_main_v90, val_main_cst_15, val_main_cst_16]
    exact Fin.sum_univ_one _
  rw [e, sum_rows]
  refine Finset.sum_congr rfl fun n _ => Finset.sum_congr rfl fun i _ => ?_
  rw [ref86 p lg lb w b dy, ref45]
  change nrm (rowAt p ⟨n.val * 128 + i.val, _⟩ (head C)) (chan C) * _ = _
  rw [row_around p lg lb w b dy, line_at]
  unfold around
  rw [blockNo_at]

theorem ref143 (r : Fin 1) (C : Fin 512) : val_main_v143 (F := Ideal) p w dy (ix2 r C)
    = ∑ n, (blockAt p lg lb w b dy n (head C)).dlb (chan C) := by
  have e : val_main_v143 (F := Ideal) p w dy (ix2 r C) = ∑ R : Fin 8192, val_main_v86 (F := Ideal) p w dy (ix2 R C) := by
    pointwise [val_main_v143, val_main_v89, val_main_v88, val_main_v87, val_main_cst_13, val_main_cst_14]
    exact Fin.sum_univ_one _
  rw [e, sum_rows]
  refine Finset.sum_congr rfl fun n _ => Finset.sum_congr rfl fun i _ => ?_
  rw [ref86 p lg lb w b dy, line_at]
  unfold around
  rw [blockNo_at]

theorem ref85 (j : S4x128x128.Idx) : val_main_v85 (F := Ideal) p lg lb dy j
    = masked (j 1) (j 2) (∑ n, (blockAt p lg lb w b dy n (j 0)).dwm (j 1) (j 2)) := by
  unfold masked Block.dwm
  pointwise [val_main_v85, val_main_v60_1, val_main_v82, val_main_v81, val_main_call4_v0, val_main_call4_cst, ref59, ref76 p lg lb w b dy, ref52 p lg lb w b dy]

/-- The reference's sum over the first and the last axis, at an index. -/
theorem sum_outer (h : S64x128x4x128.ReducesTo [0, 3] S128x4) (v : S64x128x4x128.Idx → EReal) (init : EReal) (i : Fin 128) (g : Fin 4) :
    Ideal.hostReduceAdd h v init (ix2 i g) = init + ∑ n : Fin 64, ∑ c : Fin 128, v (ix4 n i g c) := by
  refine congrArg (init + ·) ((Finset.sum_filter_eq_sum_of_fiber _ (fun k : Fin 64 × Fin 128 => ix4 k.1 i g k.2)
    (fun _ _ e => Prod.ext (congrFun e 0) (congrFun e 3)) (fun x => ?_) v).trans (by simp only [Fintype.sum_prod_type]))
  constructor
  · intro e
    refine ⟨(x 0, x 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext a
    apply Fin.ext
    match a with
    | ⟨0, _⟩ => rfl
    | ⟨1, _⟩ => rfl

/-- The same where both axes have one entry. -/
theorem sum_ones (h : S1x128x4x1.ReducesTo [0, 3] S128x4) (v : S1x128x4x1.Idx → EReal) (init : EReal) (i : Fin 128) (g : Fin 4) :
    Ideal.hostReduceAdd h v init (ix2 i g) = init + ∑ n : Fin 1, ∑ c : Fin 1, v (ix4 n i g c) := by
  refine congrArg (init + ·) ((Finset.sum_filter_eq_sum_of_fiber _ (fun k : Fin 1 × Fin 1 => ix4 k.1 i g k.2)
    (fun _ _ e => Prod.ext (congrFun e 0) (congrFun e 3)) (fun x => ?_) v).trans (by simp only [Fintype.sum_prod_type]))
  constructor
  · intro e
    refine ⟨(x 0, x 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext a
    apply Fin.ext
    match a with
    | ⟨0, _⟩ => rfl
    | ⟨1, _⟩ => rfl

theorem ref77 (i : Fin 128) (g : Fin 4) : val_main_v77 (F := Ideal) p dy (ix2 i g)
    = ∑ n, (blockAt p lg lb w b dy n g).db i := by
  unfold Block.db
  rw [val_main_v77, Idealize.ShloMosaic.ValueIdx.hostReduceAdd_apply, sum_outer]
  pointwise [val_main_v77, val_main_cst_11, ref76 p lg lb w b dy]

theorem ref79 (i : Fin 128) (g : Fin 4) : val_main_v79 (F := Ideal) p dy (ix2 i g)
    = ∑ n, (blockAt p lg lb w b dy n g).db i := by
  rw [val_main_v79, Idealize.ShloMosaic.ValueIdx.hostReduceAdd_apply, sum_ones, Fin.sum_univ_one, Fin.sum_univ_one]
  pointwise [val_main_v79, val_main_v78, val_main_cst_12, ref77 p lg lb w b dy]

theorem ref145 (g : Fin 4) (i k : Fin 128) : val_main_v145 (F := Ideal) p dy (ix3 g i k)
    = ∑ n, (blockAt p lg lb w b dy n g).db i := by
  pointwise [val_main_v145, val_main_v144, val_main_v80, ref79 p lg lb w b dy]

end Cert.ReferenceIdeal.Gating

end
-- ==== Proof.Gating.lean ====
/-
  The gradient of the spatial gating unit `out = gelu(u) * (wm . layernorm(gelu(v)) + b) * silu(gate)`, the product with
  the masked weights `wm` taken in each block of 128 rows, head by head: of `dy` [8192, 512] the kernel makes the
  gradients of `u`, `v`, `gate` side by side in one array [8192, 1536], and the sums over all blocks that are the
  gradients of the layer norm's scale and shift, of the weights and of the bias.

  The kernel takes 256 rows, two blocks, a point, and redoes the forward of each. The wide array is written block by
  block, each entry by one point; the sums are arrays that all 32 points add two blocks into, which end as
  `0 + ∑ s < 32, (block 2 s + block 2 s + 1)`, the reference's one sum over 64 blocks.
-/
module

public import proofs.«01_k».proof.Proof.GatingPoint
public import proofs.«01_k».proof.Proof.GatingReference
public import proofs.«01_k».proof.Defs
public import Idealize.ShloMosaic.Lib.Claim

@[expose] public section
set_option maxRecDepth 16384
noncomputable section
open Idealize.ShloMosaic Idealize.ShloMosaic.TcCoe Idealize.SL.Sem
open Idealize.ShloMosaic.Pipeline (Dat)

namespace Cert.KernelIdeal.Exact

open Cert.KernelIdeal Cert.KernelIdeal.Gen
open Cert.ReferenceIdeal.Read Cert.ReferenceIdeal.Gating

variable (m : (ℓ : Loc nD τ sig) → Buf (Elt Ideal) ℓ) (c : Dev nD)

/-- Two blocks a point are all blocks. -/
theorem sum_pairs (f : Fin 64 → EReal) (t : Fin 32 → Fin cfg0.N) (ht : ∀ s, (t s).val = s.val) :
    ∑ s : Fin 32, (f (early (t s)) + f (late (t s))) = ∑ n, f n := by
  have e : ∀ s : Fin 32, f (early (t s)) + f (late (t s)) = ∑ k : Fin 2, f ⟨s.val * 2 + k.val, by omega⟩ := by
    intro s
    rw [Fin.sum_univ_two]
    refine congrArg₂ (· + ·) (congrArg f (Fin.ext ?_)) (congrArg f (Fin.ext ?_))
    · show 2 * (t s).val = s.val * 2 + 0
      rw [ht]; omega
    · show 2 * (t s).val + 1 = s.val * 2 + 1
      rw [ht]; omega
  rw [Finset.sum_congr rfl fun s _ => e s]
  exact Fin.sum_mul_add_congr fun s k hl => rfl

/-- The mask of a sum. -/
theorem masked_sum (i k : Fin 128) (f : Fin 64 → EReal) : masked i k (∑ n, f n) = ∑ n, masked i k (f n) := by
  unfold masked Scalar.select
  split
  · rfl
  · exact Finset.sum_const_zero.symm

theorem first_points (t : Fin cfg0.N) (h : t.val % 32 = 32 - 1) (s : Fin 32) : 32 * (t.val / 32) + s.val = s.val := by
  have h' : t.val < 32 := t.isLt
  omega

/-- The gradients of `u`, `v` and `gate`. -/
theorem columns : (dats m 0 c).arrAt 8 cfg0.N
    = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, out8]
  have ht : t.val < 32 := t.isLt
  have h0 : (y 0).val < 256 := (y 0).isLt
  have h1 : (y 1).val < 1536 := (y 1).isLt
  have place_y : val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_8.blk t).view.emb y)
      = val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨256 * t.val + (y 0).val, by omega⟩ ⟨(y 1).val, h1⟩) := by
    blk_point [place t]
  rw [place_y, ref141 _ _ _ _ _ _ _ _ (by show (y 1).val / 512 < 3; omega) (by show (y 1).val % 512 < 512; omega)]
  unfold left8 around blk
  have hn : blockNo ⟨256 * t.val + (y 0).val, by omega⟩ = ⟨2 * t.val + (y 0).val / 128, by omega⟩ :=
    Fin.ext (by show (256 * t.val + (y 0).val) / 128 = 2 * t.val + (y 0).val / 128; omega)
  have hi : line ⟨256 * t.val + (y 0).val, by omega⟩ = ⟨(y 0).val % 128, by omega⟩ :=
    Fin.ext (by show (256 * t.val + (y 0).val) % 128 = (y 0).val % 128; omega)
  have hl : chan ⟨(y 1).val % 512, by omega⟩ = ⟨(y 1).val % 128, by omega⟩ :=
    Fin.ext (by show (y 1).val % 512 % 128 = (y 1).val % 128; omega)
  rw [hn, hi, hl]
  rfl

/-- The gradient of the layer norm's scale. -/
theorem ln_scale : (dats m 0 c).arrAt 9 cfg0.N
    = val_main_v142 (F := Ideal) (m ((c : Thread nD τ).loc main_arg0)) (m ((c : Thread nD τ).loc main_arg3)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.1) 32 (fun _ => 0) _
    (fun t h j => by rw [out9_first m c t h, step9, add_assoc])
    (fun t h j => by rw [out9_later m c t h, step9, add_assoc])
    t ((flush0_9 t).mp hf) _, zero_add]
  have place_y : val_main_v142 (F := Ideal) (m ((c : Thread nD τ).loc main_arg0)) (m ((c : Thread nD τ).loc main_arg3)) (m ((c : Thread nD τ).loc main_arg5)) ((win0_9.blk t).view.emb y)
      = val_main_v142 (F := Ideal) (m ((c : Thread nD τ).loc main_arg0)) (m ((c : Thread nD τ).loc main_arg3)) (m ((c : Thread nD τ).loc main_arg5)) (ix2 0 (y 1)) := by
    blk_point [place t]
  refine (sum_pairs _ _ fun s => ?_).trans (((ref142 _ (m ((c : Thread nD τ).loc main_arg1)) (m ((c : Thread nD τ).loc main_arg2)) _ (m ((c : Thread nD τ).loc main_arg4)) _ 0 (y 1)).symm.trans place_y.symm))
  exact first_points t ((flush0_9 t).mp hf) s

/-- The gradient of the layer norm's shift. -/
theorem ln_shift : (dats m 0 c).arrAt 10 cfg0.N
    = val_main_v143 (F := Ideal) (m ((c : Thread nD τ).loc main_arg0)) (m ((c : Thread nD τ).loc main_arg3)) (m ((c : Thread nD τ).loc main_arg5)) := by
  refine (dats m 0 c).arrAt_eq_of_covers 10 _ (by decide +kernel) fun t hf y => ?_
  blk_simp
  rw [after0_10, Pipeline.eq_sum_fin_of_reset_step_apply_of_flush (fun n h => (outsAt0 m c n h).2.2.1) 32 (fun _ => 0) _
    (fun t h j => by rw [out10_first m c t h, step10, add_assoc])
    (fun t h j => by rw [out10_later m c t h, step10, add_assoc])
    t ((flush0_10 t).mp hf) _, zero_add]
  have place_y : val_main_v143 (F := Ideal) (m ((c : Thread nD τ).loc main_arg0)) (m ((c : Thread nD τ).loc main_arg3)) (m ((c : Thread nD τ).loc main_arg5)) ((win0_10.blk t).view.emb y)
      = val_main_v143 (F := Ideal) (m ((c : Thread nD τ).loc main_arg0)) (m ((c : Thread nD τ).loc main_arg3)) (m ((c : Thread nD τ).loc main_arg5)) (ix2 0 (y 1)) := by
    blk_point [place t]
  refine (sum_pairs _ _ fun s => ?_).trans (((ref143 _ (m ((c : Thread nD τ).loc main_arg1)) (m ((c : Thread nD τ).loc main_arg2)) _ (m ((c : Thread nD τ).loc main_arg4)) _ 0 (y 1)).symm.trans place_y.symm))
  exact first_points t ((flush0_10 t).mp hf) s

/-- The gradient of the weights. -/
theorem weights : (dats m 0 c).arrAt 11 cfg0.N
    = val_main_v85 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 32 (fun _ => 0) _
    (fun t h j => by rw [out11_first m c t h, step11, add_assoc])
    (fun t h j => by rw [out11_later m c t h, step11, add_assoc])
    t ((flush0_11 t).mp hf) _, zero_add]
  have place_y : val_main_v85 (F := Ideal) (m ((c : Thread nD τ).loc main_arg0)) (m ((c : Thread nD τ).loc main_arg1)) (m ((c : Thread nD τ).loc main_arg2)) (m ((c : Thread nD τ).loc main_arg5)) ((win0_11.blk t).view.emb y)
      = val_main_v85 (F := Ideal) (m ((c : Thread nD τ).loc main_arg0)) (m ((c : Thread nD τ).loc main_arg1)) (m ((c : Thread nD τ).loc main_arg2)) (m ((c : Thread nD τ).loc main_arg5)) (ix3 (y 0) (y 1) (y 2)) := by
    blk_point [place t]
  refine (sum_pairs _ _ fun s => ?_).trans ((((ref85 _ _ _ (m ((c : Thread nD τ).loc main_arg3)) (m ((c : Thread nD τ).loc main_arg4)) _ (ix3 (y 0) (y 1) (y 2))).trans (masked_sum _ _ _)).symm.trans place_y.symm))
  exact first_points t ((flush0_11 t).mp hf) s

/-- The gradient of the bias, along the rows. -/
theorem bias : (dats m 0 c).arrAt 12 cfg0.N
    = val_main_v145 (F := Ideal) (m ((c : Thread nD τ).loc main_arg0)) (m ((c : Thread nD τ).loc main_arg5)) := by
  refine (dats m 0 c).arrAt_eq_of_covers 12 _ (by decide +kernel) fun t hf y => ?_
  blk_simp
  rw [after0_12, Pipeline.eq_sum_fin_of_reset_step_apply_of_flush (fun n h => (outsAt0 m c n h).2.2.2.2) 32 (fun _ => 0) _
    (fun t h j => by rw [out12_first m c t h, step12, add_assoc])
    (fun t h j => by rw [out12_later m c t h, step12, add_assoc])
    t ((flush0_12 t).mp hf) _, zero_add]
  have place_y : val_main_v145 (F := Ideal) (m ((c : Thread nD τ).loc main_arg0)) (m ((c : Thread nD τ).loc main_arg5)) ((win0_12.blk t).view.emb y)
      = val_main_v145 (F := Ideal) (m ((c : Thread nD τ).loc main_arg0)) (m ((c : Thread nD τ).loc main_arg5)) (ix3 (y 0) (y 1) (y 2)) := by
    blk_point [place t]
  refine (sum_pairs _ _ fun s => ?_).trans (((ref145 _ (m ((c : Thread nD τ).loc main_arg1)) (m ((c : Thread nD τ).loc main_arg2)) (m ((c : Thread nD τ).loc main_arg3)) (m ((c : Thread nD τ).loc main_arg4)) _ (y 0) (y 1) (y 2)).symm.trans place_y.symm))
  exact first_points t ((flush0_12 t).mp hf) s

end Cert.KernelIdeal.Exact

namespace Cert.Proof

open Cert.KernelIdeal Cert.ReferenceIdeal

/-- The kernel and the reference compute the same five results over the extended reals. -/
theorem algebraic_sg_bwd : Cert.algebraic_KernelIdeal_ReferenceIdeal := by
  pair_intro
  · run_from Cert.KernelIdeal.Gen.run_main m g
  · refine Idealize.ShloMosaic.θ_run_mono (Cert.ReferenceIdeal.Value.run m' g') ?_
    intro r hr c
    obtain ⟨h0, h1, h2, h3, h4, kept⟩ := hr c
    obtain ⟨a0, a1, a2, a3, a4, a5⟩ := hagree c
    refine ⟨(h0.trans (Read.val_main_v141_eq _)).trans ?_, (h1.trans (Read.val_main_v142_eq _)).trans ?_,
      (h2.trans (Read.val_main_v143_eq _)).trans ?_, (h3.trans (Read.val_main_v85_eq _)).trans ?_,
      (h4.trans (Read.val_main_v145_eq _)).trans ?_, kept⟩
      <;> simp only [StableHlo.launchContents_devRef, a0, a1, a2, a3, a4, a5]
    · exact (Exact.columns m c).symm
    · exact (Exact.ln_scale m c).symm
    · exact (Exact.ln_shift m c).symm
    · exact (Exact.weights m c).symm
    · exact (Exact.bias m c).symm

end Cert.Proof

end
-- ==== Proof.InBwd.lean ====
/-
  The gradient of the input projection's rows, `dh = dp · W ᵀ` with `dp` [8192, 7296] and `W` [2048, 7296].

  The kernel walks 16 output blocks [512, 2048], each over a run of three points; point `s` of a run adds the product of
  a [512, 2432] block of `dp` with the transpose of a [2048, 2432] block of `W`. So a block ends holding
  `0 + ∑ s < 3, ∑ k < 2432, dp[r, 2432 s + k] · W[c, 2432 s + k]`, which is the reference's one sum over 7296 columns.
  Only commutativity and associativity of `+` over the extended reals enter.
-/
module

public import proofs.«01_k».proof.Proof.Gen.InBwdIdeal.Value
public import proofs.«01_k».proof.Proof.Gen.InBwdReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InBwdIdeal.Product

open Cert.InBwdIdeal Cert.InBwdIdeal.Gen

variable (m : (ℓ : Loc nD τ sig) → Buf (Elt Ideal) ℓ)

/-- The gradient as the reference computes it, of the two arrays the kernel takes. -/
abbrev grad (dp : FVec Ideal S8192x7296 .bf16) (w : FVec Ideal S2048x7296 .bf16) : FVec Ideal S8192x2048 .f32 :=
  Cert.InBwdReferenceIdeal.Read.val_main_v2 (F := Ideal) dp w

/-- The block a run starts from is zero. -/
theorem start (j : S512x2048.Idx) : k0_pay1 (F := Ideal) j = 0 := by pointwise [k0_pay1]

/-- One point adds the product of its two blocks to what the point before left. -/
theorem add_product (acc : FVec Ideal S512x2048 .f32) (a : FVec Ideal S512x2432 .bf16) (b : FVec Ideal S2048x2432 .bf16)
    (j : S512x2048.Idx) :
    k0_pay2 acc a b j = acc j + ∑ k : Fin 2432, a (ix2 (j 0) k) * b (ix2 (j 1) k) := by
  pointwise [k0_pay2]

/-- The reference at an entry: the whole contraction over the 7296 columns. -/
theorem grad_apply (dp : FVec Ideal S8192x7296 .bf16) (w : FVec Ideal S2048x7296 .bf16) (j : S8192x2048.Idx) :
    grad dp w j = ∑ l : Fin 7296, dp (ix2 (j 0) l) * w (ix2 (j 1) l) := by
  unfold grad
  pointwise [Cert.InBwdReferenceIdeal.Read.val_main_v2, Cert.InBwdReferenceIdeal.Read.val_main_v1,
    Cert.InBwdReferenceIdeal.Read.val_main_v0]

/-- Where the three windows stand at each point. -/
theorem place : ∀ t : Fin cfg0.N, win0_0.index t = ![t.val / 3, t.val % 3]
    ∧ win0_1.index t = ![0, t.val % 3] ∧ win0_2.index t = ![t.val / 3, 0] :=
  (by decide +kernel : ∀ t : Fin grid0.N, _)

/-- After the run the output array is the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by rw [outsAt0_A m c t h]; frame_out; rw [add_product, start])
    (fun t h j => by rw [outsAt0_B m c t h]; frame_out; rw [add_product])
    t ((flush0_2 t).mp hf) _, zero_add, grad_apply]
  refine Fin.sum_mul_add_congr fun s k hl => ?_
  blk_point [iblk, V, place t, place ⟨_, Pipeline.run_point_lt_of_flush t ((flush0_2 t).mp hf) s⟩]

end Cert.InBwdIdeal.Product

namespace Cert.Proof

/-- The kernel and the reference compute the same gradient over the extended reals. -/
theorem algebraic_in_proj_bwd : Cert.algebraic_InBwdIdeal_InBwdReferenceIdeal := by
  pair_intro
  · run_from Cert.InBwdIdeal.Gen.run_main m g
  · run_from Cert.InBwdReferenceIdeal.Value.run m' g'
    rw [Cert.InBwdIdeal.Product.final m c]
    rfl

end Cert.Proof

end
-- ==== Proof.InRun.lean ====
/-
  A run of the input projection that says what its buffers hold. The grid is 16 blocks of 512 rows by 3 blocks of 2432
  columns, the columns innermost. At a block row's first point the body normalises and modulates the 512 rows of `x`, keeps
  them in scratch, and stores their transpose to the second result; at each of the three points it multiplies what the
  scratch holds by a block of `W`'s columns. So from a block row's first point to its last

      scratch = rows of (x normalised and modulated),     second result's buffer = its transpose,

  both of the blocks read at the row's first point (`lead`). The second result's buffer is written back at the row's last
  point, where the body stores nothing into it: what is written back is what the first point left.
-/
module

public import proofs.«01_k».proof.Proof.Gen.InProjIdeal.Frame
public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Pipeline.ReadBack
public import Idealize.ShloMosaic.Lib.VecWindow
public import Idealize.ShloMosaic.Lib.Tactic
public import Idealize.ShloMosaic.Lib.WordCmp
public import Idealize.ShloMosaic.Lib.Claim

@[expose] public section

set_option maxRecDepth 16384

noncomputable section

namespace Cert.InProjIdeal.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole memrefs -/

/-- The body's one condition holds at a block row's first point. -/
theorem first_iff (t : Fin cfg0.N) : k0_cond1 (grid0.coords t) = 1#1 ↔ t.val % 3 = 0 := by
  have ht : t.val < 48 := Nat.lt_of_lt_of_eq t.isLt N_0
  have e0 : (grid0.coords t 0).val = t.val / 3 % 16 := Pipeline.Grid.coords_val t 0 (by decide) rfl
  have e1 : (grid0.coords t 1).val = t.val / 1 % 3 := Pipeline.Grid.coords_val t 1 (by decide) rfl
  simp only [k0_cond1, e0, e1]
  word_cmp

set_option maxHeartbeats 1000000 in
/-- At a block row's first point: the scratch and both results' buffers, at anything before, hold the rows, their
    product with the block of `W`, and their transpose. -/
theorem run_first (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2432 .bf16) (harg6 : arg6.IsWhole) (arg7 : Memref sig .tc .vmem S512x2432 .f32) (harg7 : arg7.IsWhole) (arg8 : Memref sig .tc .vmem S2048x512 .bf16) (harg8 : arg8.IsWhole) (arg9 : Memref sig .tc .vmem S512x2048 .bf16) (harg9 : arg9.IsWhole) (hc0 : k0_cond1 i = 1#1)
    (x0 : Vec F S512x2048 .f32) (x1 : Vec F S1x2048 .f32) (x2 : Vec F S1x2048 .f32) (x3 : Vec F S1x2048 .f32) (x4 : Vec F S2048x2432 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (k0_pay2 x0 x3 x2 x1) x4) ∗ owns (c : Thread nD τ) arg8 fullShare (k0_pay3 x0 x3 x2 x1) ∗ owns (c : Thread nD τ) arg9 fullShare (k0_pay2 x0 x3 x2 x1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      delta run_first.sl.v3 run_first.sl.HS0_1
      rw [View.read_writes_full, View.readCov_full, View.readAt_full, View.readAt_full, View.readAt_full, View.readAt_full, View.readAt_full, hf0, hf1, hf2, hf3, hf4]
    isplitl [H6]
    · iexists _; isplitr; swap; · iexact H6
      ipureintro
      rw [View.read_writes_full, View.readAt_full, View.readAt_full, View.readAt_full, View.readAt_full, hf0, hf1, hf2, hf3]
    iexists _; isplitr; swap; · iexact HS0
    ipureintro
    delta run_first.sl.HS0_1
    rw [View.read_writes_full, View.readAt_full, View.readAt_full, View.readAt_full, View.readAt_full, hf0, hf1, hf2, hf3]

set_option maxHeartbeats 1000000 in
/-- At the two points after: the scratch keeps the rows, the second result's buffer what it held. -/
theorem run_later (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2432 .bf16) (harg6 : arg6.IsWhole) (arg7 : Memref sig .tc .vmem S512x2432 .f32) (harg7 : arg7.IsWhole) (arg8 : Memref sig .tc .vmem S2048x512 .bf16) (harg8 : arg8.IsWhole) (arg9 : Memref sig .tc .vmem S512x2048 .bf16) (harg9 : arg9.IsWhole) (hc0 : ¬k0_cond1 i = 1#1)
    (x0 : Vec F S512x2048 .f32) (x1 : Vec F S1x2048 .f32) (x2 : Vec F S1x2048 .f32) (x3 : Vec F S1x2048 .f32) (x4 : Vec F S2048x2432 .bf16) (h : Vec F S512x2048 .bf16) (d6 : Vec F S2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d6 ∗ owns (c : Thread nD τ) arg9 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 h x4) ∗ owns (c : Thread nD τ) arg8 fullShare d6 ∗ owns (c : Thread nD τ) arg9 fullShare h) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_full, View.readAt_full, View.readAt_full, hs0, hf4]
    isplitl [H6]
    · iexists _; isplitr; swap; · iexact H6
      ipureintro; exact harg8.read_unread _
    iexists _; isplitr; swap; · iexact HS0
    ipureintro; exact harg9.read_unread _

/-! ## What the buffers hold, point by point -/

/-- The first point of the block row of point `n`. -/
def lead (n : ℕ) : Fin cfg0.N := ⟨3 * (n / 3) % 48, by rw [show cfg0.N = 48 from N_0]; omega⟩

theorem lead_of_first (t : Fin cfg0.N) (h : t.val % 3 = 0) : lead t.val = t := by
  have : t.val < 48 := Nat.lt_of_lt_of_eq t.isLt N_0
  exact Fin.ext (by simp only [lead]; omega)

theorem lead_step (n : ℕ) (h : (n + 1) % 3 ≠ 0) : lead (n + 1) = lead n := Fin.ext (by simp only [lead]; omega)

theorem lead_pred (n : ℕ) (h : n % 3 ≠ 0) : lead (n - 1) = lead n := Fin.ext (by simp only [lead]; omega)

/-- The rows the scratch holds within point `n`'s block row. -/
def rows (c : Dev nD) (n : ℕ) : Vec F S512x2048 .bf16 :=
  k0_pay2 (iblk m c 0 (lead n)) (iblk m c 3 (lead n)) (iblk m c 2 (lead n)) (iblk m c 1 (lead n))

/-- Their transpose. -/
def cols (c : Dev nD) (n : ℕ) : Vec F S2048x512 .bf16 :=
  k0_pay3 (iblk m c 0 (lead n)) (iblk m c 3 (lead n)) (iblk m c 2 (lead n)) (iblk m c 1 (lead n))

/-- The scratch operand. -/
abbrev scratch : Memref sig .tc .vmem S512x2048 .bf16 := Memref.whole cc0_scratch0

/-- The proof data: inputs at their blocks; the results' buffers at the product and at the transpose; between points the
    scratch at the block row's rows unless the next point starts a block row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (rows m c t.val) (iblk m c 4 t)
    | ⟨6, _⟩ => cols m c t.val
  Φ t := iprop((∃ d, ⌜t.val % 3 ≠ 0 → d = rows m c t.val⌝ ∗ owns (c : Thread nD τ) scratch fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay4 (rows m c t.val) (iblk m c 4 t) := by
  dsimp only [dats]
theorem after0_6 (c : Dev nD) (t : Fin cfg0.N) : (dats m 0 c).after 6 t = cols m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's window is idle but at a block row's first point. -/
theorem idle6 (t : Fin cfg0.N) : cfg0.idle 6 (grid0.coords t) = !decide (t.val % 3 = 0) := by
  show (!(k0_cond1 (grid0.coords t) == 1#1)) = _
  by_cases h : t.val % 3 = 0
  · rw [(first_iff t).mpr h, decide_eq_true h]; rfl
  · rw [decide_eq_false h, beq_eq_false_iff_ne.mpr fun e => h ((first_iff t).mp e)]

/-- Its buffer is fresh exactly at a block row's first point. -/
theorem fresh6 (n : ℕ) (h : n ≤ cfg0.N) : cfg0.fresh 6 n = decide (n % 3 = 0) :=
  cfg0.fresh_tab 6 (fun n => decide (n % 3 = 0)) rfl (fun t => by
    rw [idle6 t]
    have hf : (cfg0.win 6).flush t = decide (t.val % 3 = 2) := by
      by_cases h : t.val % 3 = 2
      · rw [(flush0_6 t).mpr h, decide_eq_true h]
      · rw [decide_eq_false h]; exact Bool.eq_false_iff.mpr fun e => h ((flush0_6 t).mp e)
    rw [hf]
    have h3 : t.val % 3 = 0 ∨ t.val % 3 = 1 ∨ t.val % 3 = 2 := by omega
    rcases h3 with h | h | h
    · rw [show (t.val + 1) % 3 = 1 by omega, h]; rfl
    · rw [show (t.val + 1) % 3 = 2 by omega, h]; rfl
    · rw [show (t.val + 1) % 3 = 0 by omega, h]; rfl) n h

/-- After a block row's first point its buffer holds what that point left. -/
theorem before0_6 (c : Dev nD) (t : Fin cfg0.N) (h : t.val % 3 ≠ 0) (d) : (dats m 0 c).before 6 t d = cols m c t.val := by
  rw [(dats m 0 c).before_out_traj 6 rfl (fun _ _ => rfl) (fun s hs hi _ => by
      rw [after0_6, after0_6]
      have : s.val % 3 ≠ 0 := by rw [idle6 s] at hi; simpa using hi
      show cols m c s.val = cols m c (s.val - 1)
      unfold cols; rw [lead_pred _ this]) t.val t rfl d,
    fresh6 t.val t.isLt.le, if_neg (by simpa using h), after0_6]
  show cols m c (t.val - 1) = _
  unfold cols; rw [lead_pred _ h]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A window with no idle point is left at what the body leaves. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The second result's buffer after its block row's first point is left at the transpose, written back or not. -/
theorem leaves6 (c : Dev nD) (t : Fin cfg0.N) (h : t.val % 3 ≠ 0) :
    owns (c : Thread nD τ) ((cfg0.win 6).stage (cfg0.slots t 6)) fullShare (cols m c t.val) ⊢ ((dats m 0 c).leavesExact 6 t : sProp 𝕄) := by
  unfold Dat.leavesExact
  rw [idle6 t, decide_eq_false h]
  rcases hf : (cfg0.win 6).flush t
  · simp only [Bool.not_false, before0_6 m c t h]
    iintro H; iexists (cols m c t.val); iexact H
  · simp only [Bool.not_false, after0_6]
    exact .rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = iprop((∃ d, ⌜t.val % 3 ≠ 0 → d = rows m c t.val⌝ ∗ owns (c : Thread nD τ) scratch fullShare d) ∗ (∃ r, prngReg c r)) from rfl,
    show (dats m 0 c).Φ t.succ = iprop((∃ d, ⌜(t.val + 1) % 3 ≠ 0 → d = rows m c (t.val + 1)⌝ ∗ owns (c : Thread nD τ) scratch fullShare d) ∗ (∃ r, prngReg c r)) from rfl]
  rw [leaves_live m c 0 t rfl, after0_0, leaves_live m c 1 t rfl, after0_1, leaves_live m c 2 t rfl, after0_2, leaves_live m c 3 t rfl, after0_3, leaves_live m c 4 t rfl, after0_4, leaves_live m c 5 t rfl, after0_5]
  have keep : (t.val + 1) % 3 ≠ 0 → rows m c t.val = rows m c (t.val + 1) := fun h => by unfold rows; rw [lead_step _ h]
  by_cases h0 : t.val % 3 = 0
  · rw [leaves_live m c 6 t (by rw [idle6 t, decide_eq_true h0]; rfl), after0_6]
    iintro ⟨⟨⟨%ds, -, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ _ _ ((first_iff t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    have e : k0_pay2 (iblk m c 0 t) (iblk m c 3 t) (iblk m c 2 t) (iblk m c 1 t) = rows m c t.val := by
      unfold rows; rw [lead_of_first t h0]
    have e' : k0_pay3 (iblk m c 0 t) (iblk m c 3 t) (iblk m c 2 t) (iblk m c 1 t) = cols m c t.val := by
      unfold cols; rw [lead_of_first t h0]
    rw [e, e']
    iintro ⟨H0, H1, H2, H3, H4, H5, H6, HS0⟩
    isplitl [HS0 Hg]
    · isplitl [HS0]
      · iexists (rows m c t.val); isplitr; · ipureintro; exact keep
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_6 m c t h0]
    iintro ⟨⟨⟨%ds, %hs, HS0⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hs h0
    iapply ((run_later c (grid0.coords t) _ _ _ _ _ _ _ _ _ _ _ _ _ _ _ _ (fun h => h0 ((first_iff t).mp h)) (iblk m c 0 t) (iblk m c 1 t) (iblk m c 2 t) (iblk m c 3 t) (iblk m c 4 t) (rows m c t.val) (cols m c t.val)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexists (rows m c t.val); isplitr; · ipureintro; exact keep
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t h0); iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : (Pipeline.ΦA spec0 c : sProp 𝕄) ⊢ (dats m 0 c).Φ 0 := by
  unfold Pipeline.ΦA; rw [scopedRest0_eq]
  rw [show (dats m 0 c).Φ 0 = iprop((∃ d, ⌜(0 : ℕ) % 3 ≠ 0 → d = rows m c 0⌝ ∗ owns (c : Thread nD τ) scratch fullShare d) ∗ (∃ r, prngReg c r)) from rfl]
  simp only [scratch, owns_whole]
  iintro ⟨⟨%f, H⟩, Hg⟩
  isplitl [H]
  · iexists f; isplitr; · ipureintro; exact fun h => absurd rfl h
    iexact H
  iexact Hg

theorem leave (c : Dev nD) : (dats m 0 c).Φ (Fin.last cfg0.N) ⊢ (Pipeline.ΦA spec0 c : sProp 𝕄) := by
  unfold Pipeline.ΦA; rw [scopedRest0_eq]
  rw [show (dats m 0 c).Φ (Fin.last cfg0.N) = iprop((∃ d, ⌜cfg0.N % 3 ≠ 0 → d = rows m c cfg0.N⌝ ∗ owns (c : Thread nD τ) scratch fullShare d) ∗ (∃ r, prngReg c r)) from rfl]
  simp only [scratch, owns_whole]
  iintro ⟨⟨%f, -, H⟩, Hg⟩
  isplitl [H]
  · iexists f; iexact H
  iexact Hg

set_option backward.isDefEq.respectTransparency.types false in
/-- Every weakly fair execution terminates with the arrays at what `dats` says and every semaphore counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every counter at zero: the kernel's frame. -/
theorem frame_of_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_quiescent m ρ))

end Cert.InProjIdeal.Exact

end
-- ==== Proof.InProj.lean ====
/-
  The input projection. Of `x` [8192, 2048], `norm_g` and the modulation's `shift` and `scale`, the rows

      h = x * rsqrt (mean x² + eps) * norm_g * (1 + scale) + shift

  and of them, with `W` [2048, 7296], the projections `h · W` and the transpose of `h` that the backward pass takes.

  The kernel makes a block of 512 rows of `h` at the block's first point and keeps it in scratch for the block's three
  ranges of 2432 columns of `W` (what the buffers then hold is `Proof/InRun.lean`'s). The reference makes `h` whole. A row of
  `h` depends on the row of `x` alone, so both are the one function `row` of a row, and the contraction is over the same 2048
  columns.
-/
module

public import proofs.«01_k».proof.Proof.InRun
public import proofs.«01_k».proof.Proof.Gen.InProj
public import proofs.«01_k».proof.Proof.Gen.InProjReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Exact

open Cert.InProjIdeal Cert.InProjIdeal.Gen
open Cert.InProjReferenceIdeal.Read

/-- One entry of a row normalised and modulated. -/
def row (r g sc sh : Fin 2048 → EReal) (l : Fin 2048) : EReal :=
  r l * Ideal.rsqrt (Ideal.div (∑ l, r l * r l) (Ideal.ofBits .f32 0x45000000#32) + Ideal.ofBits .f32 0x358637BD#32) * g l
    * (1 + sc l) + sh l

/-! ### The kernel's operations at an entry -/

theorem pay1 (x : FVec Ideal S512x2048 .f32) (g sc sh : FVec Ideal S1x2048 .f32) (j : S512x2048.Idx) :
    k0_pay1 (F := Ideal) x g sc sh j = row (fun l => x (ix2 (j 0) l)) (fun l => g (ix2 0 l)) (fun l => sc (ix2 0 l)) (fun l => sh (ix2 0 l)) (j 1) := by
  unfold row
  pointwise [k0_pay1]

theorem pay2 (x : FVec Ideal S512x2048 .f32) (g sc sh : FVec Ideal S1x2048 .f32) (j : S512x2048.Idx) :
    k0_pay2 (F := Ideal) x g sc sh j = row (fun l => x (ix2 (j 0) l)) (fun l => g (ix2 0 l)) (fun l => sc (ix2 0 l)) (fun l => sh (ix2 0 l)) (j 1) := by
  pointwise [k0_pay2, pay1]

theorem pay3 (x : FVec Ideal S512x2048 .f32) (g sc sh : FVec Ideal S1x2048 .f32) (j : S2048x512.Idx) :
    k0_pay3 (F := Ideal) x g sc sh j = row (fun l => x (ix2 (j 1) l)) (fun l => g (ix2 0 l)) (fun l => sc (ix2 0 l)) (fun l => sh (ix2 0 l)) (j 0) := by
  pointwise [k0_pay3, pay1]

theorem pay4 (h : FVec Ideal S512x2048 .bf16) (w : FVec Ideal S2048x2432 .bf16) (j : S512x2432.Idx) :
    k0_pay4 (F := Ideal) h w j = ∑ k : Fin 2048, h (ix2 (j 0) k) * w (ix2 k (j 1)) := by
  pointwise [k0_pay4]

/-! ### The reference's results at an entry -/

theorem ref18 (x : FVec Ideal S8192x2048 .f32) (sh sc : FVec Ideal S1x2048 .f32) (g : FVec Ideal S2048 .f32) (j : S8192x2048.Idx) :
    val_main_v18 (F := Ideal) x sh sc g j = row (fun l => x (ix2 (j 0) l)) (fun l => g (ix1 l)) (fun l => sc (ix2 0 l)) (fun l => sh (ix2 0 l)) (j 1) := by
  unfold row
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem ref20 (x : FVec Ideal S8192x2048 .f32) (sh sc : FVec Ideal S1x2048 .f32) (g : FVec Ideal S2048 .f32)
    (w : FVec Ideal S2048x7296 .bf16) (j : S8192x7296.Idx) :
    val_main_v20 (F := Ideal) x sh sc g w j = ∑ k : Fin 2048,
      row (fun l => x (ix2 (j 0) l)) (fun l => g (ix1 l)) (fun l => sc (ix2 0 l)) (fun l => sh (ix2 0 l)) k * w (ix2 k (j 1)) := by
  pointwise [val_main_v20, val_main_v19, ref18]

theorem ref22 (x : FVec Ideal S8192x2048 .f32) (sh sc : FVec Ideal S1x2048 .f32) (g : FVec Ideal S2048 .f32) (j : S2048x8192.Idx) :
    val_main_v22 (F := Ideal) x sh sc g j = row (fun l => x (ix2 (j 1) l)) (fun l => g (ix1 l)) (fun l => sc (ix2 0 l)) (fun l => sh (ix2 0 l)) (j 0) := by
  pointwise [val_main_v22, val_main_v21, ref18]

/-! ### The kernel's results -/

variable (m : (ℓ : Loc nD τ sig) → Buf (Elt Ideal) ℓ)

/-- Where the windows stand at each point. -/
theorem place : ∀ t : Fin cfg0.N, win0_0.index t = ![t.val / 3, 0] ∧ win0_1.index t = ![0, 0] ∧ win0_2.index t = ![0, 0]
    ∧ win0_3.index t = ![0, 0] ∧ win0_4.index t = ![0, t.val % 3] ∧ win0_5.index t = ![t.val / 3, t.val % 3]
    ∧ win0_6.index t = ![0, t.val / 3] :=
  (by decide +kernel : ∀ t : Fin grid0.N, _)

/-- A block row's first point is in the same block row. -/
theorem lead_row (t : Fin cfg0.N) : (lead t.val).val / 3 = t.val / 3 := by
  have : t.val < 48 := Nat.lt_of_lt_of_eq t.isLt N_0
  simp only [lead]; omega

/-- THE PROJECTIONS: `h · W`. -/
theorem projections (c : Dev nD) :
    (dats m 0 c).arrAt 5 cfg0.N = val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, ref20]
  unfold rows
  simp only [pay4, pay2]
  blk_point [iblk, V, place t, place (lead t.val), lead_row t]

/-- THE TRANSPOSE of `h`. -/
theorem transposed (c : Dev nD) :
    (dats m 0 c).arrAt 6 cfg0.N = val_main_v22 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t hf y => ?_
  blk_simp
  rw [after0_6, ref22]
  unfold cols
  simp only [pay3]
  blk_point [iblk, V, place t, place (lead t.val), lead_row t]

end Cert.InProjIdeal.Exact

namespace Cert.Proof

open Cert.InProjReferenceIdeal

theorem frame_InProjIdeal : Cert.quiescent_InProjIdeal := fun m ρ _ => Cert.InProjIdeal.Exact.frame_of_run m ρ

/-- The kernel before it is made ideal runs the same body … -/
theorem bodies_eq : Cert.InProj.defs₀ (F := Bits) = Cert.InProjIdeal.defs₀ (F := Bits) := by
  unfold Cert.InProj.defs₀ Cert.InProjIdeal.defs₀
  refine congrArg _ (funext fun k => ?_)
  obtain ⟨k, h⟩ := k
  cases k with
  | zero => rfl
  | succ n => exact absurd h (by omega)

/-- … in the same pipeline, … -/
theorem defs_eq : Cert.InProj.defs (F := Bits) = Cert.InProjIdeal.defs (F := Bits) :=
  congrArg (Pipeline.defs (Cert.InProj.pcfgs (F := Bits))) bodies_eq

/-- … so its frame is the ideal program's run, over machine words. -/
theorem frame_InProj : Cert.quiescent_InProj := fun m ρ _ =>
  Eq.mpr (congrArg (fun d => θ_run d (onTc (τ := Cert.InProj.τ) (Cert.InProj.main (F := Bits))) ⟨m, fun _ => 0, ρ⟩ (fun r =>
      (∀ c : Dev Cert.InProj.nD,
        r.2.mem ((c.tc : Thread Cert.InProj.nD Cert.InProj.τ).loc Cert.InProj.main_arg0) = m ((c.tc : Thread Cert.InProj.nD Cert.InProj.τ).loc Cert.InProj.main_arg0)
        ∧ r.2.mem ((c.tc : Thread Cert.InProj.nD Cert.InProj.τ).loc Cert.InProj.main_arg1) = m ((c.tc : Thread Cert.InProj.nD Cert.InProj.τ).loc Cert.InProj.main_arg1)
        ∧ r.2.mem ((c.tc : Thread Cert.InProj.nD Cert.InProj.τ).loc Cert.InProj.main_arg2) = m ((c.tc : Thread Cert.InProj.nD Cert.InProj.τ).loc Cert.InProj.main_arg2)
        ∧ r.2.mem ((c.tc : Thread Cert.InProj.nD Cert.InProj.τ).loc Cert.InProj.main_arg3) = m ((c.tc : Thread Cert.InProj.nD Cert.InProj.τ).loc Cert.InProj.main_arg3)
        ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)) defs_eq)
    (Cert.InProjIdeal.Exact.frame_of_run (F := Bits) m ρ)

/-- The kernel's projections and its transpose are the reference's. -/
theorem algebraic_in_proj : Cert.algebraic_InProjIdeal_InProjReferenceIdeal := by
  pair_intro
  · run_from (Cert.InProjIdeal.Exact.run_main m g) & (Cert.InProjIdeal.Exact.unchanged m g)
  · refine Idealize.ShloMosaic.θ_run_mono (Cert.InProjReferenceIdeal.Value.run m' g') ?_
    intro r hr c
    obtain ⟨h0, h1, kept⟩ := hr c
    obtain ⟨a0, a1, a2, a3, a4⟩ := hagree c
    refine ⟨(h0.trans (Read.val_main_v20_eq _ _ _ _ _)).trans ?_, (h1.trans (Read.val_main_v22_eq _ _ _ _)).trans ?_, kept⟩
      <;> simp only [a0, a1, a2, a3, a4]
    · exact (Cert.InProjIdeal.Exact.projections m c).symm
    · exact (Cert.InProjIdeal.Exact.transposed m c).symm

end Cert.Proof

end
-- ==== Proof.LossHead.lean ====
/-
  The loss of the last rmsnorm `y = x * rsqrt(mean(x * x) + eps) * g` against the targets, `1/2 * sum of mean((y - target)^2)`
  over the rows of `x` [8192, 2048], and its gradients by `x` and by `g`.

  The kernel takes 512 rows a point. It divides `1/2 * sum of squares` of its rows by 2048 and adds it to the loss, where the
  reference divides every row's sum of squares by 2048 and halves the sum of all of them: the same, because squares are
  nonnegative. What comes back from the loss to an entry of `y` is `(y - target) / 2048` in the kernel and
  `1/2 * 1 / 2048 * (2 * (y - target))` in the reference.
-/
module

public import proofs.«01_k».proof.Proof.Gen.LossHeadIdeal.Value
public import proofs.«01_k».proof.Proof.Gen.LossHeadReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.Loss

open Cert.LossHeadIdeal Cert.LossHeadIdeal.Gen
open Cert.LossHeadReferenceIdeal.Read

variable (m : (ℓ : Loc nD τ sig) → Buf (Elt Ideal) ℓ)

/-! ### One row -/

/-- The mean of a row's squares, plus the epsilon. -/
def meanSq (r : Fin 2048 → EReal) : EReal :=
  Ideal.div (∑ l, r l * r l) (Ideal.ofBits .f32 0x45000000#32) + Ideal.ofBits .f32 0x358637BD#32

/-- What a row is scaled by. -/
def spread (r : Fin 2048 → EReal) : EReal := Ideal.rsqrt (meanSq r)

/-- The derivative of `spread` by `meanSq`: `-1/2 * spread / meanSq`. -/
def slope (r : Fin 2048 → EReal) : EReal := Ideal.ofBits .f32 0xBF000000#32 * Ideal.div (spread r) (meanSq r)

/-- What comes back to a row through its mean square, of the gradient `g` of the scaled row. -/
def pull (r g : Fin 2048 → EReal) : EReal :=
  ∑ _ : Fin 1, Ideal.div ((∑ l, r l * g l) * slope r) (Ideal.ofBits .f32 0x45000000#32)

/-- The gradient of a row. -/
def back (r g : Fin 2048 → EReal) (l : Fin 2048) : EReal := g l * spread r + r l * pull r g + pull r g * r l

/-- By how much a row misses its target. -/
def miss (r g y : Fin 2048 → EReal) (l : Fin 2048) : EReal := r l * spread r * g l - y l

/-- A row's sum of squares. -/
def squares (r g y : Fin 2048 → EReal) : EReal := ∑ l, miss r g y l * miss r g y l

/-- What comes back to an entry of the scaled row from the loss. -/
def share (r g y : Fin 2048 → EReal) (l : Fin 2048) : EReal := Ideal.div (miss r g y l) (Ideal.ofBits .f32 0x45000000#32)

/-! ### Halves and means -/

theorem half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem width : Ideal.ofBits .f32 0x45000000#32 = ((2048 : ℝ) : EReal) := by
  simp [Ideal.ofBits, Ideal.ieee, -EReal.coe_mul]
  norm_num

/-- A row's share of the loss. -/
def part (s : EReal) : EReal := Ideal.ofBits .f32 0x3F000000#32 * Ideal.div s (Ideal.ofBits .f32 0x45000000#32)

theorem part_eq (s : EReal) : part s = s * ((1 / 4096 : ℝ) : EReal) := by
  rw [part, half, width, Ideal.div_coe (by norm_num), mul_comm, mul_assoc, ← EReal.coe_mul]
  norm_num

/-- A square is nonnegative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem squares_nonneg (r g y : Fin 2048 → EReal) : 0 ≤ squares r g y := Finset.sum_nonneg fun l _ => square_nonneg _

/-- A nonnegative sum times a number is the sum of the products. -/
theorem sum_times {n : ℕ} (f : Fin n → EReal) (hf : ∀ k, 0 ≤ f k) (a : EReal) : (∑ k, f k) * a = ∑ k, f k * a := by
  induction n with
  | zero => simp
  | succ n ih =>
    rw [Fin.sum_univ_castSucc, Fin.sum_univ_castSucc,
      EReal.right_distrib_of_nonneg (Finset.sum_nonneg fun k _ => hf _) (hf _), ih _ fun k => hf _]

/-- Half of the rows' sum, divided by the width, is the sum of the rows' shares. -/
theorem point_part {n : ℕ} (f : Fin n → EReal) (hf : ∀ k, 0 ≤ f k) :
    Ideal.div (Ideal.ofBits .f32 0x3F000000#32 * ∑ k, f k) (Ideal.ofBits .f32 0x45000000#32) = ∑ k, part (f k) := by
  simp only [part_eq]
  rw [half, width, Ideal.div_coe (by norm_num), mul_comm ((1 / 2 : ℝ) : EReal), mul_assoc, ← EReal.coe_mul, ← sum_times _ hf]
  norm_num

/-- Half of the sum of the rows' means is the sum of the rows' shares. -/
theorem all_parts {n : ℕ} (f : Fin n → EReal) (hf : ∀ k, 0 ≤ f k) :
    Ideal.ofBits .f32 0x3F000000#32 * ∑ k, Ideal.div (f k) (Ideal.ofBits .f32 0x45000000#32) = ∑ k, part (f k) := by
  simp only [part_eq, half, width]
  simp only [Ideal.div_coe (show (2048 : ℝ) ≠ 0 by norm_num)]
  rw [← sum_times _ hf, ← sum_times _ hf, mul_comm, mul_assoc, ← EReal.coe_mul]
  norm_num

/-- `1/2 * 1 / 2048` of twice a number is the number divided by 2048. -/
theorem back_half (x : EReal) :
    Ideal.div (Ideal.ofBits .f32 0x3F000000#32) (Ideal.ofBits .f32 0x45000000#32) * (Ideal.ofBits .f32 0x40000000#32 * x)
      = Ideal.div x (Ideal.ofBits .f32 0x45000000#32) := by
  rw [half, two, width, Ideal.div_coe (by norm_num), Ideal.div_coe (by norm_num), ← mul_assoc, ← EReal.coe_mul, ← EReal.coe_mul,
    mul_comm]
  norm_num

/-! ### The kernel's operations at an entry -/

theorem pay7 (x : FVec Ideal S512x2048 .f32) (j : S512x1.Idx) : k0_pay7 (F := Ideal) x j = meanSq fun l => x (ix2 (j 0) l) := by
  unfold meanSq
  pointwise [k0_pay7]

theorem pay8 (x : FVec Ideal S512x2048 .f32) (j : S512x1.Idx) : k0_pay8 (F := Ideal) x j = spread fun l => x (ix2 (j 0) l) := by
  unfold spread
  pointwise [k0_pay8, pay7]

theorem pay9 (x : FVec Ideal S512x2048 .f32) (j : S512x1.Idx) : k0_pay9 (F := Ideal) x j = slope fun l => x (ix2 (j 0) l) := by
  unfold slope
  pointwise [k0_pay9, pay8, pay7]

theorem pay10 (x : FVec Ideal S512x2048 .f32) (j : S512x2048.Idx) :
    k0_pay10 (F := Ideal) x j = x j * spread fun l => x (ix2 (j 0) l) := by
  pointwise [k0_pay10, pay8]

theorem pay11 (x y : FVec Ideal S512x2048 .f32) (g : FVec Ideal S1x2048 .f32) (j : S512x2048.Idx) :
    k0_pay11 (F := Ideal) x g y j
      = miss (fun l => x (ix2 (j 0) l)) (fun l => g (ix2 0 l)) (fun l => y (ix2 (j 0) l)) (j 1) := by
  unfold miss
  pointwise [k0_pay11, k0_pay6, pay10]

theorem pay1 (x y : FVec Ideal S512x2048 .f32) (g : FVec Ideal S1x2048 .f32) (j : S512x2048.Idx) :
    k0_pay1 (F := Ideal) (k0_pay11 x g y) j
      = share (fun l => x (ix2 (j 0) l)) (fun l => g (ix2 0 l)) (fun l => y (ix2 (j 0) l)) (j 1) := by
  unfold share
  pointwise [k0_pay1, pay11]

/-- One point's rows added to the loss. -/
theorem pay12 (x y : FVec Ideal S512x2048 .f32) (g : FVec Ideal S1x2048 .f32) (acc : FVec Ideal S1x128 .f32) (j : S1x128.Idx) :
    k0_pay12 x g y acc j = acc j + ∑ k : Fin 512,
      part (squares (fun l => x (ix2 k l)) (fun l => g (ix2 0 l)) (fun l => y (ix2 k l))) := by
  rw [← point_part _ fun k => squares_nonneg _ _ _]
  unfold squares
  pointwise [k0_pay12, pay11]

theorem pay2 (x y : FVec Ideal S512x2048 .f32) (g : FVec Ideal S1x2048 .f32) (j : S512x2048.Idx) :
    k0_pay2 (F := Ideal) x (k0_pay6 g) (k0_pay8 x) (k0_pay9 x) (k0_pay11 x g y) j
      = back (fun l => x (ix2 (j 0) l)) (fun l => share (fun l => x (ix2 (j 0) l)) (fun l => g (ix2 0 l))
          (fun l => y (ix2 (j 0) l)) l * g (ix2 0 l)) (j 1) := by
  unfold back pull
  pointwise [k0_pay2, k0_pay6, pay8, pay9, pay1]

/-- One point's rows added to the gradient of `g`. -/
theorem pay3 (x y : FVec Ideal S512x2048 .f32) (g acc : FVec Ideal S1x2048 .f32) (j : S1x2048.Idx) :
    k0_pay3 (k0_pay10 x) (k0_pay11 x g y) acc j = acc j + ∑ k : Fin 512,
      x (ix2 k (j 1)) * spread (fun l => x (ix2 k l))
        * share (fun l => x (ix2 k l)) (fun l => g (ix2 0 l)) (fun l => y (ix2 k l)) (j 1) := by
  pointwise [k0_pay3, pay10, pay1]

theorem zero4 (j : S1x128.Idx) : k0_pay4 (F := Ideal) j = 0 := by pointwise [k0_pay4]
theorem zero5 (j : S1x2048.Idx) : k0_pay5 (F := Ideal) j = 0 := by pointwise [k0_pay5]

/-! ### The reference's results at an entry -/

theorem ref6 (x : FVec Ideal S8192x2048 .f32) (j : Cert.LossHeadReferenceIdeal.S8192x1.Idx) :
    val_main_v6 (F := Ideal) x j = meanSq fun l => x (ix2 (j 0) l) := by
  unfold meanSq
  pointwise [val_main_v6, val_main_v5, val_main_v4, val_main_v3, val_main_v2, val_main_v1, val_main_v0, val_main_cst, val_main_cst_0, val_main_cst_1]

theorem ref7 (x : FVec Ideal S8192x2048 .f32) (j : Cert.LossHeadReferenceIdeal.S8192x1.Idx) :
    val_main_v7 (F := Ideal) x j = spread fun l => x (ix2 (j 0) l) := by
  unfold spread
  pointwise [val_main_v7, ref6]

theorem ref10 (x : FVec Ideal S8192x2048 .f32) (j : Cert.LossHeadReferenceIdeal.S8192x1.Idx) :
    val_main_v10 (F := Ideal) x j = slope fun l => x (ix2 (j 0) l) := by
  unfold slope
  pointwise [val_main_v10, val_main_v9, val_main_v8, val_main_cst_2, ref7, ref6]

theorem ref16 (x y : FVec Ideal S8192x2048 .f32) (g : FVec Ideal S2048 .f32) (j : S8192x2048.Idx) :
    val_main_v16 (F := Ideal) x y g j
      = miss (fun l => x (ix2 (j 0) l)) (fun l => g (ix1 l)) (fun l => y (ix2 (j 0) l)) (j 1) := by
  unfold miss
  pointwise [val_main_v16, val_main_v15, val_main_v14, val_main_v13, val_main_v12, val_main_v11, ref7]

theorem ref20 (x y : FVec Ideal S8192x2048 .f32) (g : FVec Ideal S2048 .f32) (k : Fin 8192) :
    val_main_v20 (F := Ideal) x y g (ix1 k)
      = squares (fun l => x (ix2 k l)) (fun l => g (ix1 l)) (fun l => y (ix2 k l)) := by
  unfold squares
  pointwise [val_main_v20, val_main_v17, val_main_cst_4, ref16]

theorem ref51 (x y : FVec Ideal S8192x2048 .f32) (g : FVec Ideal S2048 .f32) (j : S1x128.Idx) :
    val_main_v51 (F := Ideal) x y g j = ∑ k : Fin 8192,
      part (squares (fun l => x (ix2 k l)) (fun l => g (ix1 l)) (fun l => y (ix2 k l))) := by
  rw [← all_parts _ fun k => squares_nonneg _ _ _]
  simp only [← ref20]
  pointwise [val_main_v51, val_main_v24, val_main_v23, val_main_v22, val_main_v21, val_main_cst_5, val_main_cst_6, val_main_cst_7]

theorem ref30 (x y : FVec Ideal S8192x2048 .f32) (g : FVec Ideal S2048 .f32) (j : S8192x2048.Idx) :
    val_main_v30 (F := Ideal) x y g j
      = share (fun l => x (ix2 (j 0) l)) (fun l => g (ix1 l)) (fun l => y (ix2 (j 0) l)) (j 1) := by
  unfold share
  rw [← back_half, ← ref16]
  pointwise [val_main_v30, val_main_v29, val_main_v28, val_main_v27, val_main_v26, val_main_v25, val_main_v19, val_main_v18,
    val_main_cst_3, val_main_cst_8, val_main_cst_9, val_main_cst_10]

theorem ref35 (x y : FVec Ideal S8192x2048 .f32) (g : FVec Ideal S2048 .f32) (j : S8192x2048.Idx) :
    val_main_v35 (F := Ideal) x y g j
      = share (fun l => x (ix2 (j 0) l)) (fun l => g (ix1 l)) (fun l => y (ix2 (j 0) l)) (j 1) * g (ix1 (j 1)) := by
  pointwise [val_main_v35, val_main_v34, val_main_v13, ref30]

theorem ref46 (x y : FVec Ideal S8192x2048 .f32) (g : FVec Ideal S2048 .f32) (j : S8192x2048.Idx) :
    val_main_v46 (F := Ideal) x y g j
      = pull (fun l => x (ix2 (j 0) l)) (fun l => share (fun l => x (ix2 (j 0) l)) (fun l => g (ix1 l))
          (fun l => y (ix2 (j 0) l)) l * g (ix1 l)) := by
  unfold pull
  pointwise [val_main_v46, val_main_v45, val_main_v44, val_main_v43, val_main_v42, val_main_v39, val_main_v38, val_main_v37,
    val_main_cst_13, val_main_cst_14, val_main_cst_15, ref35, ref10]

theorem ref50 (x y : FVec Ideal S8192x2048 .f32) (g : FVec Ideal S2048 .f32) (j : S8192x2048.Idx) :
    val_main_v50 (F := Ideal) x y g j
      = back (fun l => x (ix2 (j 0) l)) (fun l => share (fun l => x (ix2 (j 0) l)) (fun l => g (ix1 l))
          (fun l => y (ix2 (j 0) l)) l * g (ix1 l)) (j 1) := by
  unfold back
  pointwise [val_main_v50, val_main_v49, val_main_v48, val_main_v47, val_main_v41, val_main_v40, ref46, ref35, ref7]

theorem ref52 (x y : FVec Ideal S8192x2048 .f32) (g : FVec Ideal S2048 .f32) (j : S1x2048.Idx) :
    val_main_v52 (F := Ideal) x y g j = ∑ k : Fin 8192, x (ix2 k (j 1)) * spread (fun l => x (ix2 k l))
      * share (fun l => x (ix2 k l)) (fun l => g (ix1 l)) (fun l => y (ix2 k l)) (j 1) := by
  pointwise [val_main_v52, val_main_v36, val_main_v33, val_main_v32, val_main_v31, val_main_v12, val_main_v11, val_main_cst_11,
    val_main_cst_12, ref30, ref7]
  exact Fin.sum_univ_one _

/-! ### The kernel's three results -/

/-- Where the windows stand at each point. -/
theorem place : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![0, 0] :=
  (by decide +kernel : ∀ t : Fin grid0.N, _)

/-- The loss. -/
theorem loss (c : Dev nD) : (dats m 0 c).arrAt 3 cfg0.N
    = val_main_v51 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h).1) 16 (fun _ => 0) _
    (fun t h j => by rw [outsAt0_A m c t h]; frame_out; rw [pay12, zero4])
    (fun t h j => by rw [outsAt0_B m c t h]; frame_out; rw [pay12])
    t ((flush0_3 t).mp hf) _, zero_add, ref51]
  refine Fin.sum_mul_add_congr fun s k hl => ?_
  simp only [part, squares, miss, spread, meanSq]
  blk_point [iblk, V, place t, place ⟨_, Pipeline.run_point_lt_of_flush t ((flush0_3 t).mp hf) s⟩]

/-- The rows' gradient. -/
theorem rows (c : Dev nD) : (dats m 0 c).arrAt 4 cfg0.N
    = val_main_v50 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  by_cases h : t.val % 16 = 0
  on_goal 1 => rw [outsAt0_A m c t h]
  on_goal 2 => rw [outsAt0_B m c t h]
  all_goals
    frame_out
    rw [pay2, ref50]
    simp only [back, pull, slope, share, miss, spread, meanSq]
    blk_point [iblk, V, place t]

/-- The gradient of `g`. -/
theorem scale (c : Dev nD) : (dats m 0 c).arrAt 5 cfg0.N
    = val_main_v52 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => 0) _
    (fun t h j => by rw [outsAt0_A m c t h]; frame_out; rw [pay3, zero5])
    (fun t h j => by rw [outsAt0_B m c t h]; frame_out; rw [pay3])
    t ((flush0_5 t).mp hf) _, zero_add, ref52]
  refine Fin.sum_mul_add_congr fun s k hl => ?_
  simp only [share, miss, spread, meanSq]
  blk_point [iblk, V, place t, place ⟨_, Pipeline.run_point_lt_of_flush t ((flush0_5 t).mp hf) s⟩]

end Cert.LossHeadIdeal.Loss

namespace Cert.Proof

open Cert.LossHeadIdeal Cert.LossHeadReferenceIdeal

/-- The kernel and the reference compute the same loss and the same gradients over the extended reals. -/
theorem algebraic_loss_head : Cert.algebraic_LossHeadIdeal_LossHeadReferenceIdeal := by
  pair_intro
  · run_from Cert.LossHeadIdeal.Gen.run_main m g
  · refine Idealize.ShloMosaic.θ_run_mono (Cert.LossHeadReferenceIdeal.Value.run m' g') ?_
    intro r hr c
    obtain ⟨h0, h1, h2, kept⟩ := hr c
    obtain ⟨a0, a1, a2⟩ := hagree c
    refine ⟨(h0.trans (Read.val_main_v51_eq _ _ _)).trans ?_, (h1.trans (Read.val_main_v50_eq m' c)).trans ?_,
      (h2.trans (Read.val_main_v52_eq _ _ _)).trans ?_, kept⟩
      <;> simp only [a0, a1, a2, StableHlo.launchContents_devRef]
    · exact (Loss.loss m c).symm
    · exact (Loss.rows m c).symm
    · exact (Loss.scale m c).symm

end Cert.Proof

end
-- ==== Proof.NormBwd.lean ====
/-
  The gradient of the modulated rmsnorm `h = x * rsqrt(mean(x * x) + eps) * norm_g * (1 + scale) + shift`, row by row of
  `x` [8192, 2048], with `norm_g`, `scale`, `shift` one row each: of `dh` the kernel makes `dx`, to which it adds the
  gradient `dx_new` of the residual, and the sums over all rows that are the gradients of `norm_g`, `scale`, `shift`.

  The kernel takes 256 rows a point. `dx` is written block by block, each entry by one point, and both programs reach it
  by the same operations of one row; the three sums are one row each that all 32 points add into, which end as
  `0 + ∑ s < 32, ∑ k < 256, …[256 s + k, c]`, the reference's one sum over 8192 rows.
-/
module

public import proofs.«01_k».proof.Proof.Gen.NormBwdIdeal.Value
public import proofs.«01_k».proof.Proof.Gen.NormBwdReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.Norm

open Cert.NormBwdIdeal Cert.NormBwdIdeal.Gen
open Cert.NormBwdReferenceIdeal.Read

variable (m : (ℓ : Loc nD τ sig) → Buf (Elt Ideal) ℓ)

/-! ### One row -/

/-- The mean of a row's squares, plus the epsilon. -/
def meanSq (r : Fin 2048 → EReal) : EReal :=
  Ideal.div (∑ l, r l * r l) (Ideal.ofBits .f32 0x45000000#32) + Ideal.ofBits .f32 0x358637BD#32

/-- What a row is scaled by. -/
def spread (r : Fin 2048 → EReal) : EReal := Ideal.rsqrt (meanSq r)

/-- The derivative of `spread` by `meanSq`: `-1/2 * spread / meanSq`. -/
def slope (r : Fin 2048 → EReal) : EReal := Ideal.ofBits .f32 0xBF000000#32 * Ideal.div (spread r) (meanSq r)

/-- What comes back to a row through its mean square, of the gradient `g` of the scaled row. -/
def pull (r g : Fin 2048 → EReal) : EReal :=
  ∑ _ : Fin 1, Ideal.div ((∑ l, r l * g l) * slope r) (Ideal.ofBits .f32 0x45000000#32)

/-- The gradient of a row. -/
def back (r g : Fin 2048 → EReal) (l : Fin 2048) : EReal := g l * spread r + r l * pull r g + pull r g * r l

/-! ### The kernel's operations at an entry -/

theorem pay9 (x : FVec Ideal S256x2048 .f32) (j : S256x1.Idx) : k0_pay9 (F := Ideal) x j = meanSq fun l => x (ix2 (j 0) l) := by
  unfold meanSq
  pointwise [k0_pay9]

theorem pay10 (x : FVec Ideal S256x2048 .f32) (j : S256x1.Idx) : k0_pay10 (F := Ideal) x j = spread fun l => x (ix2 (j 0) l) := by
  unfold spread
  pointwise [k0_pay10, pay9]

theorem pay11 (x : FVec Ideal S256x2048 .f32) (j : S256x1.Idx) : k0_pay11 (F := Ideal) x j = slope fun l => x (ix2 (j 0) l) := by
  unfold slope
  pointwise [k0_pay11, pay10, pay9]

/-- The gradient of the scaled row. -/
theorem pay18 (ng sc : FVec Ideal S1x2048 .f32) (dh : FVec Ideal S256x2048 .f32) (j : S256x2048.Idx) :
    k0_pay18 ng sc dh j = dh j * (1 + sc (ix2 0 (j 1))) * ng (ix2 0 (j 1)) := by
  pointwise [k0_pay18, k0_pay16, k0_pay13, k0_pay8]

theorem pay1 (x dh dxn : FVec Ideal S256x2048 .f32) (ng sc : FVec Ideal S1x2048 .f32) (j : S256x2048.Idx) :
    k0_pay1 x (k0_pay10 x) (k0_pay11 x) (k0_pay18 ng sc dh) (k0_pay19 x ng sc dh) dxn j
      = dxn j + back (fun l => x (ix2 (j 0) l))
          (fun l => dh (ix2 (j 0) l) * (1 + sc (ix2 0 l)) * ng (ix2 0 l)) (j 1) := by
  unfold back pull
  pointwise [k0_pay1, k0_pay19, pay18, pay10, pay11]

/-- One point's rows added to the gradient of `norm_g`. -/
theorem pay2 (x dh : FVec Ideal S256x2048 .f32) (sc acc : FVec Ideal S1x2048 .f32) (j : S1x2048.Idx) :
    k0_pay2 (k0_pay17 x sc dh) acc j = acc j + ∑ k : Fin 256,
      x (ix2 k (j 1)) * spread (fun l => x (ix2 k l)) * (dh (ix2 k (j 1)) * (1 + sc (ix2 0 (j 1)))) := by
  pointwise [k0_pay2, k0_pay17, k0_pay12, k0_pay16, k0_pay13, pay10]

/-- One point's rows added to the gradient of `scale`. -/
theorem pay3 (x dh : FVec Ideal S256x2048 .f32) (ng acc : FVec Ideal S1x2048 .f32) (j : S1x2048.Idx) :
    k0_pay3 (k0_pay15 x ng dh) acc j = acc j + ∑ k : Fin 256,
      x (ix2 k (j 1)) * spread (fun l => x (ix2 k l)) * ng (ix2 0 (j 1)) * dh (ix2 k (j 1)) := by
  pointwise [k0_pay3, k0_pay15, k0_pay12, k0_pay13, k0_pay8, pay10]

/-- One point's rows added to the gradient of `shift`. -/
theorem pay4 (dh : FVec Ideal S256x2048 .f32) (acc : FVec Ideal S1x2048 .f32) (j : S1x2048.Idx) :
    k0_pay4 (k0_pay14 dh) acc j = acc j + ∑ k : Fin 256, dh (ix2 k (j 1)) := by
  pointwise [k0_pay4, k0_pay14]

theorem zero5 (j : S1x2048.Idx) : k0_pay5 (F := Ideal) j = 0 := by pointwise [k0_pay5]
theorem zero6 (j : S1x2048.Idx) : k0_pay6 (F := Ideal) j = 0 := by pointwise [k0_pay6]
theorem zero7 (j : S1x2048.Idx) : k0_pay7 (F := Ideal) j = 0 := by pointwise [k0_pay7]

/-! ### The reference's results at an entry -/

theorem ref6 (x : FVec Ideal S8192x2048 .f32) (j : Cert.NormBwdReferenceIdeal.S8192x1.Idx) :
    val_main_v6 (F := Ideal) x j = meanSq fun l => x (ix2 (j 0) l) := by
  unfold meanSq
  pointwise [val_main_v6, val_main_v5, val_main_v4, val_main_v3, val_main_v2, val_main_v1, val_main_v0, val_main_cst, val_main_cst_0, val_main_cst_1]

theorem ref7 (x : FVec Ideal S8192x2048 .f32) (j : Cert.NormBwdReferenceIdeal.S8192x1.Idx) :
    val_main_v7 (F := Ideal) x j = spread fun l => x (ix2 (j 0) l) := by
  unfold spread
  pointwise [val_main_v7, ref6]

theorem ref10 (x : FVec Ideal S8192x2048 .f32) (j : Cert.NormBwdReferenceIdeal.S8192x1.Idx) :
    val_main_v10 (F := Ideal) x j = slope fun l => x (ix2 (j 0) l) := by
  unfold slope
  pointwise [val_main_v10, val_main_v9, val_main_v8, val_main_cst_2, ref7, ref6]

theorem ref34 (dh : FVec Ideal S8192x2048 .f32) (sc : FVec Ideal S1x2048 .f32) (ng : FVec Ideal S2048 .f32)
    (j : S8192x2048.Idx) :
    val_main_v34 (F := Ideal) dh sc ng j = dh j * (1 + sc (ix2 0 (j 1))) * ng (ix1 (j 1)) := by
  pointwise [val_main_v34, val_main_v33, val_main_v29, val_main_v28, val_main_v22, val_main_v17, val_main_v16, val_main_v13, val_main_cst_3]

theorem ref50 (dh x dxn : FVec Ideal S8192x2048 .f32) (sc : FVec Ideal S1x2048 .f32) (ng : FVec Ideal S2048 .f32)
    (j : S8192x2048.Idx) :
    val_main_v50 (F := Ideal) dh x dxn sc ng j = dxn j + back (fun l => x (ix2 (j 0) l))
      (fun l => dh (ix2 (j 0) l) * (1 + sc (ix2 0 l)) * ng (ix1 l)) (j 1) := by
  unfold back pull
  pointwise [val_main_v50, val_main_v49, val_main_v48, val_main_v47, val_main_v46, val_main_v45, val_main_v44, val_main_v43, val_main_v42, val_main_v41, val_main_v40, val_main_v39, val_main_v38, val_main_v37, val_main_v36, val_main_cst_8, val_main_cst_9, val_main_cst_10,
    ref34, ref10, ref7]

theorem ref51 (dh x : FVec Ideal S8192x2048 .f32) (sc : FVec Ideal S1x2048 .f32) (j : S1x2048.Idx) :
    val_main_v51 (F := Ideal) dh x sc j = ∑ k : Fin 8192,
      x (ix2 k (j 1)) * spread (fun l => x (ix2 k l)) * (dh (ix2 k (j 1)) * (1 + sc (ix2 0 (j 1)))) := by
  pointwise [val_main_v51, val_main_v35, val_main_v32, val_main_v31, val_main_v30, val_main_v29, val_main_v28, val_main_v22, val_main_v17, val_main_v16, val_main_v12, val_main_v11, val_main_cst_3, val_main_cst_6, val_main_cst_7, ref7]
  exact Fin.sum_univ_one _

theorem ref27 (dh x : FVec Ideal S8192x2048 .f32) (ng : FVec Ideal S2048 .f32) (j : S1x2048.Idx) :
    val_main_v27 (F := Ideal) dh x ng j = ∑ k : Fin 8192,
      x (ix2 k (j 1)) * spread (fun l => x (ix2 k l)) * ng (ix1 (j 1)) * dh (ix2 k (j 1)) := by
  pointwise [val_main_v27, val_main_v26, val_main_v25, val_main_v22, val_main_v15, val_main_v14, val_main_v13, val_main_v12, val_main_v11, val_main_cst_5, ref7]

theorem ref24 (dh : FVec Ideal S8192x2048 .f32) (j : S1x2048.Idx) :
    val_main_v24 (F := Ideal) dh j = ∑ k : Fin 8192, dh (ix2 k (j 1)) := by
  pointwise [val_main_v24, val_main_v23, val_main_cst_4]

/-! ### The kernel's four results -/

/-- Where the windows stand at each point. -/
theorem place : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![t.val, 0] ∧ win0_7.index t = ![0, 0] ∧ win0_8.index t = ![0, 0] ∧ win0_9.index t = ![0, 0] :=
  (by decide +kernel : ∀ t : Fin grid0.N, _)

/-- The rows' gradient, added to the residual's. -/
theorem rows (c : Dev nD) : (dats m 0 c).arrAt 6 cfg0.N
    = val_main_v50 (F := Ideal) (m ((c : Thread nD τ).loc main_arg0)) (m ((c : Thread nD τ).loc main_arg1))
        (m ((c : Thread nD τ).loc main_arg2)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 32 = 0
  on_goal 1 => rw [outsAt0_A m c t h]
  on_goal 2 => rw [outsAt0_B m c t h]
  all_goals
    frame_out
    rw [pay1, ref50]
    simp only [back, pull, slope, spread, meanSq]
    blk_point [iblk, V, place t]

/-- The gradient of `norm_g`. -/
theorem norm_g (c : Dev nD) : (dats m 0 c).arrAt 7 cfg0.N
    = val_main_v51 (F := Ideal) (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.1) 32 (fun _ => 0) _
    (fun t h j => by rw [outsAt0_A m c t h]; frame_out; rw [pay2, zero5])
    (fun t h j => by rw [outsAt0_B m c t h]; frame_out; rw [pay2])
    t ((flush0_7 t).mp hf) _, zero_add, ref51]
  refine Fin.sum_mul_add_congr fun s k hl => ?_
  simp only [spread, meanSq]
  blk_point [iblk, V, place t, place ⟨_, Pipeline.run_point_lt_of_flush t ((flush0_7 t).mp hf) s⟩]

/-- The gradient of `scale`. -/
theorem scale (c : Dev nD) : (dats m 0 c).arrAt 8 cfg0.N
    = val_main_v27 (F := Ideal) (m ((c : Thread nD τ).loc main_arg0)) (m ((c : Thread nD τ).loc main_arg1)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 32 (fun _ => 0) _
    (fun t h j => by rw [outsAt0_A m c t h]; frame_out; rw [pay3, zero6])
    (fun t h j => by rw [outsAt0_B m c t h]; frame_out; rw [pay3])
    t ((flush0_8 t).mp hf) _, zero_add, ref27]
  refine Fin.sum_mul_add_congr fun s k hl => ?_
  simp only [spread, meanSq]
  blk_point [iblk, V, place t, place ⟨_, Pipeline.run_point_lt_of_flush t ((flush0_8 t).mp hf) s⟩]

/-- The gradient of `shift`. -/
theorem shift (c : Dev nD) : (dats m 0 c).arrAt 9 cfg0.N
    = val_main_v24 (F := Ideal) (m ((c : Thread nD τ).loc main_arg0)) := by
  refine (dats m 0 c).arrAt_eq_of_covers 9 _ (by decide +kernel) fun t hf y => ?_
  blk_simp
  rw [after0_9, Pipeline.eq_sum_fin_of_reset_step_apply_of_flush (fun n h => (outsAt0 m c n h).2.2.2) 32 (fun _ => 0) _
    (fun t h j => by rw [outsAt0_A m c t h]; frame_out; rw [pay4, zero7])
    (fun t h j => by rw [outsAt0_B m c t h]; frame_out; rw [pay4])
    t ((flush0_9 t).mp hf) _, zero_add, ref24]
  refine Fin.sum_mul_add_congr fun s k hl => ?_
  blk_point [iblk, V, place t, place ⟨_, Pipeline.run_point_lt_of_flush t ((flush0_9 t).mp hf) s⟩]

end Cert.NormBwdIdeal.Norm

namespace Cert.Proof

open Cert.NormBwdIdeal Cert.NormBwdReferenceIdeal

/-- The kernel and the reference compute the same four results over the extended reals. -/
theorem algebraic_modnorm_bwd : Cert.algebraic_NormBwdIdeal_NormBwdReferenceIdeal := by
  pair_intro
  · run_from Cert.NormBwdIdeal.Gen.run_main m g
  · refine Idealize.ShloMosaic.θ_run_mono (Cert.NormBwdReferenceIdeal.Value.run m' g') ?_
    intro r hr c
    obtain ⟨h0, h1, h2, h3, kept⟩ := hr c
    obtain ⟨a0, a1, a2, a3, a4, a5⟩ := hagree c
    refine ⟨(h0.trans (Read.val_main_v50_eq _ _)).trans ?_, (h1.trans (Read.val_main_v51_eq _ _ _)).trans ?_,
      (h2.trans (Read.val_main_v27_eq _ _ _)).trans ?_, (h3.trans (Read.val_main_v24_eq _)).trans ?_, kept⟩
      <;> simp only [a0, a1, a2, a3, a4, a5]
    · exact (Norm.rows m c).symm
    · exact (Norm.norm_g m c).symm
    · exact (Norm.scale m c).symm
    · exact (Norm.shift m c).symm

end Cert.Proof

end
-- ==== Proof.OutBwd.lean ====
/-
  The gradient of the output projection and of the gated residual `x_new = x + gate * (concat(y_dn, y_sg, y_cv) · W)`:
  of `dx_new` [8192, 2048], the projection's rows `y` [8192, 2048], `gate` [1, 2048] and `W` [2048, 2048] the kernel makes
  `dy = gate * dx_new` (a result of its own), the three column ranges of `dy · W ᵀ`, and `dgate = ∑ rows, dx_new * y`.

  The kernel takes 256 rows a point. The first four results are written block by block, each entry by one point; `dgate`
  is one row that all 32 points add into, so it ends as `0 + ∑ s < 32, ∑ k < 256, dx_new[256 s + k, c] * y[256 s + k, c]`,
  the reference's one sum over 8192 rows. Only commutativity and associativity over the extended reals enter.
-/
module

public import proofs.«01_k».proof.Proof.Gen.OutBwdIdeal.Value
public import proofs.«01_k».proof.Proof.Gen.OutBwdReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdIdeal.Gated

open Cert.OutBwdIdeal Cert.OutBwdIdeal.Gen

variable (m : (ℓ : Loc nD τ sig) → Buf (Elt Ideal) ℓ)

/-- Where the windows stand at each point. -/
theorem place : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0]
    ∧ win0_6.index t = ![t.val, 0] ∧ win0_7.index t = ![t.val, 0] ∧ win0_8.index t = ![0, 0] :=
  (by decide +kernel : ∀ t : Fin grid0.N, _)

/-- The block's product with the weights, of the gated block. -/
theorem block_product (dx : FVec Ideal S256x2048 .f32) (g : FVec Ideal S1x2048 .f32) (w : FVec Ideal S2048x2048 .bf16)
    (i : S256x2048.Idx) :
    k0_pay4 dx g w i = ∑ k : Fin 2048, dx (ix2 (i 0) k) * g (ix2 0 k) * w (ix2 (i 1) k) := by
  pointwise [k0_pay4, k0_pay3]

/-- The reference's gated array. -/
theorem gated_apply (dx : FVec Ideal S8192x2048 .f32) (g : FVec Ideal S1x2048 .f32) (i : S8192x2048.Idx) :
    Cert.OutBwdReferenceIdeal.Read.val_main_v4 (F := Ideal) dx g i = dx i * g (ix2 0 (i 1)) := by
  rw [mul_comm]
  pointwise [Cert.OutBwdReferenceIdeal.Read.val_main_v4, Cert.OutBwdReferenceIdeal.Read.val_main_v3]

/-- The reference's product with the weights. -/
theorem whole_product (dx : FVec Ideal S8192x2048 .f32) (g : FVec Ideal S1x2048 .f32) (w : FVec Ideal S2048x2048 .bf16)
    (i : S8192x2048.Idx) :
    Cert.OutBwdReferenceIdeal.Read.val_main_v8 (F := Ideal) dx g w i = ∑ k : Fin 2048, dx (ix2 (i 0) k) * g (ix2 0 k) * w (ix2 (i 1) k) := by
  pointwise [Cert.OutBwdReferenceIdeal.Read.val_main_v8, Cert.OutBwdReferenceIdeal.Read.val_main_v0, gated_apply]

/-- The rows' gradient, the 1024 columns of the gated delta rule. -/
theorem first (c : Dev nD) : (dats m 0 c).arrAt 4 cfg0.N
    = Cert.OutBwdReferenceIdeal.Read.val_main_v9 (F := Ideal) (m ((c : Thread nD τ).loc main_arg0)) (m ((c : Thread nD τ).loc main_arg2))
        (m ((c : Thread nD τ).loc main_arg3)) := by
  refine (dats m 0 c).arrAt_eq_of_covers 4 _ (by decide +kernel) fun t hf y => ?_
  blk_simp
  rw [after0_4]
  by_cases h : t.val % 32 = 0
  on_goal 1 => rw [outsAt0_A m c t h]
  on_goal 2 => rw [outsAt0_B m c t h]
  all_goals
    frame_out
    pointwise [k0_pay5, block_product, Cert.OutBwdReferenceIdeal.Read.val_main_v9, whole_product]
    blk_point [iblk, V, place t]

/-- The rows' gradient, the 512 columns of the spatial gating. -/
theorem second (c : Dev nD) : (dats m 0 c).arrAt 5 cfg0.N
    = Cert.OutBwdReferenceIdeal.Read.val_main_v10 (F := Ideal) (m ((c : Thread nD τ).loc main_arg0)) (m ((c : Thread nD τ).loc main_arg2))
        (m ((c : Thread nD τ).loc main_arg3)) := by
  refine (dats m 0 c).arrAt_eq_of_covers 5 _ (by decide +kernel) fun t hf y => ?_
  blk_simp
  rw [after0_5]
  by_cases h : t.val % 32 = 0
  on_goal 1 => rw [outsAt0_A m c t h]
  on_goal 2 => rw [outsAt0_B m c t h]
  all_goals
    frame_out
    pointwise [k0_pay6, block_product, Cert.OutBwdReferenceIdeal.Read.val_main_v10, whole_product]
    blk_point [iblk, V, place t]

/-- The rows' gradient, the 512 columns of the convolution. -/
theorem third (c : Dev nD) : (dats m 0 c).arrAt 6 cfg0.N
    = Cert.OutBwdReferenceIdeal.Read.val_main_v11 (F := Ideal) (m ((c : Thread nD τ).loc main_arg0)) (m ((c : Thread nD τ).loc main_arg2))
        (m ((c : Thread nD τ).loc main_arg3)) := by
  refine (dats m 0 c).arrAt_eq_of_covers 6 _ (by decide +kernel) fun t hf y => ?_
  blk_simp
  rw [after0_6]
  by_cases h : t.val % 32 = 0
  on_goal 1 => rw [outsAt0_A m c t h]
  on_goal 2 => rw [outsAt0_B m c t h]
  all_goals
    frame_out
    pointwise [k0_pay7, block_product, Cert.OutBwdReferenceIdeal.Read.val_main_v11, whole_product]
    blk_point [iblk, V, place t]

/-- The gradient of the projection's result, `gate * dx_new`. -/
theorem gated (c : Dev nD) : (dats m 0 c).arrAt 7 cfg0.N
    = Cert.OutBwdReferenceIdeal.Read.val_main_v12 (F := Ideal) (m ((c : Thread nD τ).loc main_arg0)) (m ((c : Thread nD τ).loc main_arg2)) := by
  refine (dats m 0 c).arrAt_eq_of_covers 7 _ (by decide +kernel) fun t hf y => ?_
  blk_simp
  rw [after0_7]
  by_cases h : t.val % 32 = 0
  on_goal 1 => rw [outsAt0_A m c t h]
  on_goal 2 => rw [outsAt0_B m c t h]
  all_goals
    frame_out
    pointwise [k0_pay3, Cert.OutBwdReferenceIdeal.Read.val_main_v12, gated_apply]
    blk_point [iblk, V, place t]

/-- The row the points add into starts at zero. -/
theorem start (j : S1x2048.Idx) : k0_pay1 (F := Ideal) j = 0 := by pointwise [k0_pay1]

/-- One point adds its 256 rows' products. -/
theorem add_rows (dx : FVec Ideal S256x2048 .f32) (acc : FVec Ideal S1x2048 .f32) (y : FVec Ideal S256x2048 .f32)
    (j : S1x2048.Idx) :
    k0_pay2 dx acc y j = acc j + ∑ k : Fin 256, dx (ix2 k (j 1)) * y (ix2 k (j 1)) := by
  pointwise [k0_pay2]

/-- The gate's gradient in the reference: all 8192 rows at once. -/
theorem gate_apply (dx y : FVec Ideal S8192x2048 .f32) (j : S1x2048.Idx) :
    Cert.OutBwdReferenceIdeal.Read.val_main_v7 (F := Ideal) dx y j = ∑ l : Fin 8192, dx (ix2 l (j 1)) * y (ix2 l (j 1)) := by
  pointwise [Cert.OutBwdReferenceIdeal.Read.val_main_v7, Cert.OutBwdReferenceIdeal.Read.val_main_v6, Cert.OutBwdReferenceIdeal.Read.val_main_v5, Cert.OutBwdReferenceIdeal.Read.val_main_cst]

/-- The gate's gradient. -/
theorem gate (c : Dev nD) : (dats m 0 c).arrAt 8 cfg0.N
    = Cert.OutBwdReferenceIdeal.Read.val_main_v7 (F := Ideal) (m ((c : Thread nD τ).loc main_arg0)) (m ((c : Thread nD τ).loc main_arg1)) := by
  refine (dats m 0 c).arrAt_eq_of_covers 8 _ (by decide +kernel) fun t hf y => ?_
  blk_simp
  rw [after0_8, Pipeline.eq_sum_fin_of_reset_step_apply_of_flush (fun n h => (outsAt0 m c n h).2.2.2.2) 32 (fun _ => 0) _
    (fun t h j => by rw [outsAt0_A m c t h]; frame_out; rw [add_rows, start])
    (fun t h j => by rw [outsAt0_B m c t h]; frame_out; rw [add_rows])
    t ((flush0_8 t).mp hf) _, zero_add, gate_apply]
  refine Fin.sum_mul_add_congr fun s k hl => ?_
  blk_point [iblk, V, place t, place ⟨_, Pipeline.run_point_lt_of_flush t ((flush0_8 t).mp hf) s⟩]

end Cert.OutBwdIdeal.Gated

namespace Cert.Proof

open Cert.OutBwdIdeal Cert.OutBwdReferenceIdeal

/-- The kernel and the reference compute the same five results over the extended reals. -/
theorem algebraic_out_proj_bwd : Cert.algebraic_OutBwdIdeal_OutBwdReferenceIdeal := by
  pair_intro
  · run_from Cert.OutBwdIdeal.Gen.run_main m g
  · refine Idealize.ShloMosaic.θ_run_mono (Cert.OutBwdReferenceIdeal.Value.run m' g') ?_
    intro r hr c
    obtain ⟨h0, h1, h2, h3, h4, kept⟩ := hr c
    obtain ⟨a0, a1, a2, a3⟩ := hagree c
    refine ⟨(h0.trans (Read.val_main_v9_eq _ _ _)).trans ?_, (h1.trans (Read.val_main_v10_eq _ _ _)).trans ?_,
      (h2.trans (Read.val_main_v11_eq _ _ _)).trans ?_, (h3.trans (Read.val_main_v12_eq _ _)).trans ?_,
      (h4.trans (Read.val_main_v7_eq _ _)).trans ?_, kept⟩ <;> simp only [a0, a1, a2, a3]
    · exact (Gated.first m c).symm
    · exact (Gated.second m c).symm
    · exact (Gated.third m c).symm
    · exact (Gated.gated m c).symm
    · exact (Gated.gate m c).symm

end Cert.Proof

end
-- ==== Proof.OutProj.lean ====
/-
  The output projection and the gated residual. The rows' results `y_dn` [8192, 1024], `y_sg` and `y_cv` [8192, 512]
  stand side by side as one array `cat` [8192, 2048]; of it, `W` [2048, 2048], the residual `x` and `gate` [1, 2048] the
  kernel makes `x + gate * (cat · W)`, `cat · W` itself, and the transpose of `cat`.

  The kernel takes 256 rows a point and never forms `cat`: it adds three products, one per column range of `cat` with the
  matching range of `W`'s rows, and stores the transpose in three pieces. The reference forms `cat` and contracts over its
  2048 columns at once, `∑ k < 2048 = ∑ k < 1024 + ∑ k < 512 + ∑ k < 512`. Only associativity enters.
-/
module

public import proofs.«01_k».proof.Proof.Gen.OutProjIdeal.Value
public import proofs.«01_k».proof.Proof.Gen.OutProjReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Side

open Cert.OutProjIdeal Cert.OutProjIdeal.Gen

variable (m : (ℓ : Loc nD τ sig) → Buf (Elt Ideal) ℓ)

/-- Where the windows stand at each point. -/
theorem place : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![0, t.val] :=
  (by decide +kernel : ∀ t : Fin grid0.N, _)

/-- A sum over the 2048 columns, by the three ranges of columns. -/
theorem sum_ranges (f : Fin 2048 → EReal) : ∑ k, f k = (∑ k : Fin 1024, f ⟨k, by omega⟩)
    + (∑ k : Fin 512, f ⟨1024 + k, by omega⟩) + ∑ k : Fin 512, f ⟨1536 + k, by omega⟩ := by
  rw [show (∑ k, f k) = ∑ k : Fin (1536 + 512), f (k.cast rfl) from rfl, Fin.sum_univ_add,
    show (∑ k : Fin 1536, f ((Fin.castAdd 512 k).cast rfl)) = ∑ k : Fin (1024 + 512), f ⟨k, by omega⟩ from rfl, Fin.sum_univ_add]
  rfl

/-- One entry of a block's three products. -/
theorem block_product (a : FVec Ideal S256x1024 .f32) (b d : FVec Ideal S256x512 .f32) (wa : FVec Ideal S1024x2048 .bf16)
    (wb wd : FVec Ideal S512x2048 .bf16) (i : S256x2048.Idx) :
    k0_pay2 a b d wa wb wd i = (∑ k : Fin 1024, a (ix2 (i 0) k) * wa (ix2 k (i 1)))
      + (∑ k : Fin 512, b (ix2 (i 0) k) * wb (ix2 k (i 1))) + ∑ k : Fin 512, d (ix2 (i 0) k) * wd (ix2 k (i 1)) := by
  pointwise [k0_pay2]

/-- The three arrays side by side, read in each column range. -/
theorem cat_first (x1 : FVec Ideal S8192x1024 .f32) (x2 x3 : FVec Ideal S8192x512 .f32) (i : Fin 8192) (k : Fin 1024) :
    Cert.OutProjReferenceIdeal.Read.val_main_v0 (F := Ideal) x1 x2 x3 (ix2 i ⟨k, by omega⟩) = x1 (ix2 i k) := by
  pointwise [Cert.OutProjReferenceIdeal.Read.val_main_v0]

theorem cat_second (x1 : FVec Ideal S8192x1024 .f32) (x2 x3 : FVec Ideal S8192x512 .f32) (i : Fin 8192) (k : Fin 512) :
    Cert.OutProjReferenceIdeal.Read.val_main_v0 (F := Ideal) x1 x2 x3 (ix2 i ⟨1024 + k, by omega⟩) = x2 (ix2 i k) := by
  pointwise [Cert.OutProjReferenceIdeal.Read.val_main_v0]

theorem cat_third (x1 : FVec Ideal S8192x1024 .f32) (x2 x3 : FVec Ideal S8192x512 .f32) (i : Fin 8192) (k : Fin 512) :
    Cert.OutProjReferenceIdeal.Read.val_main_v0 (F := Ideal) x1 x2 x3 (ix2 i ⟨1536 + k, by omega⟩) = x3 (ix2 i k) := by
  pointwise [Cert.OutProjReferenceIdeal.Read.val_main_v0]
  blk_point []
  all_goals exfalso; omega

/-- One entry of the reference's product, by the three ranges. -/
theorem whole_product (x1 : FVec Ideal S8192x1024 .f32) (x2 x3 : FVec Ideal S8192x512 .f32) (w : FVec Ideal S2048x2048 .bf16)
    (i : S8192x2048.Idx) :
    Cert.OutProjReferenceIdeal.Read.val_main_v2 (F := Ideal) x1 x2 x3 w i
      = (∑ k : Fin 1024, x1 (ix2 (i 0) k) * w (ix2 ⟨k, by omega⟩ (i 1)))
      + (∑ k : Fin 512, x2 (ix2 (i 0) k) * w (ix2 ⟨1024 + k, by omega⟩ (i 1)))
      + ∑ k : Fin 512, x3 (ix2 (i 0) k) * w (ix2 ⟨1536 + k, by omega⟩ (i 1)) := by
  have e : Cert.OutProjReferenceIdeal.Read.val_main_v2 (F := Ideal) x1 x2 x3 w i
      = ∑ k : Fin 2048, Cert.OutProjReferenceIdeal.Read.val_main_v0 (F := Ideal) x1 x2 x3 (ix2 (i 0) k) * w (ix2 k (i 1)) := by
    pointwise [Cert.OutProjReferenceIdeal.Read.val_main_v2, Cert.OutProjReferenceIdeal.Read.val_main_v1]
  rw [e, sum_ranges]
  refine congrArg₂ (· + ·) (congrArg₂ (· + ·) ?_ ?_) ?_ <;> refine Finset.sum_congr rfl fun k _ => congrArg (· * _) ?_
  · exact cat_first x1 x2 x3 (i 0) k
  · exact cat_second x1 x2 x3 (i 0) k
  · exact cat_third x1 x2 x3 (i 0) k

/-- One entry of the gated residual in a block. -/
theorem block_residual (a : FVec Ideal S256x1024 .f32) (b d : FVec Ideal S256x512 .f32) (wa : FVec Ideal S1024x2048 .bf16)
    (wb wd : FVec Ideal S512x2048 .bf16) (x : FVec Ideal S256x2048 .f32) (g : FVec Ideal S1x2048 .f32) (i : S256x2048.Idx) :
    k0_pay3 a b d wa wb wd x g i = x i + g (ix2 0 (i 1)) * k0_pay2 a b d wa wb wd i := by
  pointwise [k0_pay3]

/-- One entry of the gated residual in the reference. -/
theorem whole_residual (x : FVec Ideal S8192x2048 .f32) (x1 : FVec Ideal S8192x1024 .f32) (x2 x3 : FVec Ideal S8192x512 .f32)
    (w : FVec Ideal S2048x2048 .bf16) (g : FVec Ideal S1x2048 .f32) (i : S8192x2048.Idx) :
    Cert.OutProjReferenceIdeal.Read.val_main_v5 (F := Ideal) x x1 x2 x3 w g i
      = x i + g (ix2 0 (i 1)) * Cert.OutProjReferenceIdeal.Read.val_main_v2 (F := Ideal) x1 x2 x3 w i := by
  pointwise [Cert.OutProjReferenceIdeal.Read.val_main_v5, Cert.OutProjReferenceIdeal.Read.val_main_v4, Cert.OutProjReferenceIdeal.Read.val_main_v3]

/-- The projection. -/
theorem product (c : Dev nD) : (dats m 0 c).arrAt 7 cfg0.N
    = Cert.OutProjReferenceIdeal.Read.val_main_v2 (F := Ideal) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp
  rw [after0_7]
  unfold Gen.outsAt0
  frame_out
  pointwise [block_product, whole_product]
  blk_point [iblk, V, place t]

/-- The residual stream after the gated projection. -/
theorem residual (c : Dev nD) : (dats m 0 c).arrAt 6 cfg0.N
    = Cert.OutProjReferenceIdeal.Read.val_main_v5 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold Gen.outsAt0
  frame_out
  pointwise [block_residual, block_product, whole_residual, whole_product]
  blk_point [iblk, V, place t]

/-- The transpose of the three arrays side by side, in three pieces a point. -/
theorem turned (c : Dev nD) : (dats m 0 c).arrAt 8 cfg0.N
    = Cert.OutProjReferenceIdeal.Read.val_main_v7 (F := Ideal) (m ((c : Thread nD τ).loc main_arg1)) (m ((c : Thread nD τ).loc main_arg2))
        (m ((c : Thread nD τ).loc main_arg3)) := by
  refine (dats m 0 c).arrAt_eq_of_covers 8 _ (by decide +kernel) fun t hf y => ?_
  blk_simp
  rw [after0_8]
  unfold Gen.outsAt0
  frame_out
  canon_tiles x h using View.cover_of_tiledBy _ ![512, 256] (by sl_kernel_rfl) _
  all_goals
    pointwise [k0_pay1, k0_pay4, k0_pay5, k0_pay6, Cert.OutProjReferenceIdeal.Read.val_main_v7, Cert.OutProjReferenceIdeal.Read.val_main_v6, Cert.OutProjReferenceIdeal.Read.val_main_v0]
    blk_point [iblk, V, place t]
  all_goals
    have e : ((((View.whole main_v0_2).slice (win0_8.rect t)).emb y 0 : Fin _) : ℕ) = (y 0 : ℕ) := by blk_simp [place t]
    exfalso; omega

end Cert.OutProjIdeal.Side

namespace Cert.Proof

open Cert.OutProjIdeal Cert.OutProjReferenceIdeal

/-- The kernel and the reference compute the same three results over the extended reals. -/
theorem algebraic_out_proj : Cert.algebraic_OutProjIdeal_OutProjReferenceIdeal := by
  pair_intro
  · run_from Cert.OutProjIdeal.Gen.run_main m g
  · refine Idealize.ShloMosaic.θ_run_mono (Cert.OutProjReferenceIdeal.Value.run m' g') ?_
    intro r hr c
    obtain ⟨h0, h1, h2, kept⟩ := hr c
    obtain ⟨a0, a1, a2, a3, a4, a5⟩ := hagree c
    refine ⟨(h0.trans (Read.val_main_v5_eq _ _ _ _ _ _)).trans ?_, (h1.trans (Read.val_main_v2_eq _ _ _ _)).trans ?_,
      (h2.trans (Read.val_main_v7_eq _ _ _)).trans ?_, kept⟩
      <;> simp only [a0, a1, a2, a3, a4, a5]
    · exact (Side.residual m c).symm
    · exact (Side.product m c).symm
    · exact (Side.turned m c).symm

end Cert.Proof

end
-- ==== Proof.SumDevices.lean ====
/-
  The sum of the eight devices' small gradients, packed as 416 rows of 1024. The kernel adds the eight arrays one after the
  other, 208 rows a point; the reference sums over the first axis.
-/
module

public import proofs.«01_k».proof.Proof.Gen.SumDevicesIdeal.Value
public import proofs.«01_k».proof.Proof.Gen.SumDevicesReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumDevicesIdeal.Eight

open Cert.SumDevicesIdeal Cert.SumDevicesIdeal.Gen
open Cert.SumDevicesReferenceIdeal.Read

variable (m : (ℓ : Loc nD τ sig) → Buf (Elt Ideal) ℓ)

/-- One entry of the eight blocks added up. -/
theorem pay1 (x0 x1 x2 x3 x4 x5 x6 x7 : FVec Ideal S1x208x1024 .f32) (j : S208x1024.Idx) :
    k0_pay1 (F := Ideal) x0 x1 x2 x3 x4 x5 x6 x7 j = x0 (ix3 0 (j 0) (j 1)) + x1 (ix3 0 (j 0) (j 1)) + x2 (ix3 0 (j 0) (j 1))
      + x3 (ix3 0 (j 0) (j 1)) + x4 (ix3 0 (j 0) (j 1)) + x5 (ix3 0 (j 0) (j 1)) + x6 (ix3 0 (j 0) (j 1)) + x7 (ix3 0 (j 0) (j 1)) := by
  pointwise [k0_pay1]

/-- One entry of the reference's sum. -/
theorem ref0 (g : FVec Ideal S8x416x1024 .f32) (j : S416x1024.Idx) :
    val_main_v0 (F := Ideal) g j = ∑ k : Fin 8, g (ix3 k (j 0) (j 1)) := by
  pointwise [val_main_v0, val_main_cst]

/-- Where the windows stand at each point. -/
theorem place : ∀ t : Fin cfg0.N, win0_0.index t = ![0, t.val, 0] ∧ win0_1.index t = ![t.val, 0] :=
  (by decide +kernel : ∀ t : Fin grid0.N, _)

/-- The sum over the devices. -/
theorem sum (c : Dev nD) : (dats m 0 c).arrAt 1 cfg0.N = val_main_v0 (F := Ideal) (m ((c : Thread nD τ).loc main_arg0)) := by
  refine (dats m 0 c).arrAt_eq_of_covers 1 _ (by decide +kernel) fun t hf y => ?_
  blk_simp
  rw [after0_1]
  frame_out
  rw [pay1, ref0, Fin.sum_univ_eight]
  blk_point [iblk, V, place t]

end Cert.SumDevicesIdeal.Eight

namespace Cert.Proof

open Cert.SumDevicesIdeal Cert.SumDevicesReferenceIdeal

/-- The kernel and the reference compute the same sum over the extended reals. -/
theorem algebraic_sum8 : Cert.algebraic_SumDevicesIdeal_SumDevicesReferenceIdeal := by
  pair_intro
  · run_from Cert.SumDevicesIdeal.Gen.run_main m g
  · refine Idealize.ShloMosaic.θ_run_mono (Cert.SumDevicesReferenceIdeal.Value.run m' g') ?_
    intro r hr c
    obtain ⟨h0, kept⟩ := hr c
    have a0 := hagree c
    refine ⟨(h0.trans (Read.val_main_v0_eq _)).trans ?_, kept⟩
    simp only [a0]
    exact (Eight.sum m c).symm

end Cert.Proof

end
-- ==== Proof.WInGrad.lean ====
/-
  The gradient of the input projection's weights, `dW = h ᵀ · dp` with `h ᵀ` [2048, 8192] and `dp` [8192, 7296].

  The kernel walks a grid of 2 × 3 output blocks [1024, 2432], each over a run of eight points; point `s` of a run adds
  the product of a [1024, 1024] block of `h ᵀ` with a [1024, 2432] block of `dp`. So a block ends holding
  `0 + ∑ s < 8, ∑ k < 1024, h ᵀ[r, 1024 s + k] · dp[1024 s + k, c]`, which is the reference's one sum over 8192 rows.
  Only commutativity and associativity of `+` and `*` over the extended reals enter.
-/
module

public import proofs.«01_k».proof.Proof.Gen.WInGradIdeal.Value
public import proofs.«01_k».proof.Proof.Gen.WInGradReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WInGradIdeal.Product

open Cert.WInGradIdeal Cert.WInGradIdeal.Gen

variable (m : (ℓ : Loc nD τ sig) → Buf (Elt Ideal) ℓ)

/-- The gradient as the reference computes it, of the two arrays the kernel takes. -/
abbrev grad (ht : FVec Ideal S2048x8192 .bf16) (dp : FVec Ideal S8192x7296 .bf16) : FVec Ideal S2048x7296 .f32 :=
  Cert.WInGradReferenceIdeal.Read.val_main_v4 (F := Ideal) ht dp

/-- The block a run starts from is zero. -/
theorem start (j : S1024x2432.Idx) : k0_pay1 (F := Ideal) j = 0 := by pointwise [k0_pay1]

/-- One point adds the product of its two blocks to what the point before left. -/
theorem add_product (acc : FVec Ideal S1024x2432 .f32) (a : FVec Ideal S1024x1024 .bf16) (b : FVec Ideal S1024x2432 .bf16)
    (j : S1024x2432.Idx) :
    k0_pay2 acc a b j = acc j + ∑ k : Fin 1024, a (ix2 (j 0) k) * b (ix2 k (j 1)) := by
  pointwise [k0_pay2]

/-- The reference at an entry: the whole contraction over the 8192 rows. -/
theorem grad_apply (ht : FVec Ideal S2048x8192 .bf16) (dp : FVec Ideal S8192x7296 .bf16) (j : S2048x7296.Idx) :
    grad ht dp j = ∑ l : Fin 8192, ht (ix2 (j 0) l) * dp (ix2 l (j 1)) := by
  unfold grad
  rw [Cert.WInGradReferenceIdeal.Read.val_main_v4_apply, Cert.WInGradReferenceIdeal.Read.val_main_v3_apply]
  refine Finset.sum_congr rfl fun l _ => ?_
  rw [mul_comm]
  pointwise [Cert.WInGradReferenceIdeal.Read.val_main_v1, Cert.WInGradReferenceIdeal.Read.val_main_v0,
    Cert.WInGradReferenceIdeal.Read.val_main_v2]
  exact congrArg (ht (ix2 (j 0) l) * ·) (congrArg dp (by blk_ext []))

/-- Where the three windows stand at each point. -/
theorem place : ∀ t : Fin cfg0.N, win0_0.index t = ![t.val / 24, t.val % 8]
    ∧ win0_1.index t = ![t.val % 8, t.val / 8 % 3] ∧ win0_2.index t = ![t.val / 24, t.val / 8 % 3] :=
  (by decide +kernel : ∀ t : Fin grid0.N, _)

/-- After the run the output array is the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [add_product, start])
    (fun t h j => by rw [outsAt0_B m c t h]; frame_out; rw [add_product])
    t ((flush0_2 t).mp hf) _, zero_add, grad_apply]
  refine Fin.sum_mul_add_congr fun s k hl => ?_
  blk_point [iblk, V, place t, place ⟨_, Pipeline.run_point_lt_of_flush t ((flush0_2 t).mp hf) s⟩]

end Cert.WInGradIdeal.Product

namespace Cert.Proof

/-- The kernel and the reference compute the same weights' gradient over the extended reals. -/
theorem algebraic_w_in_grad : Cert.algebraic_WInGradIdeal_WInGradReferenceIdeal := by
  pair_intro
  · run_from Cert.WInGradIdeal.Gen.run_main m g
  · run_from Cert.WInGradReferenceIdeal.Value.run m' g'
    rw [Cert.WInGradIdeal.Product.final m c, Cert.WInGradReferenceIdeal.Read.val_main_v4_eq]

end Cert.Proof

end
-- ==== Proof.WOutGrad.lean ====
/-
  The gradient of the output projection's weigyts, `dW = y ᵀ · dyb` with `y ᵀ` [2048, 8192] and `dyb` [8192, 2048].

  The kernel walks a grid of 2 × 1 output blocks [1024, 2048], each over a run of eigyt points; point `s` of a run adds
  the product of a [1024, 1024] block of `y ᵀ` with a [1024, 2048] block of `dyb`. So a block ends holding
  `0 + ∑ s < 8, ∑ k < 1024, y ᵀ[r, 1024 s + k] · dyb[1024 s + k, c]`, which is the reference's one sum over 8192 rows.
  Only commutativity and associativity of `+` and `*` over the extended reals enter.
-/
module

public import proofs.«01_k».proof.Proof.Gen.WOutGradIdeal.Value
public import proofs.«01_k».proof.Proof.Gen.WOutGradReferenceIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WOutGradIdeal.Product

open Cert.WOutGradIdeal Cert.WOutGradIdeal.Gen

variable (m : (ℓ : Loc nD τ sig) → Buf (Elt Ideal) ℓ)

/-- The gradient as the reference computes it, of the two arrays the kernel takes. -/
abbrev grad (yt : FVec Ideal S2048x8192 .bf16) (dyb : FVec Ideal S8192x2048 .bf16) : FVec Ideal S2048x2048 .f32 :=
  Cert.WOutGradReferenceIdeal.Read.val_main_v4 (F := Ideal) yt dyb

/-- The block a run starts from is zero. -/
theorem start (j : S1024x2048.Idx) : k0_pay1 (F := Ideal) j = 0 := by pointwise [k0_pay1]

/-- One point adds the product of its two blocks to what the point before left. -/
theorem add_product (acc : FVec Ideal S1024x2048 .f32) (a : FVec Ideal S1024x1024 .bf16) (b : FVec Ideal S1024x2048 .bf16)
    (j : S1024x2048.Idx) :
    k0_pay2 acc a b j = acc j + ∑ k : Fin 1024, a (ix2 (j 0) k) * b (ix2 k (j 1)) := by
  pointwise [k0_pay2]

/-- The reference at an entry: the whole contraction over the 8192 rows. -/
theorem grad_apply (yt : FVec Ideal S2048x8192 .bf16) (dyb : FVec Ideal S8192x2048 .bf16) (j : S2048x2048.Idx) :
    grad yt dyb j = ∑ l : Fin 8192, yt (ix2 (j 0) l) * dyb (ix2 l (j 1)) := by
  unfold grad
  rw [Cert.WOutGradReferenceIdeal.Read.val_main_v4_apply, Cert.WOutGradReferenceIdeal.Read.val_main_v3_apply]
  refine Finset.sum_congr rfl fun l _ => ?_
  rw [mul_comm]
  pointwise [Cert.WOutGradReferenceIdeal.Read.val_main_v1, Cert.WOutGradReferenceIdeal.Read.val_main_v0,
    Cert.WOutGradReferenceIdeal.Read.val_main_v2]
  exact congrArg (yt (ix2 (j 0) l) * ·) (congrArg dyb (by blk_ext []))

/-- Where the three windows stand at each point. -/
theorem place : ∀ t : Fin cfg0.N, win0_0.index t = ![t.val / 8, t.val % 8]
    ∧ win0_1.index t = ![t.val % 8, 0] ∧ win0_2.index t = ![t.val / 8, 0] :=
  (by decide +kernel : ∀ t : Fin grid0.N, _)

/-- After the run the output array is the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [add_product, start])
    (fun t h j => by rw [outsAt0_B m c t h]; frame_out; rw [add_product])
    t ((flush0_2 t).mp hf) _, zero_add, grad_apply]
  refine Fin.sum_mul_add_congr fun s k hl => ?_
  blk_point [iblk, V, place t, place ⟨_, Pipeline.run_point_lt_of_flush t ((flush0_2 t).mp hf) s⟩]

end Cert.WOutGradIdeal.Product

namespace Cert.Proof

/-- The kernel and the reference compute the same weigyts' gradient over the extended reals. -/
theorem algebraic_w_out_grad : Cert.algebraic_WOutGradIdeal_WOutGradReferenceIdeal := by
  pair_intro
  · run_from Cert.WOutGradIdeal.Gen.run_main m g
  · run_from Cert.WOutGradReferenceIdeal.Value.run m' g'
    rw [Cert.WOutGradIdeal.Product.final m c, Cert.WOutGradReferenceIdeal.Read.val_main_v4_eq]

end Cert.Proof

end
-- ==== Proof.lean ====
/-
  The proof of `Cert.Claim`: each kernel's frame over any float values is the generated one unless a module of its own
  proves it, each reference is a straight line of host operations whose generated run keeps the arguments, no program
  was rewritten to make it ideal, and the equalities over the extended reals are proved one module per kernel.
-/
module

public import proofs.«01_k».proof.Proof.AdaBwd
public import proofs.«01_k».proof.Proof.AdamIn
public import proofs.«01_k».proof.Proof.AdamOut
public import proofs.«01_k».proof.Proof.AdamSmall
public import proofs.«01_k».proof.Proof.ConvBwd
public import proofs.«01_k».proof.Proof.Gating
public import proofs.«01_k».proof.Proof.Gen.AdaBwd.Frame
public import proofs.«01_k».proof.Proof.Gen.AdaBwdIdeal.Frame
public import proofs.«01_k».proof.Proof.Gen.AdaBwdReferenceIdeal.Run
public import proofs.«01_k».proof.Proof.Gen.AdamIn.Frame
public import proofs.«01_k».proof.Proof.Gen.AdamInIdeal.Frame
public import proofs.«01_k».proof.Proof.Gen.AdamInReferenceIdeal.Run
public import proofs.«01_k».proof.Proof.Gen.AdamOut.Frame
public import proofs.«01_k».proof.Proof.Gen.AdamOutIdeal.Frame
public import proofs.«01_k».proof.Proof.Gen.AdamOutReferenceIdeal.Run
public import proofs.«01_k».proof.Proof.Gen.AdamSmall.Frame
public import proofs.«01_k».proof.Proof.Gen.AdamSmallIdeal.Frame
public import proofs.«01_k».proof.Proof.Gen.AdamSmallReferenceIdeal.Run
public import proofs.«01_k».proof.Proof.Gen.ConvBwd.Frame
public import proofs.«01_k».proof.Proof.Gen.ConvBwdIdeal.Frame
public import proofs.«01_k».proof.Proof.Gen.ConvBwdReferenceIdeal.Run
public import proofs.«01_k».proof.Proof.Gen.InBwd.Frame
public import proofs.«01_k».proof.Proof.Gen.InBwdIdeal.Frame
public import proofs.«01_k».proof.Proof.Gen.InBwdReferenceIdeal.Run
public import proofs.«01_k».proof.Proof.Gen.InProjReferenceIdeal.Run
public import proofs.«01_k».proof.Proof.Gen.Kernel.Frame
public import proofs.«01_k».proof.Proof.Gen.KernelIdeal.Frame
public import proofs.«01_k».proof.Proof.Gen.LossHead.Frame
public import proofs.«01_k».proof.Proof.Gen.LossHeadIdeal.Frame
public import proofs.«01_k».proof.Proof.Gen.LossHeadReferenceIdeal.Run
public import proofs.«01_k».proof.Proof.Gen.NormBwd.Frame
public import proofs.«01_k».proof.Proof.Gen.NormBwdIdeal.Frame
public import proofs.«01_k».proof.Proof.Gen.NormBwdReferenceIdeal.Run
public import proofs.«01_k».proof.Proof.Gen.OutBwd.Frame
public import proofs.«01_k».proof.Proof.Gen.OutBwdIdeal.Frame
public import proofs.«01_k».proof.Proof.Gen.OutBwdReferenceIdeal.Run
public import proofs.«01_k».proof.Proof.Gen.OutProj.Frame
public import proofs.«01_k».proof.Proof.Gen.OutProjIdeal.Frame
public import proofs.«01_k».proof.Proof.Gen.OutProjReferenceIdeal.Run
public import proofs.«01_k».proof.Proof.Gen.ReferenceIdeal.Run
public import proofs.«01_k».proof.Proof.Gen.SumDevices.Frame
public import proofs.«01_k».proof.Proof.Gen.SumDevicesIdeal.Frame
public import proofs.«01_k».proof.Proof.Gen.SumDevicesReferenceIdeal.Run
public import proofs.«01_k».proof.Proof.Gen.WInGrad.Frame
public import proofs.«01_k».proof.Proof.Gen.WInGradIdeal.Frame
public import proofs.«01_k».proof.Proof.Gen.WInGradReferenceIdeal.Run
public import proofs.«01_k».proof.Proof.Gen.WOutGrad.Frame
public import proofs.«01_k».proof.Proof.Gen.WOutGradIdeal.Frame
public import proofs.«01_k».proof.Proof.Gen.WOutGradReferenceIdeal.Run
public import proofs.«01_k».proof.Proof.InBwd
public import proofs.«01_k».proof.Proof.InProj
public import proofs.«01_k».proof.Proof.LossHead
public import proofs.«01_k».proof.Proof.NormBwd
public import proofs.«01_k».proof.Proof.OutBwd
public import proofs.«01_k».proof.Proof.OutProj
public import proofs.«01_k».proof.Proof.SumDevices
public import proofs.«01_k».proof.Proof.WInGrad
public import proofs.«01_k».proof.Proof.WOutGrad
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.WInGrad
public import proofs.«01_k».proof.Proof.Gen.WInGradIdeal
public import proofs.«01_k».proof.Proof.Gen.WInGradReferenceIdeal
public import proofs.«01_k».proof.Proof.Gen.InBwd
public import proofs.«01_k».proof.Proof.Gen.InBwdIdeal
public import proofs.«01_k».proof.Proof.Gen.InBwdReferenceIdeal
public import proofs.«01_k».proof.Proof.Gen.WOutGrad
public import proofs.«01_k».proof.Proof.Gen.WOutGradIdeal
public import proofs.«01_k».proof.Proof.Gen.WOutGradReferenceIdeal
public import proofs.«01_k».proof.Proof.Gen.OutBwd
public import proofs.«01_k».proof.Proof.Gen.OutBwdIdeal
public import proofs.«01_k».proof.Proof.Gen.OutBwdReferenceIdeal
public import proofs.«01_k».proof.Proof.Gen.NormBwd
public import proofs.«01_k».proof.Proof.Gen.NormBwdIdeal
public import proofs.«01_k».proof.Proof.Gen.NormBwdReferenceIdeal
public import proofs.«01_k».proof.Proof.Gen.InProj
public import proofs.«01_k».proof.Proof.Gen.InProjIdeal
public import proofs.«01_k».proof.Proof.Gen.InProjReferenceIdeal
public import proofs.«01_k».proof.Proof.Gen.OutProj
public import proofs.«01_k».proof.Proof.Gen.OutProjIdeal
public import proofs.«01_k».proof.Proof.Gen.OutProjReferenceIdeal
public import proofs.«01_k».proof.Proof.Gen.LossHead
public import proofs.«01_k».proof.Proof.Gen.LossHeadIdeal
public import proofs.«01_k».proof.Proof.Gen.LossHeadReferenceIdeal
public import proofs.«01_k».proof.Proof.Gen.AdamSmall
public import proofs.«01_k».proof.Proof.Gen.AdamSmallIdeal
public import proofs.«01_k».proof.Proof.Gen.AdamSmallReferenceIdeal
public import proofs.«01_k».proof.Proof.Gen.AdamIn
public import proofs.«01_k».proof.Proof.Gen.AdamInIdeal
public import proofs.«01_k».proof.Proof.Gen.AdamInReferenceIdeal
public import proofs.«01_k».proof.Proof.Gen.AdamOut
public import proofs.«01_k».proof.Proof.Gen.AdamOutIdeal
public import proofs.«01_k».proof.Proof.Gen.AdamOutReferenceIdeal
public import proofs.«01_k».proof.Proof.Gen.SumDevices
public import proofs.«01_k».proof.Proof.Gen.SumDevicesIdeal
public import proofs.«01_k».proof.Proof.Gen.SumDevicesReferenceIdeal
public import proofs.«01_k».proof.Proof.Gen.AdaBwd
public import proofs.«01_k».proof.Proof.Gen.AdaBwdIdeal
public import proofs.«01_k».proof.Proof.Gen.AdaBwdReferenceIdeal
public import proofs.«01_k».proof.Proof.Gen.ConvBwd
public import proofs.«01_k».proof.Proof.Gen.ConvBwdIdeal
public import proofs.«01_k».proof.Proof.Gen.ConvBwdReferenceIdeal
public import Idealize.ShloMosaic.Lib.Claim

@[expose] public section

noncomputable section

open Idealize.ShloMosaic Idealize.ShloMosaic.TcCoe Idealize.SL.Sem

namespace Cert.Proof

/-! ### The gradient of the spatial gating -/

theorem frame_Kernel : Cert.quiescent_Kernel := fun m ρ _ => Cert.Kernel.Gen.frame m ρ

theorem frame_KernelIdeal : Cert.quiescent_KernelIdeal := fun m ρ _ => Cert.KernelIdeal.Gen.frame m ρ

theorem frame_ReferenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-! ### The gradient of the input projection's weights -/

theorem frame_WInGrad : Cert.quiescent_WInGrad := fun m ρ _ => Cert.WInGrad.Gen.frame m ρ

theorem frame_WInGradIdeal : Cert.quiescent_WInGradIdeal := fun m ρ _ => Cert.WInGradIdeal.Gen.frame m ρ

theorem frame_WInGradReferenceIdeal : Cert.quiescent_WInGradReferenceIdeal := fun m ρ _ =>
  (θ_run Cert.WInGradReferenceIdeal.defs _ _).mono (fun r h => ⟨fun c => (h c).2, sem_eq_zero_of_no_sems (by decide) r.2⟩)
    (Cert.WInGradReferenceIdeal.Value.run (F := Ideal) m ρ)

/-! ### The gradient of the input projection's rows -/

theorem frame_InBwd : Cert.quiescent_InBwd := fun m ρ _ => Cert.InBwd.Gen.frame m ρ

theorem frame_InBwdIdeal : Cert.quiescent_InBwdIdeal := fun m ρ _ => Cert.InBwdIdeal.Gen.frame m ρ

theorem frame_InBwdReferenceIdeal : Cert.quiescent_InBwdReferenceIdeal := fun m ρ _ =>
  (θ_run Cert.InBwdReferenceIdeal.defs _ _).mono (fun r h => ⟨fun c => (h c).2, sem_eq_zero_of_no_sems (by decide) r.2⟩)
    (Cert.InBwdReferenceIdeal.Value.run (F := Ideal) m ρ)

/-! ### The gradient of the output projection's weights -/

theorem frame_WOutGrad : Cert.quiescent_WOutGrad := fun m ρ _ => Cert.WOutGrad.Gen.frame m ρ

theorem frame_WOutGradIdeal : Cert.quiescent_WOutGradIdeal := fun m ρ _ => Cert.WOutGradIdeal.Gen.frame m ρ

theorem frame_WOutGradReferenceIdeal : Cert.quiescent_WOutGradReferenceIdeal := fun m ρ _ =>
  (θ_run Cert.WOutGradReferenceIdeal.defs _ _).mono (fun r h => ⟨fun c => (h c).2, sem_eq_zero_of_no_sems (by decide) r.2⟩)
    (Cert.WOutGradReferenceIdeal.Value.run (F := Ideal) m ρ)

/-! ### The gradient of the output projection and of the gated residual -/

theorem frame_OutBwd : Cert.quiescent_OutBwd := fun m ρ _ => Cert.OutBwd.Gen.frame m ρ

theorem frame_OutBwdIdeal : Cert.quiescent_OutBwdIdeal := fun m ρ _ => Cert.OutBwdIdeal.Gen.frame m ρ

theorem frame_OutBwdReferenceIdeal : Cert.quiescent_OutBwdReferenceIdeal := fun m ρ _ =>
  (θ_run Cert.OutBwdReferenceIdeal.defs _ _).mono (fun r h => ⟨fun c => (h c).2.2.2.2.2, sem_eq_zero_of_no_sems (by decide) r.2⟩)
    (Cert.OutBwdReferenceIdeal.Value.run (F := Ideal) m ρ)

/-! ### The gradient of the modulated rmsnorm -/

theorem frame_NormBwd : Cert.quiescent_NormBwd := fun m ρ _ => Cert.NormBwd.Gen.frame m ρ

theorem frame_NormBwdIdeal : Cert.quiescent_NormBwdIdeal := fun m ρ _ => Cert.NormBwdIdeal.Gen.frame m ρ

theorem frame_NormBwdReferenceIdeal : Cert.quiescent_NormBwdReferenceIdeal := fun m ρ _ =>
  (θ_run Cert.NormBwdReferenceIdeal.defs _ _).mono (fun r h => ⟨fun c => (h c).2.2.2.2, sem_eq_zero_of_no_sems (by decide) r.2⟩)
    (Cert.NormBwdReferenceIdeal.Value.run (F := Ideal) m ρ)

/-! ### The input projection of the modulated rmsnorm -/

theorem frame_InProjReferenceIdeal : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

/-! ### The output projection and the gated residual -/

theorem frame_OutProj : Cert.quiescent_OutProj := fun m ρ _ => Cert.OutProj.Gen.frame m ρ

theorem frame_OutProjIdeal : Cert.quiescent_OutProjIdeal := fun m ρ _ => Cert.OutProjIdeal.Gen.frame m ρ

theorem frame_OutProjReferenceIdeal : Cert.quiescent_OutProjReferenceIdeal := fun m ρ _ =>
  (θ_run Cert.OutProjReferenceIdeal.defs _ _).mono (fun r h => ⟨fun c => (h c).2.2.2, sem_eq_zero_of_no_sems (by decide) r.2⟩)
    (Cert.OutProjReferenceIdeal.Value.run (F := Ideal) m ρ)

/-! ### The loss and its gradient through the last rmsnorm -/

theorem frame_LossHead : Cert.quiescent_LossHead := fun m ρ _ => Cert.LossHead.Gen.frame m ρ

theorem frame_LossHeadIdeal : Cert.quiescent_LossHeadIdeal := fun m ρ _ => Cert.LossHeadIdeal.Gen.frame m ρ

theorem frame_LossHeadReferenceIdeal : Cert.quiescent_LossHeadReferenceIdeal := fun m ρ _ =>
  (θ_run Cert.LossHeadReferenceIdeal.defs _ _).mono (fun r h => ⟨fun c => (h c).2.2.2, sem_eq_zero_of_no_sems (by decide) r.2⟩)
    (Cert.LossHeadReferenceIdeal.Value.run (F := Ideal) m ρ)

/-! ### The optimiser on the small weights -/

theorem frame_AdamSmall : Cert.quiescent_AdamSmall := fun m ρ _ => Cert.AdamSmall.Gen.frame m ρ

theorem frame_AdamSmallIdeal : Cert.quiescent_AdamSmallIdeal := fun m ρ _ => Cert.AdamSmallIdeal.Gen.frame m ρ

theorem frame_AdamSmallReferenceIdeal : Cert.quiescent_AdamSmallReferenceIdeal := fun m ρ _ =>
  (θ_run Cert.AdamSmallReferenceIdeal.defs _ _).mono (fun r h => ⟨fun c => (h c).2.2.2, sem_eq_zero_of_no_sems (by decide) r.2⟩)
    (Cert.AdamSmallReferenceIdeal.Value.run (F := Ideal) m ρ)

/-! ### The optimiser on the input projection -/

theorem frame_AdamIn : Cert.quiescent_AdamIn := fun m ρ _ => Cert.AdamIn.Gen.frame m ρ

theorem frame_AdamInIdeal : Cert.quiescent_AdamInIdeal := fun m ρ _ => Cert.AdamInIdeal.Gen.frame m ρ

theorem frame_AdamInReferenceIdeal : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run (F := Ideal) m ρ)

/-! ### The optimiser on the output projection -/

theorem frame_AdamOut : Cert.quiescent_AdamOut := fun m ρ _ => Cert.AdamOut.Gen.frame m ρ

theorem frame_AdamOutIdeal : Cert.quiescent_AdamOutIdeal := fun m ρ _ => Cert.AdamOutIdeal.Gen.frame m ρ

theorem frame_AdamOutReferenceIdeal : Cert.quiescent_AdamOutReferenceIdeal := fun m ρ _ =>
  (θ_run Cert.AdamOutReferenceIdeal.defs _ _).mono (fun r h => ⟨fun c => (h c).2.2.2.2, sem_eq_zero_of_no_sems (by decide) r.2⟩)
    (Cert.AdamOutReferenceIdeal.Value.run (F := Ideal) m ρ)

/-! ### The sum of the devices' small gradients -/

theorem frame_SumDevices : Cert.quiescent_SumDevices := fun m ρ _ => Cert.SumDevices.Gen.frame m ρ

theorem frame_SumDevicesIdeal : Cert.quiescent_SumDevicesIdeal := fun m ρ _ => Cert.SumDevicesIdeal.Gen.frame m ρ

theorem frame_SumDevicesReferenceIdeal : Cert.quiescent_SumDevicesReferenceIdeal := fun m ρ _ =>
  (θ_run Cert.SumDevicesReferenceIdeal.defs _ _).mono (fun r h => ⟨fun c => (h c).2, sem_eq_zero_of_no_sems (by decide) r.2⟩)
    (Cert.SumDevicesReferenceIdeal.Value.run (F := Ideal) m ρ)

/-! ### The gradient of the conditioning's weights and their optimiser -/

theorem frame_AdaBwd : Cert.quiescent_AdaBwd := fun m ρ _ => Cert.AdaBwd.Gen.frame m ρ

theorem frame_AdaBwdIdeal : Cert.quiescent_AdaBwdIdeal := fun m ρ _ => Cert.AdaBwdIdeal.Gen.frame m ρ

theorem frame_AdaBwdReferenceIdeal : Cert.quiescent_AdaBwdReferenceIdeal := fun m ρ _ =>
  (θ_run Cert.AdaBwdReferenceIdeal.defs _ _).mono (fun r h => ⟨fun c => (h c).2.2.2.2, sem_eq_zero_of_no_sems (by decide) r.2⟩)
    (Cert.AdaBwdReferenceIdeal.Value.run (F := Ideal) m ρ)

/-! ### The gradient of the convolution and the normalisation -/

theorem frame_ConvBwd : Cert.quiescent_ConvBwd := fun m ρ _ => Cert.ConvBwd.Gen.frame m ρ

theorem frame_ConvBwdIdeal : Cert.quiescent_ConvBwdIdeal := fun m ρ _ => Cert.ConvBwdIdeal.Gen.frame m ρ

theorem frame_ConvBwdReferenceIdeal : Cert.quiescent_ConvBwdReferenceIdeal := fun m ρ _ =>
  (θ_run Cert.ConvBwdReferenceIdeal.defs _ _).mono (fun r h => ⟨fun c => (h c).2.2, sem_eq_zero_of_no_sems (by decide) r.2⟩)
    (Cert.ConvBwdReferenceIdeal.Value.run (F := Ideal) m ρ)

/-- Every claim of the statement. -/
theorem claim : Cert.Claim :=
  ⟨Cert.Kernel.Gen.facts, Cert.KernelIdeal.Gen.facts, Cert.ReferenceIdeal.Gen.facts, Cert.WInGrad.Gen.facts, Cert.WInGradIdeal.Gen.facts, Cert.WInGradReferenceIdeal.Gen.facts, Cert.InBwd.Gen.facts, Cert.InBwdIdeal.Gen.facts, Cert.InBwdReferenceIdeal.Gen.facts, Cert.WOutGrad.Gen.facts, Cert.WOutGradIdeal.Gen.facts, Cert.WOutGradReferenceIdeal.Gen.facts, Cert.OutBwd.Gen.facts, Cert.OutBwdIdeal.Gen.facts, Cert.OutBwdReferenceIdeal.Gen.facts, Cert.NormBwd.Gen.facts, Cert.NormBwdIdeal.Gen.facts, Cert.NormBwdReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.LossHead.Gen.facts, Cert.LossHeadIdeal.Gen.facts, Cert.LossHeadReferenceIdeal.Gen.facts, Cert.AdamSmall.Gen.facts, Cert.AdamSmallIdeal.Gen.facts, Cert.AdamSmallReferenceIdeal.Gen.facts, Cert.AdamIn.Gen.facts, Cert.AdamInIdeal.Gen.facts, Cert.AdamInReferenceIdeal.Gen.facts, Cert.AdamOut.Gen.facts, Cert.AdamOutIdeal.Gen.facts, Cert.AdamOutReferenceIdeal.Gen.facts, Cert.SumDevices.Gen.facts, Cert.SumDevicesIdeal.Gen.facts, Cert.SumDevicesReferenceIdeal.Gen.facts, Cert.AdaBwd.Gen.facts, Cert.AdaBwdIdeal.Gen.facts, Cert.AdaBwdReferenceIdeal.Gen.facts, Cert.ConvBwd.Gen.facts, Cert.ConvBwdIdeal.Gen.facts, Cert.ConvBwdReferenceIdeal.Gen.facts,
    frame_Kernel,
    frame_KernelIdeal,
    frame_ReferenceIdeal,
    frame_WInGrad,
    frame_WInGradIdeal,
    frame_WInGradReferenceIdeal,
    frame_InBwd,
    frame_InBwdIdeal,
    frame_InBwdReferenceIdeal,
    frame_WOutGrad,
    frame_WOutGradIdeal,
    frame_WOutGradReferenceIdeal,
    frame_OutBwd,
    frame_OutBwdIdeal,
    frame_OutBwdReferenceIdeal,
    frame_NormBwd,
    frame_NormBwdIdeal,
    frame_NormBwdReferenceIdeal,
    frame_InProj,
    frame_InProjIdeal,
    frame_InProjReferenceIdeal,
    frame_OutProj,
    frame_OutProjIdeal,
    frame_OutProjReferenceIdeal,
    frame_LossHead,
    frame_LossHeadIdeal,
    frame_LossHeadReferenceIdeal,
    frame_AdamSmall,
    frame_AdamSmallIdeal,
    frame_AdamSmallReferenceIdeal,
    frame_AdamIn,
    frame_AdamInIdeal,
    frame_AdamInReferenceIdeal,
    frame_AdamOut,
    frame_AdamOutIdeal,
    frame_AdamOutReferenceIdeal,
    frame_SumDevices,
    frame_SumDevicesIdeal,
    frame_SumDevicesReferenceIdeal,
    frame_AdaBwd,
    frame_AdaBwdIdeal,
    frame_AdaBwdReferenceIdeal,
    frame_ConvBwd,
    frame_ConvBwdIdeal,
    frame_ConvBwdReferenceIdeal,
    trivial,
    algebraic_sg_bwd,
    trivial,
    algebraic_w_in_grad,
    trivial,
    algebraic_in_proj_bwd,
    trivial,
    algebraic_w_out_grad,
    trivial,
    algebraic_out_proj_bwd,
    trivial,
    algebraic_modnorm_bwd,
    trivial,
    algebraic_in_proj,
    trivial,
    algebraic_out_proj,
    trivial,
    algebraic_loss_head,
    trivial,
    algebraic_adamw_small,
    trivial,
    algebraic_adamw_w_in,
    trivial,
    algebraic_adamw_w_out,
    trivial,
    algebraic_sum8,
    trivial,
    algebraic_ada_bwd,
    trivial,
    algebraic_dn_pre_bwd⟩

end Cert.Proof

end
